-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Stream (m : (ℓ : Loc Cert.Stream.nD Cert.Stream.τ Cert.Stream.sig) → Buf (Elt Bits) ℓ) : Prop :=
  True

def Pre_StreamIdeal (m : (ℓ : Loc Cert.StreamIdeal.nD Cert.StreamIdeal.τ Cert.StreamIdeal.sig) → Buf (Elt Ideal) ℓ) : Prop :=
  True

def Pre_StreamRefIdeal (m : (ℓ : Loc Cert.StreamRefIdeal.nD Cert.StreamRefIdeal.τ Cert.StreamRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def quiescent_Stream [hStream : Cert.Stream.Facts] : Prop :=
  ∀ (m : (ℓ : Loc Cert.Stream.nD Cert.Stream.τ Cert.Stream.sig) → Buf (Elt Bits) ℓ) (g : Dev Cert.Stream.nD → PrngReg), Pre_Stream m →
    θ_run (Cert.Stream.defs (F := Bits)) (onTc (τ := Cert.Stream.τ) (Cert.Stream.main (F := Bits))) ⟨m, fun _ => 0, g⟩ (fun r => (∀ c : Dev Cert.Stream.nD,
      r.2.mem ((c.tc : Thread Cert.Stream.nD Cert.Stream.τ).loc Cert.Stream.main_arg0) = m ((c.tc : Thread Cert.Stream.nD Cert.Stream.τ).loc Cert.Stream.main_arg0)
      ∧ r.2.mem ((c.tc : Thread Cert.Stream.nD Cert.Stream.τ).loc Cert.Stream.main_arg1) = m ((c.tc : Thread Cert.Stream.nD Cert.Stream.τ).loc Cert.Stream.main_arg1)
      ∧ r.2.mem ((c.tc : Thread Cert.Stream.nD Cert.Stream.τ).loc Cert.Stream.main_arg2) = m ((c.tc : Thread Cert.Stream.nD Cert.Stream.τ).loc Cert.Stream.main_arg2)
      ∧ r.2.mem ((c.tc : Thread Cert.Stream.nD Cert.Stream.τ).loc Cert.Stream.main_arg3) = m ((c.tc : Thread Cert.Stream.nD Cert.Stream.τ).loc Cert.Stream.main_arg3)
      ∧ r.2.mem ((c.tc : Thread Cert.Stream.nD Cert.Stream.τ).loc Cert.Stream.main_arg4) = m ((c.tc : Thread Cert.Stream.nD Cert.Stream.τ).loc Cert.Stream.main_arg4)
      ∧ r.2.mem ((c.tc : Thread Cert.Stream.nD Cert.Stream.τ).loc Cert.Stream.main_arg5) = m ((c.tc : Thread Cert.Stream.nD Cert.Stream.τ).loc Cert.Stream.main_arg5)
      ∧ r.2.mem ((c.tc : Thread Cert.Stream.nD Cert.Stream.τ).loc Cert.Stream.main_arg6) = m ((c.tc : Thread Cert.Stream.nD Cert.Stream.τ).loc Cert.Stream.main_arg6)
      ∧ r.2.mem ((c.tc : Thread Cert.Stream.nD Cert.Stream.τ).loc Cert.Stream.main_arg7) = m ((c.tc : Thread Cert.Stream.nD Cert.Stream.τ).loc Cert.Stream.main_arg7))
      ∧ r.2.sem = fun _ => 0)

def quiescent_StreamIdeal [hStreamIdeal : Cert.StreamIdeal.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
      ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
      ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
      ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ r.2.sem = fun _ => 0)

def quiescent_StreamRefIdeal [hStreamRefIdeal : Cert.StreamRefIdeal.Facts] : Prop :=
  ∀ (m : (ℓ : Loc Cert.StreamRefIdeal.nD Cert.StreamRefIdeal.τ Cert.StreamRefIdeal.sig) → Buf (Elt Ideal) ℓ) (g : Dev Cert.StreamRefIdeal.nD → PrngReg), Pre_StreamRefIdeal m →
    θ_run (Cert.StreamRefIdeal.defs (F := Ideal)) (onTc (τ := Cert.StreamRefIdeal.τ) (Cert.StreamRefIdeal.main (F := Ideal))) ⟨m, fun _ => 0, g⟩ (fun r => (∀ c : Dev Cert.StreamRefIdeal.nD,
      r.2.mem ((c.tc : Thread Cert.StreamRefIdeal.nD Cert.StreamRefIdeal.τ).loc Cert.StreamRefIdeal.main_arg0) = m ((c.tc : Thread Cert.StreamRefIdeal.nD Cert.StreamRefIdeal.τ).loc Cert.StreamRefIdeal.main_arg0)
      ∧ r.2.mem ((c.tc : Thread Cert.StreamRefIdeal.nD Cert.StreamRefIdeal.τ).loc Cert.StreamRefIdeal.main_arg1) = m ((c.tc : Thread Cert.StreamRefIdeal.nD Cert.StreamRefIdeal.τ).loc Cert.StreamRefIdeal.main_arg1)
      ∧ r.2.mem ((c.tc : Thread Cert.StreamRefIdeal.nD Cert.StreamRefIdeal.τ).loc Cert.StreamRefIdeal.main_arg2) = m ((c.tc : Thread Cert.StreamRefIdeal.nD Cert.StreamRefIdeal.τ).loc Cert.StreamRefIdeal.main_arg2)
      ∧ r.2.mem ((c.tc : Thread Cert.StreamRefIdeal.nD Cert.StreamRefIdeal.τ).loc Cert.StreamRefIdeal.main_arg3) = m ((c.tc : Thread Cert.StreamRefIdeal.nD Cert.StreamRefIdeal.τ).loc Cert.StreamRefIdeal.main_arg3)
      ∧ r.2.mem ((c.tc : Thread Cert.StreamRefIdeal.nD Cert.StreamRefIdeal.τ).loc Cert.StreamRefIdeal.main_arg4) = m ((c.tc : Thread Cert.StreamRefIdeal.nD Cert.StreamRefIdeal.τ).loc Cert.StreamRefIdeal.main_arg4)
      ∧ r.2.mem ((c.tc : Thread Cert.StreamRefIdeal.nD Cert.StreamRefIdeal.τ).loc Cert.StreamRefIdeal.main_arg5) = m ((c.tc : Thread Cert.StreamRefIdeal.nD Cert.StreamRefIdeal.τ).loc Cert.StreamRefIdeal.main_arg5)
      ∧ r.2.mem ((c.tc : Thread Cert.StreamRefIdeal.nD Cert.StreamRefIdeal.τ).loc Cert.StreamRefIdeal.main_arg6) = m ((c.tc : Thread Cert.StreamRefIdeal.nD Cert.StreamRefIdeal.τ).loc Cert.StreamRefIdeal.main_arg6)
      ∧ r.2.mem ((c.tc : Thread Cert.StreamRefIdeal.nD Cert.StreamRefIdeal.τ).loc Cert.StreamRefIdeal.main_arg7) = m ((c.tc : Thread Cert.StreamRefIdeal.nD Cert.StreamRefIdeal.τ).loc Cert.StreamRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_v68) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)) (v3 : (c : Dev Cert.QkvIdeal.nD) → Buf (Elt Ideal) ((c.tc : Thread Cert.QkvIdeal.nD Cert.QkvIdeal.τ).loc Cert.QkvIdeal.main_v1_3)) (v4 : (c : Dev Cert.QkvIdeal.nD) → Buf (Elt Ideal) ((c.tc : Thread Cert.QkvIdeal.nD Cert.QkvIdeal.τ).loc Cert.QkvIdeal.main_v1_4)) (v5 : (c : Dev Cert.QkvIdeal.nD) → Buf (Elt Ideal) ((c.tc : Thread Cert.QkvIdeal.nD Cert.QkvIdeal.τ).loc Cert.QkvIdeal.main_v1_5)) (v6 : (c : Dev Cert.QkvIdeal.nD) → Buf (Elt Ideal) ((c.tc : Thread Cert.QkvIdeal.nD Cert.QkvIdeal.τ).loc Cert.QkvIdeal.main_v1_6)) (v7 : (c : Dev Cert.QkvIdeal.nD) → Buf (Elt Ideal) ((c.tc : Thread Cert.QkvIdeal.nD Cert.QkvIdeal.τ).loc Cert.QkvIdeal.main_v1_7)) (v8 : (c : Dev Cert.QkvIdeal.nD) → Buf (Elt Ideal) ((c.tc : Thread Cert.QkvIdeal.nD Cert.QkvIdeal.τ).loc Cert.QkvIdeal.main_v1_8)) (v9 : (c : Dev Cert.QkvIdeal.nD) → Buf (Elt Ideal) ((c.tc : Thread Cert.QkvIdeal.nD Cert.QkvIdeal.τ).loc Cert.QkvIdeal.main_v1_9)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_v1_3) = v3 c
          ∧ r.2.mem ((c.tc : Thread Cert.QkvIdeal.nD Cert.QkvIdeal.τ).loc Cert.QkvIdeal.main_v1_4) = v4 c
          ∧ r.2.mem ((c.tc : Thread Cert.QkvIdeal.nD Cert.QkvIdeal.τ).loc Cert.QkvIdeal.main_v1_5) = v5 c
          ∧ r.2.mem ((c.tc : Thread Cert.QkvIdeal.nD Cert.QkvIdeal.τ).loc Cert.QkvIdeal.main_v1_6) = v6 c
          ∧ r.2.mem ((c.tc : Thread Cert.QkvIdeal.nD Cert.QkvIdeal.τ).loc Cert.QkvIdeal.main_v1_7) = v7 c
          ∧ r.2.mem ((c.tc : Thread Cert.QkvIdeal.nD Cert.QkvIdeal.τ).loc Cert.QkvIdeal.main_v1_8) = v8 c
          ∧ r.2.mem ((c.tc : Thread Cert.QkvIdeal.nD Cert.QkvIdeal.τ).loc Cert.QkvIdeal.main_v1_9) = v9 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v40) = v0 c
          ∧ r.2.mem ((c.tc : Thread Cert.QkvRefIdeal.nD Cert.QkvRefIdeal.τ).loc Cert.QkvRefIdeal.main_v41) = v1 c
          ∧ r.2.mem ((c.tc : Thread Cert.QkvRefIdeal.nD Cert.QkvRefIdeal.τ).loc Cert.QkvRefIdeal.main_v42) = v2 c
          ∧ r.2.mem ((c.tc : Thread Cert.QkvRefIdeal.nD Cert.QkvRefIdeal.τ).loc Cert.QkvRefIdeal.main_v35) = v3 c
          ∧ r.2.mem ((c.tc : Thread Cert.QkvRefIdeal.nD Cert.QkvRefIdeal.τ).loc Cert.QkvRefIdeal.main_v37) = v4 c
          ∧ r.2.mem ((c.tc : Thread Cert.QkvRefIdeal.nD Cert.QkvRefIdeal.τ).loc Cert.QkvRefIdeal.main_v45) = v5 c
          ∧ r.2.mem ((c.tc : Thread Cert.QkvRefIdeal.nD Cert.QkvRefIdeal.τ).loc Cert.QkvRefIdeal.main_v46) = v6 c
          ∧ r.2.mem ((c.tc : Thread Cert.QkvRefIdeal.nD Cert.QkvRefIdeal.τ).loc Cert.QkvRefIdeal.main_v47) = v7 c
          ∧ r.2.mem ((c.tc : Thread Cert.QkvRefIdeal.nD Cert.QkvRefIdeal.τ).loc Cert.QkvRefIdeal.main_v32) = v8 c
          ∧ r.2.mem ((c.tc : Thread Cert.QkvRefIdeal.nD Cert.QkvRefIdeal.τ).loc Cert.QkvRefIdeal.main_v33) = v9 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)
      ∧ m' ((c.tc : Thread Cert.GmlpRefIdeal.nD Cert.GmlpRefIdeal.τ).loc Cert.GmlpRefIdeal.main_arg7) = m ((c.tc : Thread Cert.GmlpIdeal.nD Cert.GmlpIdeal.τ).loc Cert.GmlpIdeal.main_arg7)) →
    ∃ (v0 : (c : Dev Cert.GmlpIdeal.nD) → Buf (Elt Ideal) ((c.tc : Thread Cert.GmlpIdeal.nD Cert.GmlpIdeal.τ).loc Cert.GmlpIdeal.main_v26_0)) (v1 : (c : Dev Cert.GmlpIdeal.nD) → Buf (Elt Ideal) ((c.tc : Thread Cert.GmlpIdeal.nD Cert.GmlpIdeal.τ).loc Cert.GmlpIdeal.main_v26_1)) (v2 : (c : Dev Cert.GmlpIdeal.nD) → Buf (Elt Ideal) ((c.tc : Thread Cert.GmlpIdeal.nD Cert.GmlpIdeal.τ).loc Cert.GmlpIdeal.main_v26_2)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v26_0) = v0 c
          ∧ r.2.mem ((c.tc : Thread Cert.GmlpIdeal.nD Cert.GmlpIdeal.τ).loc Cert.GmlpIdeal.main_v26_1) = v1 c
          ∧ r.2.mem ((c.tc : Thread Cert.GmlpIdeal.nD Cert.GmlpIdeal.τ).loc Cert.GmlpIdeal.main_v26_2) = v2 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v55) = v0 c
          ∧ r.2.mem ((c.tc : Thread Cert.GmlpRefIdeal.nD Cert.GmlpRefIdeal.τ).loc Cert.GmlpRefIdeal.main_v104) = v1 c
          ∧ r.2.mem ((c.tc : Thread Cert.GmlpRefIdeal.nD Cert.GmlpRefIdeal.τ).loc Cert.GmlpRefIdeal.main_v93) = v2 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7))

def preserves_Stream_StreamIdeal : Prop :=
  True

def algebraic_StreamIdeal_StreamRefIdeal [hStreamIdeal : Cert.StreamIdeal.Facts] [hStreamRefIdeal : Cert.StreamRefIdeal.Facts] : Prop :=
  ∀ (m : (ℓ : Loc Cert.StreamIdeal.nD Cert.StreamIdeal.τ Cert.StreamIdeal.sig) → Buf (Elt Ideal) ℓ) (g : Dev Cert.StreamIdeal.nD → PrngReg)
    (m' : (ℓ : Loc Cert.StreamRefIdeal.nD Cert.StreamRefIdeal.τ Cert.StreamRefIdeal.sig) → Buf (Elt Ideal) ℓ) (g' : Dev Cert.StreamRefIdeal.nD → PrngReg), Pre_StreamIdeal m →
    (∀ c : Dev Cert.StreamIdeal.nD,
      m' ((c.tc : Thread Cert.StreamRefIdeal.nD Cert.StreamRefIdeal.τ).loc Cert.StreamRefIdeal.main_arg0) = m ((c.tc : Thread Cert.StreamIdeal.nD Cert.StreamIdeal.τ).loc Cert.StreamIdeal.main_arg0)
      ∧ m' ((c.tc : Thread Cert.StreamRefIdeal.nD Cert.StreamRefIdeal.τ).loc Cert.StreamRefIdeal.main_arg1) = m ((c.tc : Thread Cert.StreamIdeal.nD Cert.StreamIdeal.τ).loc Cert.StreamIdeal.main_arg1)
      ∧ m' ((c.tc : Thread Cert.StreamRefIdeal.nD Cert.StreamRefIdeal.τ).loc Cert.StreamRefIdeal.main_arg2) = m ((c.tc : Thread Cert.StreamIdeal.nD Cert.StreamIdeal.τ).loc Cert.StreamIdeal.main_arg2)
      ∧ m' ((c.tc : Thread Cert.StreamRefIdeal.nD Cert.StreamRefIdeal.τ).loc Cert.StreamRefIdeal.main_arg3) = m ((c.tc : Thread Cert.StreamIdeal.nD Cert.StreamIdeal.τ).loc Cert.StreamIdeal.main_arg3)
      ∧ m' ((c.tc : Thread Cert.StreamRefIdeal.nD Cert.StreamRefIdeal.τ).loc Cert.StreamRefIdeal.main_arg4) = m ((c.tc : Thread Cert.StreamIdeal.nD Cert.StreamIdeal.τ).loc Cert.StreamIdeal.main_arg4)
      ∧ m' ((c.tc : Thread Cert.StreamRefIdeal.nD Cert.StreamRefIdeal.τ).loc Cert.StreamRefIdeal.main_arg5) = m ((c.tc : Thread Cert.StreamIdeal.nD Cert.StreamIdeal.τ).loc Cert.StreamIdeal.main_arg5)
      ∧ m' ((c.tc : Thread Cert.StreamRefIdeal.nD Cert.StreamRefIdeal.τ).loc Cert.StreamRefIdeal.main_arg6) = m ((c.tc : Thread Cert.StreamIdeal.nD Cert.StreamIdeal.τ).loc Cert.StreamIdeal.main_arg6)
      ∧ m' ((c.tc : Thread Cert.StreamRefIdeal.nD Cert.StreamRefIdeal.τ).loc Cert.StreamRefIdeal.main_arg7) = m ((c.tc : Thread Cert.StreamIdeal.nD Cert.StreamIdeal.τ).loc Cert.StreamIdeal.main_arg7)) →
    ∃ (v0 : (c : Dev Cert.StreamIdeal.nD) → Buf (Elt Ideal) ((c.tc : Thread Cert.StreamIdeal.nD Cert.StreamIdeal.τ).loc Cert.StreamIdeal.main_v4_0)) (v1 : (c : Dev Cert.StreamIdeal.nD) → Buf (Elt Ideal) ((c.tc : Thread Cert.StreamIdeal.nD Cert.StreamIdeal.τ).loc Cert.StreamIdeal.main_v4_1)) (v2 : (c : Dev Cert.StreamIdeal.nD) → Buf (Elt Ideal) ((c.tc : Thread Cert.StreamIdeal.nD Cert.StreamIdeal.τ).loc Cert.StreamIdeal.main_v4_2)) (v3 : (c : Dev Cert.StreamIdeal.nD) → Buf (Elt Ideal) ((c.tc : Thread Cert.StreamIdeal.nD Cert.StreamIdeal.τ).loc Cert.StreamIdeal.main_v4_3)) (v4 : (c : Dev Cert.StreamIdeal.nD) → Buf (Elt Ideal) ((c.tc : Thread Cert.StreamIdeal.nD Cert.StreamIdeal.τ).loc Cert.StreamIdeal.main_v4_4)) (v5 : (c : Dev Cert.StreamIdeal.nD) → Buf (Elt Ideal) ((c.tc : Thread Cert.StreamIdeal.nD Cert.StreamIdeal.τ).loc Cert.StreamIdeal.main_v4_5)),
      θ_run (Cert.StreamIdeal.defs (F := Ideal)) (onTc (τ := Cert.StreamIdeal.τ) (Cert.StreamIdeal.main (F := Ideal))) ⟨m, fun _ => 0, g⟩ (fun r => ∀ c : Dev Cert.StreamIdeal.nD,
          r.2.mem ((c.tc : Thread Cert.StreamIdeal.nD Cert.StreamIdeal.τ).loc Cert.StreamIdeal.main_v4_0) = v0 c
          ∧ r.2.mem ((c.tc : Thread Cert.StreamIdeal.nD Cert.StreamIdeal.τ).loc Cert.StreamIdeal.main_v4_1) = v1 c
          ∧ r.2.mem ((c.tc : Thread Cert.StreamIdeal.nD Cert.StreamIdeal.τ).loc Cert.StreamIdeal.main_v4_2) = v2 c
          ∧ r.2.mem ((c.tc : Thread Cert.StreamIdeal.nD Cert.StreamIdeal.τ).loc Cert.StreamIdeal.main_v4_3) = v3 c
          ∧ r.2.mem ((c.tc : Thread Cert.StreamIdeal.nD Cert.StreamIdeal.τ).loc Cert.StreamIdeal.main_v4_4) = v4 c
          ∧ r.2.mem ((c.tc : Thread Cert.StreamIdeal.nD Cert.StreamIdeal.τ).loc Cert.StreamIdeal.main_v4_5) = v5 c
          ∧ r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
          ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
          ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
          ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
          ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
          ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
          ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
          ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ θ_run (Cert.StreamRefIdeal.defs (F := Ideal)) (onTc (τ := Cert.StreamRefIdeal.τ) (Cert.StreamRefIdeal.main (F := Ideal))) ⟨m', fun _ => 0, g'⟩ (fun r => ∀ c : Dev Cert.StreamRefIdeal.nD,
          r.2.mem ((c.tc : Thread Cert.StreamRefIdeal.nD Cert.StreamRefIdeal.τ).loc Cert.StreamRefIdeal.main_v67) = v0 c
          ∧ r.2.mem ((c.tc : Thread Cert.StreamRefIdeal.nD Cert.StreamRefIdeal.τ).loc Cert.StreamRefIdeal.main_v52) = v1 c
          ∧ r.2.mem ((c.tc : Thread Cert.StreamRefIdeal.nD Cert.StreamRefIdeal.τ).loc Cert.StreamRefIdeal.main_v53) = v2 c
          ∧ r.2.mem ((c.tc : Thread Cert.StreamRefIdeal.nD Cert.StreamRefIdeal.τ).loc Cert.StreamRefIdeal.main_v71) = v3 c
          ∧ r.2.mem ((c.tc : Thread Cert.StreamRefIdeal.nD Cert.StreamRefIdeal.τ).loc Cert.StreamRefIdeal.main_v75) = v4 c
          ∧ r.2.mem ((c.tc : Thread Cert.StreamRefIdeal.nD Cert.StreamRefIdeal.τ).loc Cert.StreamRefIdeal.main_v78) = v5 c
          ∧ r.2.mem ((c.tc : Thread Cert.StreamRefIdeal.nD Cert.StreamRefIdeal.τ).loc Cert.StreamRefIdeal.main_arg0) = m' ((c.tc : Thread Cert.StreamRefIdeal.nD Cert.StreamRefIdeal.τ).loc Cert.StreamRefIdeal.main_arg0)
          ∧ r.2.mem ((c.tc : Thread Cert.StreamRefIdeal.nD Cert.StreamRefIdeal.τ).loc Cert.StreamRefIdeal.main_arg1) = m' ((c.tc : Thread Cert.StreamRefIdeal.nD Cert.StreamRefIdeal.τ).loc Cert.StreamRefIdeal.main_arg1)
          ∧ r.2.mem ((c.tc : Thread Cert.StreamRefIdeal.nD Cert.StreamRefIdeal.τ).loc Cert.StreamRefIdeal.main_arg2) = m' ((c.tc : Thread Cert.StreamRefIdeal.nD Cert.StreamRefIdeal.τ).loc Cert.StreamRefIdeal.main_arg2)
          ∧ r.2.mem ((c.tc : Thread Cert.StreamRefIdeal.nD Cert.StreamRefIdeal.τ).loc Cert.StreamRefIdeal.main_arg3) = m' ((c.tc : Thread Cert.StreamRefIdeal.nD Cert.StreamRefIdeal.τ).loc Cert.StreamRefIdeal.main_arg3)
          ∧ r.2.mem ((c.tc : Thread Cert.StreamRefIdeal.nD Cert.StreamRefIdeal.τ).loc Cert.StreamRefIdeal.main_arg4) = m' ((c.tc : Thread Cert.StreamRefIdeal.nD Cert.StreamRefIdeal.τ).loc Cert.StreamRefIdeal.main_arg4)
          ∧ r.2.mem ((c.tc : Thread Cert.StreamRefIdeal.nD Cert.StreamRefIdeal.τ).loc Cert.StreamRefIdeal.main_arg5) = m' ((c.tc : Thread Cert.StreamRefIdeal.nD Cert.StreamRefIdeal.τ).loc Cert.StreamRefIdeal.main_arg5)
          ∧ r.2.mem ((c.tc : Thread Cert.StreamRefIdeal.nD Cert.StreamRefIdeal.τ).loc Cert.StreamRefIdeal.main_arg6) = m' ((c.tc : Thread Cert.StreamRefIdeal.nD Cert.StreamRefIdeal.τ).loc Cert.StreamRefIdeal.main_arg6)
          ∧ r.2.mem ((c.tc : Thread Cert.StreamRefIdeal.nD Cert.StreamRefIdeal.τ).loc Cert.StreamRefIdeal.main_arg7) = m' ((c.tc : Thread Cert.StreamRefIdeal.nD Cert.StreamRefIdeal.τ).loc Cert.StreamRefIdeal.main_arg7))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hGmlp : Cert.Gmlp.Facts) (hGmlpIdeal : Cert.GmlpIdeal.Facts) (hGmlpRefIdeal : Cert.GmlpRefIdeal.Facts) (hStream : Cert.Stream.Facts) (hStreamIdeal : Cert.StreamIdeal.Facts) (hStreamRefIdeal : Cert.StreamRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Stream (hStream := hStream)
    ∧ quiescent_StreamIdeal (hStreamIdeal := hStreamIdeal)
    ∧ quiescent_StreamRefIdeal (hStreamRefIdeal := hStreamRefIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Gmlp_GmlpIdeal
    ∧ algebraic_GmlpIdeal_GmlpRefIdeal (hGmlpIdeal := hGmlpIdeal) (hGmlpRefIdeal := hGmlpRefIdeal)
    ∧ preserves_Stream_StreamIdeal
    ∧ algebraic_StreamIdeal_StreamRefIdeal (hStreamIdeal := hStreamIdeal) (hStreamRefIdeal := hStreamRefIdeal)
-- ==== Ffn.lean ====
abbrev S2x8192x1024 : Shape := ⟨3, ![2, 8192, 1024]⟩
abbrev S1024 : Shape := ⟨1, ![1024]⟩
abbrev S11x1024x256 : Shape := ⟨3, ![11, 1024, 256]⟩
abbrev S2x3x5632 : Shape := ⟨3, ![2, 3, 5632]⟩
abbrev S2x5632 : Shape := ⟨2, ![2, 5632]⟩
abbrev S2816x1024 : Shape := ⟨2, ![2816, 1024]⟩
abbrev S2x1x5632 : Shape := ⟨3, ![2, 1, 5632]⟩
abbrev S1x1024 : Shape := ⟨2, ![1, 1024]⟩
abbrev S2x8x5632 : Shape := ⟨3, ![2, 8, 5632]⟩
abbrev S1x512x1024 : Shape := ⟨3, ![1, 512, 1024]⟩
abbrev S1x3x5632 : Shape := ⟨3, ![1, 3, 5632]⟩
abbrev S1x1x5632 : Shape := ⟨3, ![1, 1, 5632]⟩
abbrev S1x8x5632 : Shape := ⟨3, ![1, 8, 5632]⟩
abbrev S512x1024 : Shape := ⟨2, ![512, 1024]⟩
abbrev S4x520x256 : Shape := ⟨3, ![4, 520, 256]⟩
abbrev S512x2816 : Shape := ⟨2, ![512, 2816]⟩
abbrev S8x5632 : Shape := ⟨2, ![8, 5632]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S1x520x256 : Shape := ⟨3, ![1, 520, 256]⟩
abbrev S520x256 : Shape := ⟨2, ![520, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S11x1024x256, .bf16⟩
  | .hbm, ⟨3, _⟩ => ⟨S11x1024x256, .bf16⟩
  | .hbm, ⟨4, _⟩ => ⟨S2x3x5632, .f32⟩
  | .hbm, ⟨5, _⟩ => ⟨S2x5632, .f32⟩
  | .hbm, ⟨6, _⟩ => ⟨S2816x1024, .bf16⟩
  | .hbm, ⟨7, _⟩ => ⟨S1024, .f32⟩
  | .hbm, ⟨8, _⟩ => ⟨S2x1x5632, .f32⟩
  | .hbm, ⟨9, _⟩ => ⟨S1x1024, .f32⟩
  | .hbm, ⟨10, _⟩ => ⟨S1x1024, .f32⟩
  | .hbm, ⟨11, _⟩ => ⟨S2x8192x1024, .f32⟩
  | .hbm, ⟨12, _⟩ => ⟨S2x8x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S1x3x5632, .f32⟩
  | .local _ .vmem, ⟨6, _⟩ => ⟨S1x1x5632, .f32⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x8x5632, .f32⟩
  | .local _ .vmem, ⟨12, _⟩ => ⟨S1x8x5632, .f32⟩
  | .local _ .vmem, ⟨13, _⟩ => ⟨S512x1024, .bf16⟩
  | .local _ .vmem, ⟨14, _⟩ => ⟨S4x520x256, .f32⟩
  | .local _ .vmem, ⟨15, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S2x8192x1024 : Shape := ⟨3, ![2, 8192, 1024]⟩
abbrev S1024 : Shape := ⟨1, ![1024]⟩
abbrev S11x1024x256 : Shape := ⟨3, ![11, 1024, 256]⟩
abbrev S2x3x5632 : Shape := ⟨3, ![2, 3, 5632]⟩
abbrev S2x5632 : Shape := ⟨2, ![2, 5632]⟩
abbrev S2816x1024 : Shape := ⟨2, ![2816, 1024]⟩
abbrev S1024x11x256 : Shape := ⟨3, ![1024, 11, 256]⟩
abbrev S1024x2816 : Shape := ⟨2, ![1024, 2816]⟩
abbrev S1024x5632 : Shape := ⟨2, ![1024, 5632]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S5632 : Shape := ⟨1, ![5632]⟩
abbrev S1x1x5632 : Shape := ⟨3, ![1, 1, 5632]⟩
abbrev S2x8192x2816 : Shape := ⟨3, ![2, 8192, 2816]⟩
abbrev S2x8x5632 : Shape := ⟨3, ![2, 8, 5632]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S11x1024x256, .bf16⟩
  | .hbm, ⟨3, _⟩ => ⟨S11x1024x256, .bf16⟩
  | .hbm, ⟨4, _⟩ => ⟨S2x3x5632, .f32⟩
  | .hbm, ⟨5, _⟩ => ⟨S2x5632, .f32⟩
  | .hbm, ⟨6, _⟩ => ⟨S2816x1024, .bf16⟩
  | .hbm, ⟨7, _⟩ => ⟨S1024, .f32⟩
  | .hbm, ⟨8, _⟩ => ⟨S11x1024x256, .f32⟩
  | .hbm, ⟨9, _⟩ => ⟨S1024x11x256, .f32⟩
  | .hbm, ⟨10, _⟩ => ⟨S1024x2816, .f32⟩
  | .hbm, ⟨11, _⟩ => ⟨S11x1024x256, .f32⟩
  | .hbm, ⟨12, _⟩ => ⟨S1024x11x256, .f32⟩
  | .hbm, ⟨13, _⟩ => ⟨S1024x2816, .f32⟩
  | .hbm, ⟨14, _⟩ => ⟨S1024x5632, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x8192x5632, .f32⟩
  | .hbm, ⟨32, _⟩ => ⟨S_, .f32⟩
  | .hbm, ⟨33, _⟩ => ⟨S2x2x5632, .f32⟩
  | .hbm, ⟨34, _⟩ => ⟨S2x8194x5632, .f32⟩
  | .hbm, ⟨35, _⟩ => ⟨S1x5632, .f32⟩
  | .hbm, ⟨36, _⟩ => ⟨S5632, .f32⟩
  | .hbm, ⟨37, _⟩ => ⟨S2x8192x5632, .f32⟩
  | .hbm, ⟨38, _⟩ => ⟨S1x1x5632, .f32⟩
  | .hbm, ⟨39, _⟩ => ⟨S5632, .f32⟩
  | .hbm, ⟨40, _⟩ => ⟨S1x1x5632, .f32⟩
  | .hbm, ⟨41, _⟩ => ⟨S2x8192x5632, .f32⟩
  | .hbm, ⟨42, _⟩ => ⟨S2x8192x5632, .f32⟩
  | .hbm, ⟨43, _⟩ => ⟨S1x1x5632, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S1x1x5632, .f32⟩
  | .hbm, ⟨48, _⟩ => ⟨S5632, .f32⟩
  | .hbm, ⟨49, _⟩ => ⟨S1x1x5632, .f32⟩
  | .hbm, ⟨50, _⟩ => ⟨S2x8192x5632, .f32⟩
  | .hbm, ⟨51, _⟩ => ⟨S2x8192x5632, .f32⟩
  | .hbm, ⟨52, _⟩ => ⟨S2x8192x5632, .f32⟩
  | .hbm, ⟨53, _⟩ => ⟨S2x8192x5632, .f32⟩
  | .hbm, ⟨54, _⟩ => ⟨S1x1x5632, .f32⟩
  | .hbm, ⟨55, _⟩ => ⟨S5632, .f32⟩
  | .hbm, ⟨56, _⟩ => ⟨S1x1x5632, .f32⟩
  | .hbm, ⟨57, _⟩ => ⟨S2x8192x5632, .f32⟩
  | .hbm, ⟨58, _⟩ => ⟨S2x8192x5632, .f32⟩
  | .hbm, ⟨59, _⟩ => ⟨S2x8192x5632, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S_, .f32⟩
  | .hbm, ⟨65, _⟩ => ⟨S2x8192x2816, .f32⟩
  | .hbm, ⟨66, _⟩ => ⟨S2x8192x2816, .f32⟩
  | .hbm, ⟨67, _⟩ => ⟨S_, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S2x8192x2816, .f32⟩
  | .hbm, ⟨72, _⟩ => ⟨S2816x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S1x1x1024, .f32⟩
  | .hbm, ⟨89, _⟩ => ⟨S2x8192x1024, .f32⟩
  | .hbm, ⟨90, _⟩ => ⟨S2x8192x1024, .f32⟩
  | .hbm, ⟨91, _⟩ => ⟨S2x8x5632, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Qkv.lean ====
abbrev S2x8192x1024 : Shape := ⟨3, ![2, 8192, 1024]⟩
abbrev S256x1024 : Shape := ⟨2, ![256, 1024]⟩
abbrev S1024 : Shape := ⟨1, ![1024]⟩
abbrev S1024x3072 : Shape := ⟨2, ![1024, 3072]⟩
abbrev S1x1024 : Shape := ⟨2, ![1, 1024]⟩
abbrev S2x1024x512 : Shape := ⟨3, ![2, 1024, 512]⟩
abbrev S1x1024x1024 : Shape := ⟨3, ![1, 1024, 1024]⟩
abbrev S1x1024x512 : Shape := ⟨3, ![1, 1024, 512]⟩
abbrev S1024x1024 : Shape := ⟨2, ![1024, 1024]⟩
abbrev S1024x1 : Shape := ⟨2, ![1024, 1]⟩
abbrev S512x1024 : Shape := ⟨2, ![512, 1024]⟩
abbrev S1024x512 : Shape := ⟨2, ![1024, 512]⟩
abbrev S256 : Shape := ⟨1, ![256]⟩
abbrev S256x1 : Shape := ⟨2, ![256, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S256x1024, .f32⟩
  | .hbm, ⟨2, _⟩ => ⟨S1024, .f32⟩
  | .hbm, ⟨3, _⟩ => ⟨S1024x3072, .f32⟩
  | .hbm, ⟨4, _⟩ => ⟨S1x1024, .f32⟩
  | .hbm, ⟨5, _⟩ => ⟨S2x8192x1024, .bf16⟩
  | .hbm, ⟨6, _⟩ => ⟨S2x8192x1024, .bf16⟩
  | .hbm, ⟨7, _⟩ => ⟨S2x8192x1024, .bf16⟩
  | .hbm, ⟨8, _⟩ => ⟨S2x1024x512, .f32⟩
  | .hbm, ⟨9, _⟩ => ⟨S2x1024x512, .f32⟩
  | .hbm, ⟨10, _⟩ => ⟨S256x1024, .bf16⟩
  | .hbm, ⟨11, _⟩ => ⟨S256x1024, .bf16⟩
  | .hbm, ⟨12, _⟩ => ⟨S256x1024, .bf16⟩
  | .hbm, ⟨13, _⟩ => ⟨S256x1024, .f32⟩
  | .hbm, ⟨14, _⟩ => ⟨S256x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S256x1024, .f32⟩
  | .local _ .vmem, ⟨3, _⟩ => ⟨S1x1024, .f32⟩
  | .local _ .vmem, ⟨4, _⟩ => ⟨S1024x3072, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev main_v1_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32 : BitVec 32 := 8#32
  let c0_i32_25 : BitVec 32 := 0#32
  let v46 : BitVec 1 := Scalar.cmpi .eq c8_i32 c0_i32_25
  let c1_i32 : BitVec 32 := 1#32
  let v47 : BitVec 32 := Scalar.select v46 c1_i32 c8_i32
  let v48 : BitVec 32 := Scalar.remsi arg0 v47
  let c0_i32_27 : BitVec 32 := 0#32
  let v50 : BitVec 1 := Scalar.cmpi .slt v48 c0_i32_27
  let c0_i32_28 : BitVec 32 := 0#32
  let v51 : BitVec 1 := Scalar.cmpi .slt v47 c0_i32_28
  let v52 : BitVec 1 := Scalar.xori v50 v51
  let c0_i32_26 : BitVec 32 := 0#32
  let v49 : BitVec 1 := Scalar.cmpi .ne v48 c0_i32_26
  let v53 : BitVec 1 := Scalar.andi v52 v49
  let v54 : BitVec 32 := Scalar.addi v48 v47
  let v55 : BitVec 32 := Scalar.select v53 v54 v48
  let c7_i32 : BitVec 32 := 7#32
  let v56 : BitVec 1 := Scalar.cmpi .sge v55 c7_i32
  let v57 : BitVec 32 := Scalar.extui v56
  let c0_i32_29 : BitVec 32 := 0#32
  let v58 : BitVec 1 := Scalar.cmpi .ne v57 c0_i32_29
  v58

def k0_cond3 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c15_i32_10 : BitVec 32 := 15#32
  let v28 : BitVec 32 := Scalar.minsi arg0 c15_i32_10
  let c8_i32_11 : BitVec 32 := 8#32
  let v29 : BitVec 32 := Scalar.divsi v28 c8_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c8_i32_11 c0_i32_14
  let v36 : BitVec 32 := Scalar.extui v35
  let c0_i32_15 : BitVec 32 := 0#32
  let v37 : BitVec 1 := Scalar.cmpi .slt c8_i32_11 c0_i32_15
  let v38 : BitVec 32 := Scalar.extui v37
  let v39 : BitVec 32 := Scalar.subi v36 v38
  let v40 : BitVec 1 := Scalar.cmpi .ne v34 v39
  let v41 : BitVec 32 := Scalar.remsi v28 c8_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c8_i32_18 : BitVec 32 := 8#32
  let c0_i32_19 : BitVec 32 := 0#32
  let v46 : BitVec 1 := Scalar.cmpi .eq c8_i32_18 c0_i32_19
  let c1_i32_20 : BitVec 32 := 1#32
  let v47 : BitVec 32 := Scalar.select v46 c1_i32_20 c8_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c7_i32 : BitVec 32 := 7#32
  let v56 : BitVec 32 := Scalar.subi v55 c7_i32
  let c0_i32_24 : BitVec 32 := 0#32
  let v57 : BitVec 32 := Scalar.maxsi v56 c0_i32_24
  let c0_i32_25 : BitVec 32 := 0#32
  let c0_i32_26 : BitVec 32 := 0#32
  ![v17.toNat, c0_i32_25.toNat, v57.toNat]

def cc0_transform_8 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c15_i32_10 : BitVec 32 := 15#32
  let v28 : BitVec 32 := Scalar.minsi arg0 c15_i32_10
  let c8_i32_11 : BitVec 32 := 8#32
  let v29 : BitVec 32 := Scalar.divsi v28 c8_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c8_i32_11 c0_i32_14
  let v36 : BitVec 32 := Scalar.extui v35
  let c0_i32_15 : BitVec 32 := 0#32
  let v37 : BitVec 1 := Scalar.cmpi .slt c8_i32_11 c0_i32_15
  let v38 : BitVec 32 := Scalar.extui v37
  let v39 : BitVec 32 := Scalar.subi v36 v38
  let v40 : BitVec 1 := Scalar.cmpi .ne v34 v39
  let v41 : BitVec 32 := Scalar.remsi v28 c8_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c8_i32_18 : BitVec 32 := 8#32
  let c0_i32_19 : BitVec 32 := 0#32
  let v46 : BitVec 1 := Scalar.cmpi .eq c8_i32_18 c0_i32_19
  let c1_i32_20 : BitVec 32 := 1#32
  let v47 : BitVec 32 := Scalar.select v46 c1_i32_20 c8_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c7_i32 : BitVec 32 := 7#32
  let v56 : BitVec 32 := Scalar.subi v55 c7_i32
  let c0_i32_24 : BitVec 32 := 0#32
  let v57 : BitVec 32 := Scalar.maxsi v56 c0_i32_24
  let c0_i32_25 : BitVec 32 := 0#32
  let c0_i32_26 : BitVec 32 := 0#32
  ![v17.toNat, c0_i32_25.toNat, v57.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== QkvRefIdeal.lean ====
abbrev S2x8192x1024 : Shape := ⟨3, ![2, 8192, 1024]⟩
abbrev S256x1024 : Shape := ⟨2, ![256, 1024]⟩
abbrev S1024 : Shape := ⟨1, ![1024]⟩
abbrev S1024x3072 : Shape := ⟨2, ![1024, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩
abbrev S2x512x1024 : Shape := ⟨3, ![2, 512, 1024]⟩
abbrev S2x1024x512 : Shape := ⟨3, ![2, 1024, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S256x1024, .f32⟩
  | .hbm, ⟨2, _⟩ => ⟨S1024, .f32⟩
  | .hbm, ⟨3, _⟩ => ⟨S1024x3072, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x3072, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S256x1024, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S256x3072, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S2x512x1024, .f32⟩
  | .hbm, ⟨45, _⟩ => ⟨S2x1024x512, .f32⟩
  | .hbm, ⟨46, _⟩ => ⟨S2x512x1024, .f32⟩
  | .hbm, ⟨47, _⟩ => ⟨S2x1024x512, .f32⟩
  | .hbm, ⟨48, _⟩ => ⟨S_, .f32⟩
  | .hbm, ⟨49, _⟩ => ⟨S2x8192x1024, .f32⟩
  | .hbm, ⟨50, _⟩ => ⟨S2x8192x1024, .f32⟩
  | .hbm, ⟨51, _⟩ => ⟨S2x8192x1024, .bf16⟩
  | .hbm, ⟨52, _⟩ => ⟨S2x8192x1024, .bf16⟩
  | .hbm, ⟨53, _⟩ => ⟨S2x8192x1024, .bf16⟩
  | .hbm, ⟨54, _⟩ => ⟨S_, .f32⟩
  | .hbm, ⟨55, _⟩ => ⟨S256x1024, .f32⟩
  | .hbm, ⟨56, _⟩ => ⟨S256x1024, .f32⟩
  | .hbm, ⟨57, _⟩ => ⟨S256x1024, .bf16⟩
  | .hbm, ⟨58, _⟩ => ⟨S256x1024, .bf16⟩
  | .hbm, ⟨59, _⟩ => ⟨S256x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Gmlp.lean ====
abbrev S2x8192x1024 : Shape := ⟨3, ![2, 8192, 1024]⟩
abbrev S256x1024 : Shape := ⟨2, ![256, 1024]⟩
abbrev S1024 : Shape := ⟨1, ![1024]⟩
abbrev S1024x2048 : Shape := ⟨2, ![1024, 2048]⟩
abbrev S16x128x128 : Shape := ⟨3, ![16, 128, 128]⟩
abbrev S16x128 : Shape := ⟨2, ![16, 128]⟩
abbrev S1024x1024 : Shape := ⟨2, ![1024, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S8x2x128x128 : Shape := ⟨4, ![8, 2, 128, 128]⟩
abbrev S8x128x2x128 : Shape := ⟨4, ![8, 128, 2, 128]⟩
abbrev S8x128x256 : Shape := ⟨3, ![8, 128, 256]⟩
abbrev S128x16 : Shape := ⟨2, ![128, 16]⟩
abbrev S128x16x64 : Shape := ⟨3, ![128, 16, 64]⟩
abbrev S128x1024 : Shape := ⟨2, ![128, 1024]⟩
abbrev S16x32x32 : Shape := ⟨3, ![16, 32, 32]⟩
abbrev S8x2x32x32 : Shape := ⟨4, ![8, 2, 32, 32]⟩
abbrev S8x32x2x32 : Shape := ⟨4, ![8, 32, 2, 32]⟩
abbrev S8x32x64 : Shape := ⟨3, ![8, 32, 64]⟩
abbrev S16x32 : Shape := ⟨2, ![16, 32]⟩
abbrev S32x16 : Shape := ⟨2, ![32, 16]⟩
abbrev S32x16x64 : Shape := ⟨3, ![32, 16, 64]⟩
abbrev S32x1024 : Shape := ⟨2, ![32, 1024]⟩
abbrev S1x1024 : Shape := ⟨2, ![1, 1024]⟩
abbrev S1x1024x1024 : Shape := ⟨3, ![1, 1024, 1024]⟩
abbrev S1024x1 : Shape := ⟨2, ![1024, 1]⟩
abbrev S1x128x256 : Shape := ⟨3, ![1, 128, 256]⟩
abbrev S128x256 : Shape := ⟨2, ![128, 256]⟩
abbrev S256 : Shape := ⟨1, ![256]⟩
abbrev S256x1 : Shape := ⟨2, ![256, 1]⟩
abbrev S32x128 : Shape := ⟨2, ![32, 128]⟩
abbrev S64x1024 : Shape := ⟨2, ![64, 1024]⟩
abbrev S1x32x64 : Shape := ⟨3, ![1, 32, 64]⟩
abbrev S32x64 : Shape := ⟨2, ![32, 64]⟩

abbrev nBuf : Space → Nat
  | .hbm => 75
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S256x1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S16x128x128, .f32⟩
  | .hbm, ⟨6, _⟩ => ⟨S16x128, .f32⟩
  | .hbm, ⟨7, _⟩ => ⟨S1024x1024, .f32⟩
  | .hbm, ⟨8, _⟩ => ⟨S128, .i32⟩
  | .hbm, ⟨9, _⟩ => ⟨S1x128, .i32⟩
  | .hbm, ⟨10, _⟩ => ⟨S_, .i32⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i1⟩
  | .hbm, ⟨18, _⟩ => ⟨S1x128, .i32⟩
  | .hbm, ⟨19, _⟩ => ⟨S1x128, .i32⟩
  | .hbm, ⟨20, _⟩ => ⟨S_, .i32⟩
  | .hbm, ⟨21, _⟩ => ⟨S1x128, .i32⟩
  | .hbm, ⟨22, _⟩ => ⟨S1x128, .i1⟩
  | .hbm, ⟨23, _⟩ => ⟨S1x128, .i1⟩
  | .hbm, ⟨24, _⟩ => ⟨S_, .i32⟩
  | .hbm, ⟨25, _⟩ => ⟨S1x128, .i32⟩
  | .hbm, ⟨26, _⟩ => ⟨S1x128, .i32⟩
  | .hbm, ⟨27, _⟩ => ⟨S1x128, .i32⟩
  | .hbm, ⟨28, _⟩ => ⟨S128x1, .i32⟩
  | .hbm, ⟨29, _⟩ => ⟨S_, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i1⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .f32⟩
  | .hbm, ⟨51, _⟩ => ⟨S_, .f32⟩
  | .hbm, ⟨52, _⟩ => ⟨S16x128x128, .i1⟩
  | .hbm, ⟨53, _⟩ => ⟨S16x128x128, .f32⟩
  | .hbm, ⟨54, _⟩ => ⟨S16x128x128, .f32⟩
  | .hbm, ⟨55, _⟩ => ⟨S16x128x128, .bf16⟩
  | .hbm, ⟨56, _⟩ => ⟨S8x2x128x128, .bf16⟩
  | .hbm, ⟨57, _⟩ => ⟨S8x128x2x128, .bf16⟩
  | .hbm, ⟨58, _⟩ => ⟨S8x128x256, .bf16⟩
  | .hbm, ⟨59, _⟩ => ⟨S128x16, .f32⟩
  | .hbm, ⟨60, _⟩ => ⟨S128x16x64, .f32⟩
  | .hbm, ⟨61, _⟩ => ⟨S128x1024, .f32⟩
  | .hbm, ⟨62, _⟩ => ⟨S16x32x32, .bf16⟩
  | .hbm, ⟨63, _⟩ => ⟨S8x2x32x32, .bf16⟩
  | .hbm, ⟨64, _⟩ => ⟨S8x32x2x32, .bf16⟩
  | .hbm, ⟨65, _⟩ => ⟨S8x32x64, .bf16⟩
  | .hbm, ⟨66, _⟩ => ⟨S16x32, .f32⟩
  | .hbm, ⟨67, _⟩ => ⟨S32x16, .f32⟩
  | .hbm, ⟨68, _⟩ => ⟨S32x16x64, .f32⟩
  | .hbm, ⟨69, _⟩ => ⟨S32x1024, .f32⟩
  | .hbm, ⟨70, _⟩ => ⟨S1x1024, .f32⟩
  | .hbm, ⟨71, _⟩ => ⟨S1x1024, .f32⟩
  | .hbm, ⟨72, _⟩ => ⟨S2x8192x1024, .f32⟩
  | .hbm, ⟨73, _⟩ => ⟨S256x1024, .f32⟩
  | .hbm, ⟨74, _⟩ => ⟨S256x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S256x1024, .f32⟩
  | .local _ .vmem, ⟨3, _⟩ => ⟨S1x1024, .f32⟩
  | .local _ .vmem, ⟨4, _⟩ => ⟨S1024x2048, .f32⟩
  | .local _ .vmem, ⟨5, _⟩ => ⟨S1x1024, .f32⟩
  | .local _ .vmem, ⟨6, _⟩ => ⟨S8x128x256, .bf16⟩
  | .local _ .vmem, ⟨7, _⟩ => ⟨S128x1024, .f32⟩
  | .local _ .vmem, ⟨8, _⟩ => ⟨S8x32x64, .bf16⟩
  | .local _ .vmem, ⟨9, _⟩ => ⟨S32x1024, .f32⟩
  | .local _ .vmem, ⟨10, _⟩ => ⟨S1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S256x1024, .f32⟩
  | .local _ .vmem, ⟨14, _⟩ => ⟨S256x1024, .f32⟩
  | .local _ .vmem, ⟨15, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26_0 : Ref sig .tc := ⟨.hbm, 72, rfl⟩
abbrev main_v26_1 : Ref sig .tc := ⟨.hbm, 73, rfl⟩
abbrev main_v26_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmlpRefIdeal.lean ====
abbrev S2x8192x1024 : Shape := ⟨3, ![2, 8192, 1024]⟩
abbrev S256x1024 : Shape := ⟨2, ![256, 1024]⟩
abbrev S1024 : Shape := ⟨1, ![1024]⟩
abbrev S1024x2048 : Shape := ⟨2, ![1024, 2048]⟩
abbrev S16x128x128 : Shape := ⟨3, ![16, 128, 128]⟩
abbrev S16x128 : Shape := ⟨2, ![16, 128]⟩
abbrev S1024x1024 : Shape := ⟨2, ![1024, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S128x128x16x64 : Shape := ⟨4, ![128, 128, 16, 64]⟩
abbrev S16x128x64x128 : Shape := ⟨4, ![16, 128, 64, 128]⟩
abbrev S128x16 : Shape := ⟨2, ![128, 16]⟩
abbrev S1x128x16x1 : Shape := ⟨4, ![1, 128, 16, 1]⟩
abbrev S16x32x32 : Shape := ⟨3, ![16, 32, 32]⟩
abbrev S16x32 : Shape := ⟨2, ![16, 32]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S8x32x16x64 : Shape := ⟨4, ![8, 32, 16, 64]⟩
abbrev S16x8x64x32 : Shape := ⟨4, ![16, 8, 64, 32]⟩
abbrev S32x16 : Shape := ⟨2, ![32, 16]⟩
abbrev S1x32x16x1 : Shape := ⟨4, ![1, 32, 16, 1]⟩

abbrev nBuf : Space → Nat
  | .hbm => 167
  | .vmem => 0
  | .smem => 0
  | _ => 0

abbrev hbmTy0_0 (i : Nat) : BufTy := match i % 128 with
  | 0 => ⟨S2x8192x1024, .f32⟩
  | 1 => ⟨S256x1024, .f32⟩
  | 2 => ⟨S1024, .f32⟩
  | 3 => ⟨S1024x2048, .f32⟩
  | 4 => ⟨S1024, .f32⟩
  | 5 => ⟨S16x128x128, .f32⟩
  | 6 => ⟨S16x128, .f32⟩
  | 7 => ⟨S1024x1024, .f32⟩
  | 8 => ⟨S128, .i32⟩
  | 9 => ⟨S1x128, .i32⟩
  | 10 => ⟨S_, .i32⟩
  | 11 => ⟨S_, .i32⟩
  | 12 => ⟨S1x128, .i32⟩
  | 13 => ⟨S1x128, .i32⟩
  | 14 => ⟨S1x128, .i32⟩
  | 15 => ⟨S_, .i32⟩
  | 16 => ⟨S1x128, .i32⟩
  | 17 => ⟨S1x128, .i1⟩
  | 18 => ⟨S1x128, .i32⟩
  | 19 => ⟨S1x128, .i32⟩
  | 20 => ⟨S_, .i32⟩
  | 21 => ⟨S1x128, .i32⟩
  | 22 => ⟨S1x128, .i1⟩
  | 23 => ⟨S1x128, .i1⟩
  | 24 => ⟨S_, .i32⟩
  | 25 => ⟨S1x128, .i32⟩
  | 26 => ⟨S1x128, .i32⟩
  | 27 => ⟨S1x128, .i32⟩
  | 28 => ⟨S128x1, .i32⟩
  | 29 => ⟨S_, .i32⟩
  | 30 => ⟨S_, .i32⟩
  | 31 => ⟨S128x1, .i32⟩
  | 32 => ⟨S128x1, .i32⟩
  | 33 => ⟨S128x1, .i32⟩
  | 34 => ⟨S_, .i32⟩
  | 35 => ⟨S128x1, .i32⟩
  | 36 => ⟨S128x1, .i1⟩
  | 37 => ⟨S128x1, .i32⟩
  | 38 => ⟨S128x1, .i32⟩
  | 39 => ⟨S_, .i32⟩
  | 40 => ⟨S128x1, .i32⟩
  | 41 => ⟨S128x1, .i1⟩
  | 42 => ⟨S128x1, .i1⟩
  | 43 => ⟨S_, .i32⟩
  | 44 => ⟨S128x1, .i32⟩
  | 45 => ⟨S128x1, .i32⟩
  | 46 => ⟨S128x1, .i32⟩
  | 47 => ⟨S128x128, .i32⟩
  | 48 => ⟨S128x128, .i32⟩
  | 49 => ⟨S128x128, .i1⟩
  | 50 => ⟨S_, .f32⟩
  | 51 => ⟨S_, .f32⟩
  | 52 => ⟨S16x128x128, .i1⟩
  | 53 => ⟨S16x128x128, .f32⟩
  | 54 => ⟨S16x128x128, .f32⟩
  | 55 => ⟨S2x8192x1024, .f32⟩
  | 56 => ⟨S_, .f32⟩
  | 57 => ⟨S2x8192, .f32⟩
  | 58 => ⟨S2x8192x1, .f32⟩
  | 59 => ⟨S_, .f32⟩
  | 60 => ⟨S2x8192x1, .f32⟩
  | 61 => ⟨S2x8192x1, .f32⟩
  | 62 => ⟨S_, .f32⟩
  | 63 => ⟨S2x8192x1, .f32⟩
  | 64 => ⟨S2x8192x1, .f32⟩
  | 65 => ⟨S2x8192x1, .f32⟩
  | 66 => ⟨S2x8192x1024, .f32⟩
  | 67 => ⟨S2x8192x1024, .f32⟩
  | 68 => ⟨S1x1x1024, .f32⟩
  | 69 => ⟨S2x8192x1024, .f32⟩
  | 70 => ⟨S2x8192x1024, .f32⟩
  | 71 => ⟨S2x8192x2048, .f32⟩
  | 72 => ⟨S_, .f32⟩
  | 73 => ⟨S2x8192x2048, .f32⟩
  | 74 => ⟨S2x8192x2048, .f32⟩
  | 75 => ⟨S2x8192x2048, .f32⟩
  | 76 => ⟨S_, .f32⟩
  | 77 => ⟨S2x8192x2048, .f32⟩
  | 78 => ⟨S2x8192x2048, .f32⟩
  | 79 => ⟨S2x8192x2048, .f32⟩
  | 80 => ⟨S2x8192x2048, .f32⟩
  | 81 => ⟨S2x8192x1024, .f32⟩
  | 82 => ⟨S2x8192x1024, .f32⟩
  | 83 => ⟨S2x8192x1024, .f32⟩
  | 84 => ⟨S_, .f32⟩
  | 85 => ⟨S2x8192, .f32⟩
  | 86 => ⟨S2x8192x1, .f32⟩
  | 87 => ⟨S_, .f32⟩
  | 88 => ⟨S2x8192x1, .f32⟩
  | 89 => ⟨S2x8192x1, .f32⟩
  | 90 => ⟨S_, .f32⟩
  | 91 => ⟨S2x8192x1, .f32⟩
  | 92 => ⟨S2x8192x1, .f32⟩
  | 93 => ⟨S2x8192x1, .f32⟩
  | 94 => ⟨S2x8192x1024, .f32⟩
  | 95 => ⟨S2x8192x1024, .f32⟩
  | 96 => ⟨S1x1x1024, .f32⟩
  | 97 => ⟨S2x8192x1024, .f32⟩
  | 98 => ⟨S2x8192x1024, .f32⟩
  | 99 => ⟨S128x128x16x64, .f32⟩
  | 100 => ⟨S16x128x64x128, .f32⟩
  | 101 => ⟨S128x128x16x64, .f32⟩
  | 102 => ⟨S128x16, .f32⟩
  | 103 => ⟨S1x128x16x1, .f32⟩
  | 104 => ⟨S128x128x16x64, .f32⟩
  | 105 => ⟨S128x128x16x64, .f32⟩
  | 106 => ⟨S2x8192x1024, .f32⟩
  | 107 => ⟨S2x8192x1024, .f32⟩
  | 108 => ⟨S2x8192x1024, .f32⟩
  | 109 => ⟨S2x8192x1024, .f32⟩
  | 110 => ⟨S16x32x32, .f32⟩
  | 111 => ⟨S16x32, .f32⟩
  | 112 => ⟨S256x1024, .f32⟩
  | 113 => ⟨S_, .f32⟩
  | 114 => ⟨S256, .f32⟩
  | 115 => ⟨S256x1, .f32⟩
  | 116 => ⟨S_, .f32⟩
  | 117 => ⟨S256x1, .f32⟩
  | 118 => ⟨S256x1, .f32⟩
  | 119 => ⟨S_, .f32⟩
  | 120 => ⟨S256x1, .f32⟩
  | 121 => ⟨S256x1, .f32⟩
  | 122 => ⟨S256x1, .f32⟩
  | 123 => ⟨S256x1024, .f32⟩
  | 124 => ⟨S256x1024, .f32⟩
  | 125 => ⟨S1x1024, .f32⟩
  | 126 => ⟨S256x1024, .f32⟩
  | 127 => ⟨S256x1024, .f32⟩
  | _ => ⟨S2x8192x1024, .f32⟩

abbrev hbmTy0_1 (i : Nat) : BufTy := match i % 128 with
  | 0 => ⟨S256x2048, .f32⟩
  | 1 => ⟨S_, .f32⟩
  | 2 => ⟨S256x2048, .f32⟩
  | 3 => ⟨S256x2048, .f32⟩
  | 4 => ⟨S256x2048, .f32⟩
  | 5 => ⟨S_, .f32⟩
  | 6 => ⟨S256x2048, .f32⟩
  | 7 => ⟨S256x2048, .f32⟩
  | 8 => ⟨S256x2048, .f32⟩
  | 9 => ⟨S256x2048, .f32⟩
  | 10 => ⟨S256x1024, .f32⟩
  | 11 => ⟨S256x1024, .f32⟩
  | 12 => ⟨S256x1024, .f32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S_, .f32⟩
  | 20 => ⟨S256x1, .f32⟩
  | 21 => ⟨S256x1, .f32⟩
  | 22 => ⟨S256x1, .f32⟩
  | 23 => ⟨S256x1024, .f32⟩
  | 24 => ⟨S256x1024, .f32⟩
  | 25 => ⟨S1x1024, .f32⟩
  | 26 => ⟨S256x1024, .f32⟩
  | 27 => ⟨S256x1024, .f32⟩
  | 28 => ⟨S8x32x16x64, .f32⟩
  | 29 => ⟨S16x8x64x32, .f32⟩
  | 30 => ⟨S8x32x16x64, .f32⟩
  | 31 => ⟨S32x16, .f32⟩
  | 32 => ⟨S1x32x16x1, .f32⟩
  | 33 => ⟨S8x32x16x64, .f32⟩
  | 34 => ⟨S8x32x16x64, .f32⟩
  | 35 => ⟨S256x1024, .f32⟩
  | 36 => ⟨S256x1024, .f32⟩
  | 37 => ⟨S256x1024, .f32⟩
  | 38 => ⟨S256x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v8 : Ref sig .tc := ⟨.hbm, 54, rfl⟩
abbrev main_v9 : Ref sig .tc := ⟨.hbm, 55, rfl⟩
abbrev main_cst_1 : Ref sig .tc := ⟨.hbm, 56, rfl⟩
abbrev main_v10 : Ref sig .tc := ⟨.hbm, 57, rfl⟩
abbrev main_v11 : Ref sig .tc := ⟨.hbm, 58, rfl⟩
abbrev main_cst_2 : Ref sig .tc := ⟨.hbm, 59, rfl⟩
abbrev main_v12 : Ref sig .tc := ⟨.hbm, 60, rfl⟩
abbrev main_v13 : Ref sig .tc := ⟨.hbm, 61, rfl⟩
abbrev main_cst_3 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_4 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_5 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_6 : Ref sig .tc := ⟨.hbm, 84, rfl⟩
abbrev main_v33 : Ref sig .tc := ⟨.hbm, 85, rfl⟩
abbrev main_v34 : Ref sig .tc := ⟨.hbm, 86, rfl⟩
abbrev main_cst_7 : Ref sig .tc := ⟨.hbm, 87, rfl⟩
abbrev main_v35 : Ref sig .tc := ⟨.hbm, 88, rfl⟩
abbrev main_v36 : Ref sig .tc := ⟨.hbm, 89, rfl⟩
abbrev main_cst_8 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_9 : Ref sig .tc := ⟨.hbm, 113, rfl⟩
abbrev main_v59 : Ref sig .tc := ⟨.hbm, 114, rfl⟩
abbrev main_v60 : Ref sig .tc := ⟨.hbm, 115, rfl⟩
abbrev main_cst_10 : Ref sig .tc := ⟨.hbm, 116, rfl⟩
abbrev main_v61 : Ref sig .tc := ⟨.hbm, 117, rfl⟩
abbrev main_v62 : Ref sig .tc := ⟨.hbm, 118, rfl⟩
abbrev main_cst_11 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_12 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_13 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_14 : Ref sig .tc := ⟨.hbm, 141, rfl⟩
abbrev main_v82 : Ref sig .tc := ⟨.hbm, 142, rfl⟩
abbrev main_v83 : Ref sig .tc := ⟨.hbm, 143, rfl⟩
abbrev main_cst_15 : Ref sig .tc := ⟨.hbm, 144, rfl⟩
abbrev main_v84 : Ref sig .tc := ⟨.hbm, 145, rfl⟩
abbrev main_v85 : Ref sig .tc := ⟨.hbm, 146, rfl⟩
abbrev main_cst_16 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩

abbrev nD : Nat := 1
abbrev τ : Topo := Topo.v7x

variable {F : FTy → Type} [FloatOps F]
-- ==== Stream.lean ====
abbrev S256x1024 : Shape := ⟨2, ![256, 1024]⟩
abbrev S1024 : Shape := ⟨1, ![1024]⟩
abbrev S8x2x5632 : Shape := ⟨3, ![8, 2, 5632]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S_ : Shape := ⟨0, ![]⟩
abbrev S8x8x5632 : Shape := ⟨3, ![8, 8, 5632]⟩
abbrev S2x1x5632 : Shape := ⟨3, ![2, 1, 5632]⟩
abbrev S1x1024 : Shape := ⟨2, ![1, 1024]⟩
abbrev S8x8x2816 : Shape := ⟨3, ![8, 8, 2816]⟩
abbrev S11x1024x256 : Shape := ⟨3, ![11, 1024, 256]⟩
abbrev S2816x1024 : Shape := ⟨2, ![2816, 1024]⟩
abbrev S8x8x256 : Shape := ⟨3, ![8, 8, 256]⟩
abbrev S1x1024x256 : Shape := ⟨3, ![1, 1024, 256]⟩
abbrev S1x3x256 : Shape := ⟨3, ![1, 3, 256]⟩
abbrev S1x1x256 : Shape := ⟨3, ![1, 1, 256]⟩
abbrev S1x256x1024 : Shape := ⟨3, ![1, 256, 1024]⟩
abbrev S2x8x40x256 : Shape := ⟨4, ![2, 8, 40, 256]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x8x256 : Shape := ⟨3, ![1, 8, 256]⟩
abbrev S8x256 : Shape := ⟨2, ![8, 256]⟩
abbrev S1x1x40x256 : Shape := ⟨4, ![1, 1, 40, 256]⟩
abbrev S40x256 : Shape := ⟨2, ![40, 256]⟩
abbrev S32x256 : Shape := ⟨2, ![32, 256]⟩
abbrev S3x256 : Shape := ⟨2, ![3, 256]⟩
abbrev S1x256 : Shape := ⟨2, ![1, 256]⟩

abbrev nBuf : Space → Nat
  | .hbm => 20
  | .vmem => 35
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S8x2x5632, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S8x8x5632, .f32⟩
  | .hbm, ⟨11, _⟩ => ⟨S2x1x5632, .f32⟩
  | .hbm, ⟨12, _⟩ => ⟨S1x1024, .f32⟩
  | .hbm, ⟨13, _⟩ => ⟨S1x1024, .f32⟩
  | .hbm, ⟨14, _⟩ => ⟨S256x1024, .f32⟩
  | .hbm, ⟨15, _⟩ => ⟨S8x8x2816, .f32⟩
  | .hbm, ⟨16, _⟩ => ⟨S8x8x2816, .f32⟩
  | .hbm, ⟨17, _⟩ => ⟨S11x1024x256, .bf16⟩
  | .hbm, ⟨18, _⟩ => ⟨S11x1024x256, .bf16⟩
  | .hbm, ⟨19, _⟩ => ⟨S2816x1024, .bf16⟩
  | .local _ .vmem, ⟨0, _⟩ => ⟨S256x1024, .f32⟩
  | .local _ .vmem, ⟨1, _⟩ => ⟨S1x1024, .f32⟩
  | .local _ .vmem, ⟨2, _⟩ => ⟨S8x8x256, .f32⟩
  | .local _ .vmem, ⟨3, _⟩ => ⟨S8x8x256, .f32⟩
  | .local _ .vmem, ⟨4, _⟩ => ⟨S8x8x256, .f32⟩
  | .local _ .vmem, ⟨5, _⟩ => ⟨S8x8x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x3x256, .f32⟩
  | .local _ .vmem, ⟨11, _⟩ => ⟨S1x3x256, .f32⟩
  | .local _ .vmem, ⟨12, _⟩ => ⟨S1x3x256, .f32⟩
  | .local _ .vmem, ⟨13, _⟩ => ⟨S1x3x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x256x1024, .f32⟩
  | .local _ .vmem, ⟨19, _⟩ => ⟨S1x256x1024, .f32⟩
  | .local _ .vmem, ⟨20, _⟩ => ⟨S1x1024, .f32⟩
  | .local _ .vmem, ⟨21, _⟩ => ⟨S256x1024, .f32⟩
  | .local _ .vmem, ⟨22, _⟩ => ⟨S8x8x256, .f32⟩
  | .local _ .vmem, ⟨23, _⟩ => ⟨S8x8x256, .f32⟩
  | .local _ .vmem, ⟨24, _⟩ => ⟨S8x8x256, .f32⟩
  | .local _ .vmem, ⟨25, _⟩ => ⟨S8x8x256, .f32⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x256, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .f32⟩
  | .local _ .vmem, ⟨34, _⟩ => ⟨S2x8x40x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v723 : BitVec 1 := Scalar.cmpi .eq arg0 c10_i32
  let v724 : BitVec 32 := Scalar.extui v723
  let c0_i32_684 : BitVec 32 := 0#32
  let v725 : BitVec 1 := Scalar.cmpi .ne v724 c0_i32_684
  v725

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_5 (i : grid0.Coords) : Fin 3 → Nat :=
  let arg0 : BitVec 32 := BitVec.ofNat 32 (i 0).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_7 (i : grid0.Coords) : Fin 3 → Nat :=
  let arg0 : BitVec 32 := BitVec.ofNat 32 (i 0).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_9 (i : grid0.Coords) : Fin 3 → Nat :=
  let arg0 : BitVec 32 := BitVec.ofNat 32 (i 0).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== StreamRefIdeal.lean ====
abbrev S256x1024 : Shape := ⟨2, ![256, 1024]⟩
abbrev S1024 : Shape := ⟨1, ![1024]⟩
abbrev S8x2x5632 : Shape := ⟨3, ![8, 2, 5632]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x5632 : Shape := ⟨2, ![256, 5632]⟩
abbrev S8x32x5632 : Shape := ⟨3, ![8, 32, 5632]⟩
abbrev S8x34x5632 : Shape := ⟨3, ![8, 34, 5632]⟩
abbrev S1x5632 : Shape := ⟨2, ![1, 5632]⟩
abbrev S5632 : Shape := ⟨1, ![5632]⟩
abbrev S1x1x5632 : Shape := ⟨3, ![1, 1, 5632]⟩
abbrev S8x32x2816 : Shape := ⟨3, ![8, 32, 2816]⟩
abbrev S1x2816x1024 : Shape := ⟨3, ![1, 2816, 1024]⟩
abbrev S2816x1024 : Shape := ⟨2, ![2816, 1024]⟩
abbrev S8x32x1024 : Shape := ⟨3, ![8, 32, 1024]⟩
abbrev S8x8x5632 : Shape := ⟨3, ![8, 8, 5632]⟩
abbrev S8x8x2816 : Shape := ⟨3, ![8, 8, 2816]⟩
abbrev S1024x2816 : Shape := ⟨2, ![1024, 2816]⟩
abbrev S1024x11x256 : Shape := ⟨3, ![1024, 11, 256]⟩
abbrev S11x1024x256 : Shape := ⟨3, ![11, 1024, 256]⟩

abbrev nBuf : Space → Nat
  | .hbm => 101
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S8x2x5632, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S1x1024x5632, .f32⟩
  | .hbm, ⟨9, _⟩ => ⟨S1024x5632, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x5632, .f32⟩
  | .hbm, ⟨27, _⟩ => ⟨S8x32x5632, .f32⟩
  | .hbm, ⟨28, _⟩ => ⟨S8x34x5632, .f32⟩
  | .hbm, ⟨29, _⟩ => ⟨S1x5632, .f32⟩
  | .hbm, ⟨30, _⟩ => ⟨S5632, .f32⟩
  | .hbm, ⟨31, _⟩ => ⟨S8x32x5632, .f32⟩
  | .hbm, ⟨32, _⟩ => ⟨S1x1x5632, .f32⟩
  | .hbm, ⟨33, _⟩ => ⟨S5632, .f32⟩
  | .hbm, ⟨34, _⟩ => ⟨S1x1x5632, .f32⟩
  | .hbm, ⟨35, _⟩ => ⟨S8x32x5632, .f32⟩
  | .hbm, ⟨36, _⟩ => ⟨S8x32x5632, .f32⟩
  | .hbm, ⟨37, _⟩ => ⟨S1x1x5632, .f32⟩
  | .hbm, ⟨38, _⟩ => ⟨S8x32x5632, .f32⟩
  | .hbm, ⟨39, _⟩ => ⟨S8x32x5632, .f32⟩
  | .hbm, ⟨40, _⟩ => ⟨S8x32x5632, .f32⟩
  | .hbm, ⟨41, _⟩ => ⟨S1x1x5632, .f32⟩
  | .hbm, ⟨42, _⟩ => ⟨S5632, .f32⟩
  | .hbm, ⟨43, _⟩ => ⟨S1x1x5632, .f32⟩
  | .hbm, ⟨44, _⟩ => ⟨S8x32x5632, .f32⟩
  | .hbm, ⟨45, _⟩ => ⟨S8x32x5632, .f32⟩
  | .hbm, ⟨46, _⟩ => ⟨S8x32x5632, .f32⟩
  | .hbm, ⟨47, _⟩ => ⟨S8x32x5632, .f32⟩
  | .hbm, ⟨48, _⟩ => ⟨S1x1x5632, .f32⟩
  | .hbm, ⟨49, _⟩ => ⟨S5632, .f32⟩
  | .hbm, ⟨50, _⟩ => ⟨S1x1x5632, .f32⟩
  | .hbm, ⟨51, _⟩ => ⟨S8x32x5632, .f32⟩
  | .hbm, ⟨52, _⟩ => ⟨S8x32x5632, .f32⟩
  | .hbm, ⟨53, _⟩ => ⟨S8x32x5632, .f32⟩
  | .hbm, ⟨54, _⟩ => ⟨S8x32x2816, .f32⟩
  | .hbm, ⟨55, _⟩ => ⟨S8x32x2816, .f32⟩
  | .hbm, ⟨56, _⟩ => ⟨S8x32x2816, .f32⟩
  | .hbm, ⟨57, _⟩ => ⟨S8x32x2816, .f32⟩
  | .hbm, ⟨58, _⟩ => ⟨S_, .f32⟩
  | .hbm, ⟨59, _⟩ => ⟨S8x32x2816, .f32⟩
  | .hbm, ⟨60, _⟩ => ⟨S8x32x2816, .f32⟩
  | .hbm, ⟨61, _⟩ => ⟨S_, .f32⟩
  | .hbm, ⟨62, _⟩ => ⟨S8x32x2816, .f32⟩
  | .hbm, ⟨63, _⟩ => ⟨S8x32x2816, .f32⟩
  | .hbm, ⟨64, _⟩ => ⟨S8x32x2816, .f32⟩
  | .hbm, ⟨65, _⟩ => ⟨S8x32x2816, .f32⟩
  | .hbm, ⟨66, _⟩ => ⟨S1x2816x1024, .f32⟩
  | .hbm, ⟨67, _⟩ => ⟨S2816x1024, .f32⟩
  | .hbm, ⟨68, _⟩ => ⟨S8x32x1024, .f32⟩
  | .hbm, ⟨69, _⟩ => ⟨S256x1024, .f32⟩
  | .hbm, ⟨70, _⟩ => ⟨S8x8x5632, .f32⟩
  | .hbm, ⟨71, _⟩ => ⟨S8x8x2816, .f32⟩
  | .hbm, ⟨72, _⟩ => ⟨S8x8x2816, .f32⟩
  | .hbm, ⟨73, _⟩ => ⟨S256x1024, .f32⟩
  | .hbm, ⟨74, _⟩ => ⟨S256x1024, .f32⟩
  | .hbm, ⟨75, _⟩ => ⟨S_, .f32⟩
  | .hbm, ⟨76, _⟩ => ⟨S256, .f32⟩
  | .hbm, ⟨77, _⟩ => ⟨S256x1, .f32⟩
  | .hbm, ⟨78, _⟩ => ⟨S_, .f32⟩
  | .hbm, ⟨79, _⟩ => ⟨S256x1, .f32⟩
  | .hbm, ⟨80, _⟩ => ⟨S256x1, .f32⟩
  | .hbm, ⟨81, _⟩ => ⟨S_, .f32⟩
  | .hbm, ⟨82, _⟩ => ⟨S256x1, .f32⟩
  | .hbm, ⟨83, _⟩ => ⟨S256x1, .f32⟩
  | .hbm, ⟨84, _⟩ => ⟨S256x1, .f32⟩
  | .hbm, ⟨85, _⟩ => ⟨S256x1024, .f32⟩
  | .hbm, ⟨86, _⟩ => ⟨S256x1024, .f32⟩
  | .hbm, ⟨87, _⟩ => ⟨S1x1024, .f32⟩
  | .hbm, ⟨88, _⟩ => ⟨S256x1024, .f32⟩
  | .hbm, ⟨89, _⟩ => ⟨S256x1024, .f32⟩
  | .hbm, ⟨90, _⟩ => ⟨S1024x2816, .f32⟩
  | .hbm, ⟨91, _⟩ => ⟨S1024x11x256, .f32⟩
  | .hbm, ⟨92, _⟩ => ⟨S11x1024x256, .f32⟩
  | .hbm, ⟨93, _⟩ => ⟨S11x1024x256, .bf16⟩
  | .hbm, ⟨94, _⟩ => ⟨S1024x2816, .f32⟩
  | .hbm, ⟨95, _⟩ => ⟨S1024x11x256, .f32⟩
  | .hbm, ⟨96, _⟩ => ⟨S11x1024x256, .f32⟩
  | .hbm, ⟨97, _⟩ => ⟨S11x1024x256, .bf16⟩
  | .hbm, ⟨98, _⟩ => ⟨S1x2816x1024, .f32⟩
  | .hbm, ⟨99, _⟩ => ⟨S2816x1024, .f32⟩
  | .hbm, ⟨100, _⟩ => ⟨S2816x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_2 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Proof.FfnStage.lean ====
module

public import proofs.«01_k».proof.Proof.Gen.FfnIdeal.Value
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.FfnIdeal.Body

open Cert.FfnIdeal Cert.FfnIdeal.Gen Idealize.ShloMosaic Idealize.ShloMosaic.TcCoe Idealize.SL.Sem

/-- What a load of 512 rows at row `d` of a staging plane reads, when the plane's first 8 rows hold `hist` and the others hold `a`. -/
def tap {α : Type} (d : ℕ) (hd : d ≤ 8) (hist : S8x256.Idx → α) (a : S512x256.Idx → α) : S512x256.Idx → α := fun i =>
  if h : 8 ≤ d + (i 0).val then
    a (ix2 (⟨d + (i 0).val - 8, by have : (i 0).val < 512 := (i 0).isLt; omega⟩ : Fin 512) (i 1 : Fin 256))
  else hist (ix2 (⟨d + (i 0).val, by omega⟩ : Fin 8) (i 1 : Fin 256))

variable {F : FTy → Type} [FloatOps F]

/-- A value carried back from a box lifted over a leading unit axis, at an index: the value at that index behind a coordinate `0`. -/
theorem valAlong_lift {n : ℕ} {d : Fin n → ℕ} (lr : LoadRect ⟨n, d⟩) (sz : Fin (n + 1) → ℕ) (h0 : sz 0 = 1) (hs : ∀ i, sz i.succ = d i)
    (q : lr.shape.numel = (lr.consLift sz h0 hs).shape.numel) {V : Type} (w : (lr.consLift sz h0 hs).shape.Idx → V) (i : lr.shape.Idx) :
    LoadRect.valAlong q w i = w (Fin.cons ⟨0, Nat.one_pos⟩ i) :=
  congrArg w (Shape.reshapeEquiv_cons_one (d := lr.size) _ _)

set_option maxHeartbeats 4000000 in
theorem tap_read {sig : RefSig} {κ : Kind} {sp : Space} (v : View sig κ sp S4x520x256 .f32) (s d : ℕ) (hd : d ≤ 8)
    (hs : ∀ a, ![s, 0, 0] a + S1x520x256.size a ≤ S4x520x256.size a)
    (h8 : ∀ a, ![8, 0] a + S512x256.size a ≤ S520x256.size a) (h0 : ∀ a, ![0, 0] a + S8x256.size a ≤ S520x256.size a)
    (hl : ∀ a, ![d, 0] a + S512x256.size a ≤ S520x256.size a) (p1 : (![1, 520, 256] : Fin (2 + 1) → ℕ) 0 = 1)
    (p2 : ∀ i : Fin 2, (![1, 520, 256] : Fin (2 + 1) → ℕ) i.succ = (![520, 256] : Fin 2 → ℕ) i)
    (p3 : ∀ a, (Rect.unit (s := S4x520x256) ![s, 0, 0] S1x520x256.size hs).stride a = 1)
    (q8 : (Rect.consLift (n := 2) (d := ![520, 256]) (Rect.unit (s := S520x256) ![8, 0] S512x256.size h8) ![1, 520, 256] p1 p2).shape.numel = (Rect.unit (s := S520x256) ![8, 0] S512x256.size h8).shape.numel)
    (q0 : (Rect.consLift (n := 2) (d := ![520, 256]) (Rect.unit (s := S520x256) ![0, 0] S8x256.size h0) ![1, 520, 256] p1 p2).shape.numel = (Rect.unit (s := S520x256) ![0, 0] S8x256.size h0).shape.numel)
    (ql : (Rect.unit (s := S520x256) ![d, 0] S512x256.size hl).toLoadRect.shape.numel = (LoadRect.consLift (n := 2) (d := ![520, 256]) (Rect.unit (s := S520x256) ![d, 0] S512x256.size hl).toLoadRect ![1, 520, 256] p1 p2).shape.numel)
    (a : S512x256.Idx → Elt F .f32) (hist : S8x256.Idx → Elt F .f32) (L : List (View.Piece (Elt F) S4x520x256 .f32)) :
    LoadRect.valAlong (s₀ := (Rect.unit (s := S4x520x256) ![s, 0, 0] S1x520x256.size hs).shape) (LR := (LoadRect.consLift (n := 2) (d := ![520, 256]) (Rect.unit (s := S520x256) ![d, 0] S512x256.size hl).toLoadRect ![1, 520, 256] p1 p2)) ql (v.readCov (Val := Elt F)
        (⟨(Rect.unit (s := S4x520x256) ![s, 0, 0] S1x520x256.size hs).within (Rect.consLift (n := 2) (d := ![520, 256]) (Rect.unit (s := S520x256) ![8, 0] S512x256.size h8) ![1, 520, 256] p1 p2) p3,
            Rect.payAlong (s₀ := (Rect.unit (s := S4x520x256) ![s, 0, 0] S1x520x256.size hs).shape) (R := (Rect.consLift (n := 2) (d := ![520, 256]) (Rect.unit (s := S520x256) ![8, 0] S512x256.size h8) ![1, 520, 256] p1 p2)) q8 a⟩
          :: ⟨(Rect.unit (s := S4x520x256) ![s, 0, 0] S1x520x256.size hs).within (Rect.consLift (n := 2) (d := ![520, 256]) (Rect.unit (s := S520x256) ![0, 0] S8x256.size h0) ![1, 520, 256] p1 p2) p3,
            Rect.payAlong (s₀ := (Rect.unit (s := S4x520x256) ![s, 0, 0] S1x520x256.size hs).shape) (R := (Rect.consLift (n := 2) (d := ![520, 256]) (Rect.unit (s := S520x256) ![0, 0] S8x256.size h0) ![1, 520, 256] p1 p2)) q0 hist⟩ :: L)
        ((Rect.unit (s := S4x520x256) ![s, 0, 0] S1x520x256.size hs).withinL (LoadRect.consLift (n := 2) (d := ![520, 256]) (Rect.unit (s := S520x256) ![d, 0] S512x256.size hl).toLoadRect ![1, 520, 256] p1 p2) p3))
      = tap d hd hist a := by
  rw [View.readCov_eq_canon']
  funext i
  have hi0 : (i 0).val < 512 := (i 0).isLt
  refine (valAlong_lift _ _ _ _ _ _ _).trans ?_
  unfold tap
  split
  · rename_i h
    have e := View.canon_cons_emb (Val := Elt F) ((Rect.unit (s := S4x520x256) ![s, 0, 0] S1x520x256.size hs).within (Rect.consLift (n := 2) (d := ![520, 256]) (Rect.unit (s := S520x256) ![8, 0] S512x256.size h8) ![1, 520, 256] p1 p2) p3)
      (Rect.payAlong (s₀ := (Rect.unit (s := S4x520x256) ![s, 0, 0] S1x520x256.size hs).shape) (R := (Rect.consLift (n := 2) (d := ![520, 256]) (Rect.unit (s := S520x256) ![8, 0] S512x256.size h8) ![1, 520, 256] p1 p2)) q8 a)
      (⟨(Rect.unit (s := S4x520x256) ![s, 0, 0] S1x520x256.size hs).within (Rect.consLift (n := 2) (d := ![520, 256]) (Rect.unit (s := S520x256) ![0, 0] S8x256.size h0) ![1, 520, 256] p1 p2) p3, Rect.payAlong (s₀ := (Rect.unit (s := S4x520x256) ![s, 0, 0] S1x520x256.size hs).shape) (R := (Rect.consLift (n := 2) (d := ![520, 256]) (Rect.unit (s := S520x256) ![0, 0] S8x256.size h0) ![1, 520, 256] p1 p2)) q0 hist⟩ :: L)
      (Fin.cons ⟨0, Nat.one_pos⟩ (ix2 (⟨d + (i 0).val - 8, by omega⟩ : Fin 512) (i 1 : Fin 256)))
    refine Eq.trans ?_ (e.trans (Rect.payAlong_consLift _ _ _ _ _ _ _ _ (fun _ => rfl)))
    congr 1
    funext b; apply Fin.ext
    fin_cases b
    · rfl
    · show 0 + d + 1 * (i 0).val = 0 + 8 + 1 * (d + (i 0).val - 8); omega
    · rfl
  · rename_i h
    have e := View.canon_cons_emb (Val := Elt F) ((Rect.unit (s := S4x520x256) ![s, 0, 0] S1x520x256.size hs).within (Rect.consLift (n := 2) (d := ![520, 256]) (Rect.unit (s := S520x256) ![0, 0] S8x256.size h0) ![1, 520, 256] p1 p2) p3)
      (Rect.payAlong (s₀ := (Rect.unit (s := S4x520x256) ![s, 0, 0] S1x520x256.size hs).shape) (R := (Rect.consLift (n := 2) (d := ![520, 256]) (Rect.unit (s := S520x256) ![0, 0] S8x256.size h0) ![1, 520, 256] p1 p2)) q0 hist) L
      (Fin.cons ⟨0, Nat.one_pos⟩ (ix2 (⟨d + (i 0).val, by omega⟩ : Fin 8) (i 1 : Fin 256)))
    rw [View.canon_cons_of_not_mem]
    · refine Eq.trans ?_ (e.trans (Rect.payAlong_consLift _ _ _ _ _ _ _ _ (fun _ => rfl)))
      congr 1
      funext b; apply Fin.ext
      fin_cases b
      · rfl
      · show 0 + d + 1 * (i 0).val = 0 + 0 + 1 * (d + (i 0).val); omega
      · rfl
    · rw [LoadRect.mem_set]
      intro hm
      obtain ⟨k, hk, e⟩ := hm 1
      have e' : 0 + d + 1 * (i 0).val = 0 + 8 + 1 * k := e
      omega

/-- `tap_read` with the sizes written out. -/
theorem tap_read_lit {sig : RefSig} {κ : Kind} {sp : Space} (v : View sig κ sp S4x520x256 .f32) (s d : ℕ) (hd : d ≤ 8)
    (hs : ∀ a, ![s, 0, 0] a + (![1, 520, 256] : Fin 3 → ℕ) a ≤ S4x520x256.size a)
    (h8 : ∀ a, ![8, 0] a + (![512, 256] : Fin 2 → ℕ) a ≤ S520x256.size a) (h0 : ∀ a, ![0, 0] a + (![8, 256] : Fin 2 → ℕ) a ≤ S520x256.size a)
    (hl : ∀ a, ![d, 0] a + (![512, 256] : Fin 2 → ℕ) a ≤ S520x256.size a) (p1 : (![1, 520, 256] : Fin (2 + 1) → ℕ) 0 = 1)
    (p2 : ∀ i : Fin 2, (![1, 520, 256] : Fin (2 + 1) → ℕ) i.succ = (![520, 256] : Fin 2 → ℕ) i)
    (p3 : ∀ a, (Rect.unit (s := S4x520x256) ![s, 0, 0] ![1, 520, 256] hs).stride a = 1)
    (q8 : (Rect.consLift (n := 2) (d := ![520, 256]) (Rect.unit (s := S520x256) ![8, 0] ![512, 256] h8) ![1, 520, 256] p1 p2).shape.numel = (Rect.unit (s := S520x256) ![8, 0] ![512, 256] h8).shape.numel)
    (q0 : (Rect.consLift (n := 2) (d := ![520, 256]) (Rect.unit (s := S520x256) ![0, 0] ![8, 256] h0) ![1, 520, 256] p1 p2).shape.numel = (Rect.unit (s := S520x256) ![0, 0] ![8, 256] h0).shape.numel)
    (ql : (Rect.unit (s := S520x256) ![d, 0] ![512, 256] hl).toLoadRect.shape.numel = (LoadRect.consLift (n := 2) (d := ![520, 256]) (Rect.unit (s := S520x256) ![d, 0] ![512, 256] hl).toLoadRect ![1, 520, 256] p1 p2).shape.numel)
    (a : S512x256.Idx → Elt F .f32) (hist : S8x256.Idx → Elt F .f32) (L : List (View.Piece (Elt F) S4x520x256 .f32)) :
    LoadRect.valAlong (s₀ := (Rect.unit (s := S4x520x256) ![s, 0, 0] ![1, 520, 256] hs).shape) (LR := (LoadRect.consLift (n := 2) (d := ![520, 256]) (Rect.unit (s := S520x256) ![d, 0] ![512, 256] hl).toLoadRect ![1, 520, 256] p1 p2)) ql (v.readCov (Val := Elt F)
        (⟨(Rect.unit (s := S4x520x256) ![s, 0, 0] ![1, 520, 256] hs).within (Rect.consLift (n := 2) (d := ![520, 256]) (Rect.unit (s := S520x256) ![8, 0] ![512, 256] h8) ![1, 520, 256] p1 p2) p3,
            Rect.payAlong (s₀ := (Rect.unit (s := S4x520x256) ![s, 0, 0] ![1, 520, 256] hs).shape) (R := (Rect.consLift (n := 2) (d := ![520, 256]) (Rect.unit (s := S520x256) ![8, 0] ![512, 256] h8) ![1, 520, 256] p1 p2)) q8 a⟩
          :: ⟨(Rect.unit (s := S4x520x256) ![s, 0, 0] ![1, 520, 256] hs).within (Rect.consLift (n := 2) (d := ![520, 256]) (Rect.unit (s := S520x256) ![0, 0] ![8, 256] h0) ![1, 520, 256] p1 p2) p3,
            Rect.payAlong (s₀ := (Rect.unit (s := S4x520x256) ![s, 0, 0] ![1, 520, 256] hs).shape) (R := (Rect.consLift (n := 2) (d := ![520, 256]) (Rect.unit (s := S520x256) ![0, 0] ![8, 256] h0) ![1, 520, 256] p1 p2)) q0 hist⟩ :: L)
        ((Rect.unit (s := S4x520x256) ![s, 0, 0] ![1, 520, 256] hs).withinL (LoadRect.consLift (n := 2) (d := ![520, 256]) (Rect.unit (s := S520x256) ![d, 0] ![512, 256] hl).toLoadRect ![1, 520, 256] p1 p2) p3))
      = tap d hd hist a := tap_read v s d hd hs h8 h0 hl p1 p2 p3 q8 q0 ql a hist L

end Cert.FfnIdeal.Body

end
-- ==== Proof.FfnBlock.lean ====
module

public import proofs.«01_k».proof.Proof.FfnStage
public import Idealize.ShloMosaic.Lib.Pipeline.ValueKit
public import Idealize.ShloMosaic.Lib.Pipeline.ReadBack

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

/-- The index in `Fin 22` of the up-projection's column block that starts at column `256 * k`. -/
abbrev gateOf (j : Fin 11) : Fin 22 := ⟨j.val, by omega⟩
/-- The value half's column block of chunk `j`. -/
abbrev valOf (j : Fin 11) : Fin 22 := ⟨11 + j.val, by omega⟩

theorem inb_slab (j : Fin 11) : ∀ a, ![j.val, 0, 0] a + (![1, 1024, 256] : Fin 3 → ℕ) a ≤ S11x1024x256.size a := by
  intro a; have := j.isLt; fin_cases a
  · show j.val + 1 ≤ 11; omega
  · show 0 + 1024 ≤ 1024; omega
  · show 0 + 256 ≤ 256; omega
theorem inb_col3 (j : Fin 22) : ∀ a, ![0, 0, 256 * j.val] a + (![1, 3, 256] : Fin 3 → ℕ) a ≤ S1x3x5632.size a := by
  intro a; have := j.isLt; fin_cases a
  · show 0 + 1 ≤ 1; omega
  · show 0 + 3 ≤ 3; omega
  · show 256 * j.val + 256 ≤ 5632; omega
theorem inb_col1 (j : Fin 22) : ∀ a, ![0, 0, 256 * j.val] a + (![1, 1, 256] : Fin 3 → ℕ) a ≤ S1x1x5632.size a := by
  intro a; have := j.isLt; fin_cases a
  · show 0 + 1 ≤ 1; omega
  · show 0 + 1 ≤ 1; omega
  · show 256 * j.val + 256 ≤ 5632; omega
theorem inb_col8 (j : Fin 22) : ∀ a, ![0, 0, 256 * j.val] a + (![1, 8, 256] : Fin 3 → ℕ) a ≤ S1x8x5632.size a := by
  intro a; have := j.isLt; fin_cases a
  · show 0 + 1 ≤ 1; omega
  · show 0 + 8 ≤ 8; omega
  · show 256 * j.val + 256 ≤ 5632; omega

/-- Chunk `j`'s slab of a packed weight. -/
abbrev slab (w : Vec F S11x1024x256 .bf16) (j : Fin 11) : Vec F S1x1024x256 .bf16 := View.ld w (Rect.unit (s := S11x1024x256) ![j.val, 0, 0] ![1, 1024, 256] (inb_slab j))
/-- Columns `256 * j …` of the convolution's taps. -/
abbrev col3 (x : Vec F S1x3x5632 .f32) (j : Fin 22) : Vec F S1x3x256 .f32 := View.ld x (Rect.unit (s := S1x3x5632) ![0, 0, 256 * j.val] ![1, 3, 256] (inb_col3 j))
/-- Columns `256 * j …` of the convolution's bias. -/
abbrev col1 (x : Vec F S1x1x5632 .f32) (j : Fin 22) : Vec F S1x1x256 .f32 := View.ld x (Rect.unit (s := S1x1x5632) ![0, 0, 256 * j.val] ![1, 1, 256] (inb_col1 j))
/-- Columns `256 * j …` of the eight rows carried from the tile before. -/
abbrev col8 (x : Vec F S1x8x5632 .f32) (j : Fin 22) : Vec F S1x8x256 .f32 := View.ld x (Rect.unit (s := S1x8x5632) ![0, 0, 256 * j.val] ![1, 8, 256] (inb_col8 j))

/-- One column block of the up-projection of a tile. -/
def up (h : Vec F S512x1024 .bf16) (w : Vec F S1x1024x256 .bf16) : FVec F S512x256 .f32 := k0_pay8 (k0_pay5 h w)
/-- The carried rows as a plane of 8 rows. -/
def histOf (p : Vec F S1x8x256 .f32) : FVec F S8x256 .f32 := k0_pay7 (k0_pay6 p)
/-- The convolution of one column block: bias and three taps over the rows staged behind the carried ones. -/
def conv (cw : Vec F S1x3x256 .f32) (cb : Vec F S1x1x256 .f32) (hist : FVec F S8x256 .f32) (a : FVec F S512x256 .f32) : FVec F S512x256 .f32 :=
  k0_pay12 (k0_pay10 cw) (k0_pay11 cw cb (tap 8 (by decide) hist a) (tap 7 (by decide) hist a)) (tap 6 (by decide) hist a)
/-- `silu(gate) * value` from the two convolved column blocks, rounded to the product's type. -/
def glu (g v : FVec F S512x256 .f32) : FVec F S512x256 .bf16 :=
  shapeCast S512x256 (truncf .bf16 (mulf (mulf g (logistic g)) v) bitsLt_bf16_f32) shapeCasts_S512x256_S512x256

/-- Chunk `j` of the activations of a tile. -/
def actJ (h : Vec F S512x1024 .bf16) (x2 x3 : Vec F S11x1024x256 .bf16) (x4 : Vec F S1x3x5632 .f32) (x5 : Vec F S1x1x5632 .f32) (p : Vec F S1x8x5632 .f32) (j : Fin 11) : FVec F S512x256 .bf16 :=
  glu (conv (col3 x4 (gateOf j)) (col1 x5 (gateOf j)) (histOf (col8 p (gateOf j))) (up h (slab x2 j)))
    (conv (col3 x4 (valOf j)) (col1 x5 (valOf j)) (histOf (col8 p (valOf j))) (up h (slab x3 j)))

/-- The activations of a tile, all chunks side by side. -/
def acts (h : Vec F S512x1024 .bf16) (x2 x3 : Vec F S11x1024x256 .bf16) (x4 : Vec F S1x3x5632 .f32) (x5 : Vec F S1x1x5632 .f32) (p : Vec F S1x8x5632 .f32) : Vec F S512x2816 .bf16 := fun y =>
  actJ h x2 x3 x4 x5 p ⟨(y 1).val / 256, by have : (y 1).val < 2816 := (y 1).isLt; omega⟩ (ix2 (y 0 : Fin 512) (⟨(y 1).val % 256, by omega⟩ : Fin 256))

theorem acts_at (h : Vec F S512x1024 .bf16) (x2 x3 : Vec F S11x1024x256 .bf16) (x4 : Vec F S1x3x5632 .f32) (x5 : Vec F S1x1x5632 .f32) (p : Vec F S1x8x5632 .f32) (j : Fin 11)
    (x : S512x256.Idx) (y : S512x2816.Idx) (h0 : (y 0).val = (x 0).val) (h1 : (y 1).val = 256 * j.val + (x 1).val) :
    actJ h x2 x3 x4 x5 p j x = acts h x2 x3 x4 x5 p y := by
  have hx : (x 1).val < 256 := (x 1).isLt
  unfold acts
  have e : (⟨(y 1).val / 256, by have : (y 1).val < 2816 := (y 1).isLt; omega⟩ : Fin 11) = j := Fin.ext (by show (y 1).val / 256 = j.val; omega)
  rw [e]
  congr 1
  funext a; apply Fin.ext; fin_cases a
  · exact h0.symm
  · show (x 1).val = (y 1).val % 256; omega

/-- Stores that cover an index hide every earlier store there. -/
theorem canon_drop_fill {s : Shape} {e : EltTy} (L : List (View.Piece (Elt F) s e)) (L' : List (View.Piece (Elt F) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hy⟩ := hc
      rcases List.mem_cons.mp hq with rfl | hq
      · exact absurd hy hm
      · exact ⟨q, hq, hy⟩

/-- The tile of the result: residual, down-projection, final norm. -/
def yBlk (x0 : Vec F S1x512x1024 .f32) (x1 : Vec F S1x1024 .f32) (x2 x3 : Vec F S11x1024x256 .bf16) (x4 : Vec F S1x3x5632 .f32) (x5 : Vec F S1x1x5632 .f32) (x6 : Vec F S2816x1024 .bf16) (x7 : Vec F S1x1024 .f32) (p : Vec F S1x8x5632 .f32) : FVec F S1x512x1024 .f32 :=
  k0_pay1 (k0_pay158 (k0_pay3 x0) (acts (k0_pay4 x0 x1) x2 x3 x4 x5 p) x6) x7

/-- Column block `j` (of 22) of the last eight rows of the up-projection of a tile. -/
def lastJ (h : Vec F S512x1024 .bf16) (x2 x3 : Vec F S11x1024x256 .bf16) (j : Fin 22) : FVec F S1x8x256 .f32 :=
  k0_pay9 (k0_pay5 h (if hj : j.val < 11 then slab x2 ⟨j.val, hj⟩ else slab x3 ⟨j.val - 11, by omega⟩))
/-- The rows that a tile leaves for the next. -/
def lastBlk (h : Vec F S512x1024 .bf16) (x2 x3 : Vec F S11x1024x256 .bf16) : Vec F S1x8x5632 .f32 := fun y =>
  lastJ h x2 x3 ⟨(y 2).val / 256, by have : (y 2).val < 5632 := (y 2).isLt; omega⟩ (ix3 (0 : Fin 1) (y 1 : Fin 8) (⟨(y 2).val % 256, by omega⟩ : Fin 256))

theorem last_at (h : Vec F S512x1024 .bf16) (x2 x3 : Vec F S11x1024x256 .bf16) (j : Fin 22)
    (x : S1x8x256.Idx) (y : S1x8x5632.Idx) (h1 : (y 1).val = (x 1).val) (h2 : (y 2).val = 256 * j.val + (x 2).val) :
    lastJ h x2 x3 j x = lastBlk h x2 x3 y := by
  have hx : (x 2).val < 256 := (x 2).isLt
  have hx0 : (x 0).val < 1 := (x 0).isLt
  unfold lastBlk
  have e : (⟨(y 2).val / 256, by have : (y 2).val < 5632 := (y 2).isLt; omega⟩ : Fin 22) = j := Fin.ext (by show (y 2).val / 256 = j.val; omega)
  rw [e]
  congr 1
  funext a; apply Fin.ext; fin_cases a
  · show (x 0).val = 0; omega
  · exact h1.symm
  · show (x 2).val = (y 2).val % 256; omega

set_option maxHeartbeats 4000000 in
/-- What a point of case B leaves in the result's tile. -/
theorem out_B_8 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S11x1024x256 .bf16) (harg4 : arg4.IsWhole) (arg5 : Memref sig .tc .vmem S11x1024x256 .bf16) (harg5 : arg5.IsWhole) (arg6 : Memref sig .tc .vmem S1x3x5632 .f32) (harg6 : arg6.IsWhole) (arg7 : Memref sig .tc .vmem S1x1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x8x5632 .f32) (harg11 : arg11.IsWhole) (arg12 : Memref sig .tc .vmem S512x1024 .bf16) (harg12 : arg12.IsWhole) (arg13 : Memref sig .tc .vmem S4x520x256 .f32) (harg13 : arg13.IsWhole) (arg14 : Memref sig .tc .vmem S512x2816 .bf16) (harg14 : arg14.IsWhole) (hc0 : ¬cond0_0 i)
    (x0 : Vec F S1x512x1024 .f32) (x1 : Vec F S1x1024 .f32) (x2 : Vec F S11x1024x256 .bf16) (x3 : Vec F S11x1024x256 .bf16) (x4 : Vec F S1x3x5632 .f32) (x5 : Vec F S1x1x5632 .f32) (x6 : Vec F S2816x1024 .bf16) (x7 : Vec F S1x1024 .f32) (xo9 : Vec F S1x8x5632 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 = yBlk x0 x1 x2 x3 x4 x5 x6 x7 xo9 := by
  frame_open
  frame_out
  repeat rw [tap_read_lit _ _ 8 (by decide)]
  repeat rw [tap_read_lit _ _ 7 (by decide)]
  repeat rw [tap_read_lit _ _ 6 (by decide)]
  unfold yBlk
  refine congrArg (fun z => k0_pay1 (k0_pay158 (k0_pay3 x0) z x6) x7) ?_
  rw [View.readCov_eq_canon']
  funext y
  have hy : (Rect.unit (s := S512x2816) ![0, 0] ![512, 2816] inb_S512x2816_S512x2816_0_0).toLoadRect.idx y = y := by
    funext a; apply Fin.ext
    fin_cases a
    · show 0 + 1 * (y 0).val = (y 0).val; omega
    · show 0 + 1 * (y 1).val = (y 1).val; omega
  rw [hy]
  canon_tiles x h
  · exact acts_at (k0_pay4 x0 x1) x2 x3 x4 x5 xo9 ⟨10, by decide⟩ x y (by omega) (by show _ = 256 * 10 + _; omega)
  · exact acts_at (k0_pay4 x0 x1) x2 x3 x4 x5 xo9 ⟨9, by decide⟩ x y (by omega) (by show _ = 256 * 9 + _; omega)
  · exact acts_at (k0_pay4 x0 x1) x2 x3 x4 x5 xo9 ⟨8, by decide⟩ x y (by omega) (by show _ = 256 * 8 + _; omega)
  · exact acts_at (k0_pay4 x0 x1) x2 x3 x4 x5 xo9 ⟨7, by decide⟩ x y (by omega) (by show _ = 256 * 7 + _; omega)
  · exact acts_at (k0_pay4 x0 x1) x2 x3 x4 x5 xo9 ⟨6, by decide⟩ x y (by omega) (by show _ = 256 * 6 + _; omega)
  · exact acts_at (k0_pay4 x0 x1) x2 x3 x4 x5 xo9 ⟨5, by decide⟩ x y (by omega) (by show _ = 256 * 5 + _; omega)
  · exact acts_at (k0_pay4 x0 x1) x2 x3 x4 x5 xo9 ⟨4, by decide⟩ x y (by omega) (by show _ = 256 * 4 + _; omega)
  · exact acts_at (k0_pay4 x0 x1) x2 x3 x4 x5 xo9 ⟨3, by decide⟩ x y (by omega) (by show _ = 256 * 3 + _; omega)
  · exact acts_at (k0_pay4 x0 x1) x2 x3 x4 x5 xo9 ⟨2, by decide⟩ x y (by omega) (by show _ = 256 * 2 + _; omega)
  · exact acts_at (k0_pay4 x0 x1) x2 x3 x4 x5 xo9 ⟨1, by decide⟩ x y (by omega) (by show _ = 256 * 1 + _; omega)
  · exact acts_at (k0_pay4 x0 x1) x2 x3 x4 x5 xo9 ⟨0, by decide⟩ x y (by omega) (by show _ = 256 * 0 + _; omega)

end Cert.FfnIdeal.Body

end
-- ==== Proof.FfnFirst.lean ====
module

public import proofs.«01_k».proof.Proof.FfnBlock
public import Idealize.ShloMosaic.Lib.Pipeline.ValueKit
public import Idealize.ShloMosaic.Lib.Pipeline.ReadBack

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

set_option maxHeartbeats 4000000 in
/-- What a point of case A leaves in the result's tile. -/
theorem out_A_8 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S11x1024x256 .bf16) (harg4 : arg4.IsWhole) (arg5 : Memref sig .tc .vmem S11x1024x256 .bf16) (harg5 : arg5.IsWhole) (arg6 : Memref sig .tc .vmem S1x3x5632 .f32) (harg6 : arg6.IsWhole) (arg7 : Memref sig .tc .vmem S1x1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x8x5632 .f32) (harg11 : arg11.IsWhole) (arg12 : Memref sig .tc .vmem S512x1024 .bf16) (harg12 : arg12.IsWhole) (arg13 : Memref sig .tc .vmem S4x520x256 .f32) (harg13 : arg13.IsWhole) (arg14 : Memref sig .tc .vmem S512x2816 .bf16) (harg14 : arg14.IsWhole) (hc0 : cond0_0 i)
    (x0 : Vec F S1x512x1024 .f32) (x1 : Vec F S1x1024 .f32) (x2 : Vec F S11x1024x256 .bf16) (x3 : Vec F S11x1024x256 .bf16) (x4 : Vec F S1x3x5632 .f32) (x5 : Vec F S1x1x5632 .f32) (x6 : Vec F S2816x1024 .bf16) (x7 : Vec F S1x1024 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = yBlk x0 x1 x2 x3 x4 x5 x6 x7 (k0_pay2 (F := F)) := by
  frame_open
  simp (disch := decide) only [↓ View.readCov_skip, ↓ View.readCov_fill]
  frame_out
  repeat rw [tap_read_lit _ _ 8 (by decide)]
  repeat rw [tap_read_lit _ _ 7 (by decide)]
  repeat rw [tap_read_lit _ _ 6 (by decide)]
  unfold yBlk
  refine congrArg (fun z => k0_pay1 (k0_pay158 (k0_pay3 x0) z x6) x7) ?_
  rw [View.readCov_eq_canon']
  funext y
  have hy : (Rect.unit (s := S512x2816) ![0, 0] ![512, 2816] inb_S512x2816_S512x2816_0_0).toLoadRect.idx y = y := by
    funext a; apply Fin.ext
    fin_cases a
    · show 0 + 1 * (y 0).val = (y 0).val; omega
    · show 0 + 1 * (y 1).val = (y 1).val; omega
  rw [hy]
  canon_tiles x h
  · exact acts_at (k0_pay4 x0 x1) x2 x3 x4 x5 (k0_pay2 (F := F)) ⟨10, by decide⟩ x y (by omega) (by show _ = 256 * 10 + _; omega)
  · exact acts_at (k0_pay4 x0 x1) x2 x3 x4 x5 (k0_pay2 (F := F)) ⟨9, by decide⟩ x y (by omega) (by show _ = 256 * 9 + _; omega)
  · exact acts_at (k0_pay4 x0 x1) x2 x3 x4 x5 (k0_pay2 (F := F)) ⟨8, by decide⟩ x y (by omega) (by show _ = 256 * 8 + _; omega)
  · exact acts_at (k0_pay4 x0 x1) x2 x3 x4 x5 (k0_pay2 (F := F)) ⟨7, by decide⟩ x y (by omega) (by show _ = 256 * 7 + _; omega)
  · exact acts_at (k0_pay4 x0 x1) x2 x3 x4 x5 (k0_pay2 (F := F)) ⟨6, by decide⟩ x y (by omega) (by show _ = 256 * 6 + _; omega)
  · exact acts_at (k0_pay4 x0 x1) x2 x3 x4 x5 (k0_pay2 (F := F)) ⟨5, by decide⟩ x y (by omega) (by show _ = 256 * 5 + _; omega)
  · exact acts_at (k0_pay4 x0 x1) x2 x3 x4 x5 (k0_pay2 (F := F)) ⟨4, by decide⟩ x y (by omega) (by show _ = 256 * 4 + _; omega)
  · exact acts_at (k0_pay4 x0 x1) x2 x3 x4 x5 (k0_pay2 (F := F)) ⟨3, by decide⟩ x y (by omega) (by show _ = 256 * 3 + _; omega)
  · exact acts_at (k0_pay4 x0 x1) x2 x3 x4 x5 (k0_pay2 (F := F)) ⟨2, by decide⟩ x y (by omega) (by show _ = 256 * 2 + _; omega)
  · exact acts_at (k0_pay4 x0 x1) x2 x3 x4 x5 (k0_pay2 (F := F)) ⟨1, by decide⟩ x y (by omega) (by show _ = 256 * 1 + _; omega)
  · exact acts_at (k0_pay4 x0 x1) x2 x3 x4 x5 (k0_pay2 (F := F)) ⟨0, by decide⟩ x y (by omega) (by show _ = 256 * 0 + _; omega)

end Cert.FfnIdeal.Body

end
-- ==== Proof.FfnCarryA.lean ====
module

public import proofs.«01_k».proof.Proof.FfnBlock
public import Idealize.ShloMosaic.Lib.Pipeline.ValueKit
public import Idealize.ShloMosaic.Lib.Pipeline.ReadBack

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

set_option maxHeartbeats 4000000 in
/-- The rows that a point of case A leaves for the next. -/
theorem out_A_9 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S11x1024x256 .bf16) (harg4 : arg4.IsWhole) (arg5 : Memref sig .tc .vmem S11x1024x256 .bf16) (harg5 : arg5.IsWhole) (arg6 : Memref sig .tc .vmem S1x3x5632 .f32) (harg6 : arg6.IsWhole) (arg7 : Memref sig .tc .vmem S1x1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x8x5632 .f32) (harg11 : arg11.IsWhole) (arg12 : Memref sig .tc .vmem S512x1024 .bf16) (harg12 : arg12.IsWhole) (arg13 : Memref sig .tc .vmem S4x520x256 .f32) (harg13 : arg13.IsWhole) (arg14 : Memref sig .tc .vmem S512x2816 .bf16) (harg14 : arg14.IsWhole) (hc0 : cond0_0 i)
    (x0 : Vec F S1x512x1024 .f32) (x1 : Vec F S1x1024 .f32) (x2 : Vec F S11x1024x256 .bf16) (x3 : Vec F S11x1024x256 .bf16) (x4 : Vec F S1x3x5632 .f32) (x5 : Vec F S1x1x5632 .f32) (x6 : Vec F S2816x1024 .bf16) (x7 : Vec F S1x1024 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = lastBlk (k0_pay4 x0 x1) x2 x3 := by
  frame_open
  simp (disch := decide) only [↓ View.readCov_skip, ↓ View.readCov_cons_toLoadRect, ↓ View.readCov_fill]
  frame_out
  funext y
  refine (canon_drop_fill [_, _, _, _, _, _, _, _, _, _, _, _, _, _, _, _, _, _, _, _, _, _] [_] y (View.cover_of_tiledL _ ![1, 8, 256] (by rfl) y)).trans ?_
  canon_tiles x h
  · exact last_at (k0_pay4 x0 x1) x2 x3 ⟨21, by decide⟩ x y (by omega) (by show _ = 256 * 21 + _; omega)
  · exact last_at (k0_pay4 x0 x1) x2 x3 ⟨10, by decide⟩ x y (by omega) (by show _ = 256 * 10 + _; omega)
  · exact last_at (k0_pay4 x0 x1) x2 x3 ⟨20, by decide⟩ x y (by omega) (by show _ = 256 * 20 + _; omega)
  · exact last_at (k0_pay4 x0 x1) x2 x3 ⟨9, by decide⟩ x y (by omega) (by show _ = 256 * 9 + _; omega)
  · exact last_at (k0_pay4 x0 x1) x2 x3 ⟨19, by decide⟩ x y (by omega) (by show _ = 256 * 19 + _; omega)
  · exact last_at (k0_pay4 x0 x1) x2 x3 ⟨8, by decide⟩ x y (by omega) (by show _ = 256 * 8 + _; omega)
  · exact last_at (k0_pay4 x0 x1) x2 x3 ⟨18, by decide⟩ x y (by omega) (by show _ = 256 * 18 + _; omega)
  · exact last_at (k0_pay4 x0 x1) x2 x3 ⟨7, by decide⟩ x y (by omega) (by show _ = 256 * 7 + _; omega)
  · exact last_at (k0_pay4 x0 x1) x2 x3 ⟨17, by decide⟩ x y (by omega) (by show _ = 256 * 17 + _; omega)
  · exact last_at (k0_pay4 x0 x1) x2 x3 ⟨6, by decide⟩ x y (by omega) (by show _ = 256 * 6 + _; omega)
  · exact last_at (k0_pay4 x0 x1) x2 x3 ⟨16, by decide⟩ x y (by omega) (by show _ = 256 * 16 + _; omega)
  · exact last_at (k0_pay4 x0 x1) x2 x3 ⟨5, by decide⟩ x y (by omega) (by show _ = 256 * 5 + _; omega)
  · exact last_at (k0_pay4 x0 x1) x2 x3 ⟨15, by decide⟩ x y (by omega) (by show _ = 256 * 15 + _; omega)
  · exact last_at (k0_pay4 x0 x1) x2 x3 ⟨4, by decide⟩ x y (by omega) (by show _ = 256 * 4 + _; omega)
  · exact last_at (k0_pay4 x0 x1) x2 x3 ⟨14, by decide⟩ x y (by omega) (by show _ = 256 * 14 + _; omega)
  · exact last_at (k0_pay4 x0 x1) x2 x3 ⟨3, by decide⟩ x y (by omega) (by show _ = 256 * 3 + _; omega)
  · exact last_at (k0_pay4 x0 x1) x2 x3 ⟨13, by decide⟩ x y (by omega) (by show _ = 256 * 13 + _; omega)
  · exact last_at (k0_pay4 x0 x1) x2 x3 ⟨2, by decide⟩ x y (by omega) (by show _ = 256 * 2 + _; omega)
  · exact last_at (k0_pay4 x0 x1) x2 x3 ⟨12, by decide⟩ x y (by omega) (by show _ = 256 * 12 + _; omega)
  · exact last_at (k0_pay4 x0 x1) x2 x3 ⟨1, by decide⟩ x y (by omega) (by show _ = 256 * 1 + _; omega)
  · exact last_at (k0_pay4 x0 x1) x2 x3 ⟨11, by decide⟩ x y (by omega) (by show _ = 256 * 11 + _; omega)
  · exact last_at (k0_pay4 x0 x1) x2 x3 ⟨0, by decide⟩ x y (by omega) (by show _ = 256 * 0 + _; omega)

end Cert.FfnIdeal.Body

end
-- ==== Proof.FfnCarryB.lean ====
module

public import proofs.«01_k».proof.Proof.FfnBlock
public import Idealize.ShloMosaic.Lib.Pipeline.ValueKit
public import Idealize.ShloMosaic.Lib.Pipeline.ReadBack

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

set_option maxHeartbeats 4000000 in
/-- The rows that a point of case B leaves for the next. -/
theorem out_B_9 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S11x1024x256 .bf16) (harg4 : arg4.IsWhole) (arg5 : Memref sig .tc .vmem S11x1024x256 .bf16) (harg5 : arg5.IsWhole) (arg6 : Memref sig .tc .vmem S1x3x5632 .f32) (harg6 : arg6.IsWhole) (arg7 : Memref sig .tc .vmem S1x1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x8x5632 .f32) (harg11 : arg11.IsWhole) (arg12 : Memref sig .tc .vmem S512x1024 .bf16) (harg12 : arg12.IsWhole) (arg13 : Memref sig .tc .vmem S4x520x256 .f32) (harg13 : arg13.IsWhole) (arg14 : Memref sig .tc .vmem S512x2816 .bf16) (harg14 : arg14.IsWhole) (hc0 : ¬cond0_0 i)
    (x0 : Vec F S1x512x1024 .f32) (x1 : Vec F S1x1024 .f32) (x2 : Vec F S11x1024x256 .bf16) (x3 : Vec F S11x1024x256 .bf16) (x4 : Vec F S1x3x5632 .f32) (x5 : Vec F S1x1x5632 .f32) (x6 : Vec F S2816x1024 .bf16) (x7 : Vec F S1x1024 .f32) (xo9 : Vec F S1x8x5632 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 = lastBlk (k0_pay4 x0 x1) x2 x3 := by
  frame_open
  simp (disch := decide) only [↓ View.readCov_skip, ↓ View.readCov_cons_toLoadRect, ↓ View.readCov_fill]
  frame_out
  funext y
  canon_tiles x h
  · exact last_at (k0_pay4 x0 x1) x2 x3 ⟨21, by decide⟩ x y (by omega) (by show _ = 256 * 21 + _; omega)
  · exact last_at (k0_pay4 x0 x1) x2 x3 ⟨10, by decide⟩ x y (by omega) (by show _ = 256 * 10 + _; omega)
  · exact last_at (k0_pay4 x0 x1) x2 x3 ⟨20, by decide⟩ x y (by omega) (by show _ = 256 * 20 + _; omega)
  · exact last_at (k0_pay4 x0 x1) x2 x3 ⟨9, by decide⟩ x y (by omega) (by show _ = 256 * 9 + _; omega)
  · exact last_at (k0_pay4 x0 x1) x2 x3 ⟨19, by decide⟩ x y (by omega) (by show _ = 256 * 19 + _; omega)
  · exact last_at (k0_pay4 x0 x1) x2 x3 ⟨8, by decide⟩ x y (by omega) (by show _ = 256 * 8 + _; omega)
  · exact last_at (k0_pay4 x0 x1) x2 x3 ⟨18, by decide⟩ x y (by omega) (by show _ = 256 * 18 + _; omega)
  · exact last_at (k0_pay4 x0 x1) x2 x3 ⟨7, by decide⟩ x y (by omega) (by show _ = 256 * 7 + _; omega)
  · exact last_at (k0_pay4 x0 x1) x2 x3 ⟨17, by decide⟩ x y (by omega) (by show _ = 256 * 17 + _; omega)
  · exact last_at (k0_pay4 x0 x1) x2 x3 ⟨6, by decide⟩ x y (by omega) (by show _ = 256 * 6 + _; omega)
  · exact last_at (k0_pay4 x0 x1) x2 x3 ⟨16, by decide⟩ x y (by omega) (by show _ = 256 * 16 + _; omega)
  · exact last_at (k0_pay4 x0 x1) x2 x3 ⟨5, by decide⟩ x y (by omega) (by show _ = 256 * 5 + _; omega)
  · exact last_at (k0_pay4 x0 x1) x2 x3 ⟨15, by decide⟩ x y (by omega) (by show _ = 256 * 15 + _; omega)
  · exact last_at (k0_pay4 x0 x1) x2 x3 ⟨4, by decide⟩ x y (by omega) (by show _ = 256 * 4 + _; omega)
  · exact last_at (k0_pay4 x0 x1) x2 x3 ⟨14, by decide⟩ x y (by omega) (by show _ = 256 * 14 + _; omega)
  · exact last_at (k0_pay4 x0 x1) x2 x3 ⟨3, by decide⟩ x y (by omega) (by show _ = 256 * 3 + _; omega)
  · exact last_at (k0_pay4 x0 x1) x2 x3 ⟨13, by decide⟩ x y (by omega) (by show _ = 256 * 13 + _; omega)
  · exact last_at (k0_pay4 x0 x1) x2 x3 ⟨2, by decide⟩ x y (by omega) (by show _ = 256 * 2 + _; omega)
  · exact last_at (k0_pay4 x0 x1) x2 x3 ⟨12, by decide⟩ x y (by omega) (by show _ = 256 * 12 + _; omega)
  · exact last_at (k0_pay4 x0 x1) x2 x3 ⟨1, by decide⟩ x y (by omega) (by show _ = 256 * 1 + _; omega)
  · exact last_at (k0_pay4 x0 x1) x2 x3 ⟨11, by decide⟩ x y (by omega) (by show _ = 256 * 11 + _; omega)
  · exact last_at (k0_pay4 x0 x1) x2 x3 ⟨0, by decide⟩ x y (by omega) (by show _ = 256 * 0 + _; omega)

end Cert.FfnIdeal.Body

end
-- ==== Proof.FfnMath.lean ====
module

public import Idealize.ShloMosaic.Lib.Pointwise

@[expose] public section

noncomputable section

namespace Cert.FfnMath

open Idealize.ShloMosaic

/-- A row of 1024 numbers divided by the root of its mean square (plus a small constant) and scaled by a gain. -/
def rms (x g : Fin 1024 → EReal) (k : Fin 1024) : EReal :=
  x k * Ideal.rsqrt (Ideal.div (∑ i, x i * x i) (Ideal.ofBits FTy.f32 1149239296#32) + Ideal.ofBits FTy.f32 897988541#32) * g k

/-- The arguments of the feed-forward layer, each read by its coordinates; the convolution's taps and bias are those of the layer used. -/
structure Args where
  X : Fin 2 → Fin 8192 → Fin 1024 → EReal
  G : Fin 1024 → EReal
  Wg : Fin 11 → Fin 1024 → Fin 256 → EReal
  Wv : Fin 11 → Fin 1024 → Fin 256 → EReal
  CW : Fin 3 → Fin 5632 → EReal
  CB : Fin 5632 → EReal
  Wd : Fin 2816 → Fin 1024 → EReal
  FG : Fin 1024 → EReal

variable (P : Args)

/-- Block `j` of the up-projection's columns: the first eleven are the gate's, the others the value's. -/
def wBlk (j : Fin 22) (i : Fin 1024) (k : Fin 256) : EReal :=
  if hj : j.val < 11 then P.Wg ⟨j.val, hj⟩ i k else P.Wv ⟨j.val - 11, by omega⟩ i k

/-- Column `c` of the up-projection. -/
def wCol (c : Fin 5632) (i : Fin 1024) : EReal := wBlk P ⟨c.val / 256, by omega⟩ i ⟨c.val % 256, by omega⟩

/-- The up-projection of row `t` of batch `b`. -/
def up (b : Fin 2) (t : Fin 8192) (c : Fin 5632) : EReal := ∑ i, rms (P.X b t) P.G i * wCol P c i

/-- The up-projection `d` rows before row `t`; before the first row it is zero. -/
def back (d : ℕ) (b : Fin 2) (t : Fin 8192) (c : Fin 5632) : EReal :=
  if d ≤ t.val then up P b ⟨t.val - d, by omega⟩ c else 0

theorem back_pos {d : ℕ} {b : Fin 2} {t : Fin 8192} {c : Fin 5632} (s : Fin 8192) (h : s.val + d = t.val) : back P d b t c = up P b s c := by
  unfold back
  rw [if_pos (by omega)]
  exact congrArg (fun s => up P b s c) (Fin.ext (show t.val - d = s.val by omega))

theorem back_neg {d : ℕ} {b : Fin 2} {t : Fin 8192} {c : Fin 5632} (h : t.val < d) : back P d b t c = 0 := by
  unfold back
  rw [if_neg (by omega)]

/-- The convolution over a row and the two before it. -/
def conv (b : Fin 2) (t : Fin 8192) (c : Fin 5632) : EReal :=
  P.CB c + up P b t c * P.CW 2 c + back P 1 b t c * P.CW 1 c + back P 2 b t c * P.CW 0 c

/-- The gated activation. -/
def act (b : Fin 2) (t : Fin 8192) (d : Fin 2816) : EReal :=
  conv P b t ⟨d.val, by omega⟩ * Ideal.logistic (conv P b t ⟨d.val, by omega⟩) * conv P b t ⟨2816 + d.val, by omega⟩

/-- The layer's result before the final norm. -/
def res (b : Fin 2) (t : Fin 8192) (k : Fin 1024) : EReal := P.X b t k + ∑ d, act P b t d * P.Wd d k

/-- The normed result. -/
def y (b : Fin 2) (t : Fin 8192) (k : Fin 1024) : EReal := rms (res P b t) P.FG k

/-- The last eight rows of the up-projection. -/
def last (b : Fin 2) (r : Fin 8) (c : Fin 5632) : EReal := up P b ⟨8184 + r.val, by omega⟩ c

end Cert.FfnMath
end
-- ==== Proof.FfnTile.lean ====
module

public import proofs.«01_k».proof.Proof.FfnBlock
public import proofs.«01_k».proof.Proof.FfnMath

@[expose] public section

set_option maxRecDepth 16384

noncomputable section

namespace Cert.FfnIdeal.Body

open Cert.FfnIdeal Cert.FfnIdeal.Gen Idealize.ShloMosaic Idealize.ShloMosaic.TcCoe Idealize.SL.Sem Cert.FfnMath

/-- The blocks that one grid point reads are those of tile `T` of batch `b`. -/
structure Reads (P : Args) (b : Fin 2) (T : Fin 16) (x0 : Vec Ideal S1x512x1024 .f32) (x1 : Vec Ideal S1x1024 .f32) (x2 x3 : Vec Ideal S11x1024x256 .bf16)
    (x4 : Vec Ideal S1x3x5632 .f32) (x5 : Vec Ideal S1x1x5632 .f32) (x6 : Vec Ideal S2816x1024 .bf16) (x7 : Vec Ideal S1x1024 .f32) : Prop where
  h0 : ∀ (r : Fin 512) (k : Fin 1024), x0 (ix3 0 r k) = P.X b ⟨512 * T.val + r.val, by omega⟩ k
  h1 : ∀ k : Fin 1024, x1 (ix2 0 k) = P.G k
  h2 : ∀ (j : Fin 11) (i : Fin 1024) (k : Fin 256), x2 (ix3 j i k) = P.Wg j i k
  h3 : ∀ (j : Fin 11) (i : Fin 1024) (k : Fin 256), x3 (ix3 j i k) = P.Wv j i k
  h4 : ∀ (j : Fin 3) (c : Fin 5632), x4 (ix3 0 j c) = P.CW j c
  h5 : ∀ c : Fin 5632, x5 (ix3 0 0 c) = P.CB c
  h6 : ∀ (d : Fin 2816) (k : Fin 1024), x6 (ix2 d k) = P.Wd d k
  h7 : ∀ k : Fin 1024, x7 (ix2 0 k) = P.FG k

/-- The carried rows are the eight before tile `T`: zero before the first. -/
def Carried (P : Args) (b : Fin 2) (T : Fin 16) (p : Vec Ideal S1x8x5632 .f32) : Prop :=
  ∀ (r : Fin 8) (c : Fin 5632), p (ix3 0 r c) = if h : 0 < T.val then FfnMath.up P b ⟨512 * T.val - 8 + r.val, by omega⟩ c else 0

variable {P : Args} {b : Fin 2} {T : Fin 16} {x0 : Vec Ideal S1x512x1024 .f32} {x1 : Vec Ideal S1x1024 .f32} {x2 x3 : Vec Ideal S11x1024x256 .bf16}
  {x4 : Vec Ideal S1x3x5632 .f32} {x5 : Vec Ideal S1x1x5632 .f32} {x6 : Vec Ideal S2816x1024 .bf16} {x7 : Vec Ideal S1x1024 .f32} {p : Vec Ideal S1x8x5632 .f32}

theorem carried_zero (hT : T.val = 0) : Carried P b T (k0_pay2 (F := Ideal)) := by
  intro r c
  rw [dif_neg (by omega)]
  pointwise [k0_pay2]

theorem normed_at (R : Reads P b T x0 x1 x2 x3 x4 x5 x6 x7) (r : Fin 512) (k : Fin 1024) :
    k0_pay4 x0 x1 (ix2 r k) = rms (P.X b ⟨512 * T.val + r.val, by omega⟩) P.G k := by
  pointwise [k0_pay4, k0_pay3]
  simp only [R.h0, R.h1, rms]

theorem wBlk_gate (P : Args) (j : Fin 11) (i : Fin 1024) (k : Fin 256) : wBlk P (gateOf j) i k = P.Wg j i k := dif_pos j.isLt
theorem wBlk_val (P : Args) (j : Fin 11) (i : Fin 1024) (k : Fin 256) : wBlk P (valOf j) i k = P.Wv j i k := by
  unfold wBlk
  rw [dif_neg (by simp)]
  congr 1
  exact Fin.ext (by simp)

theorem wCol_at (P : Args) (j : Fin 22) (k : Fin 256) (i : Fin 1024) : wCol P ⟨256 * j.val + k.val, by omega⟩ i = wBlk P j i k := by
  unfold wCol
  congr 1
  · exact Fin.ext (show (256 * j.val + k.val) / 256 = j.val by omega)
  · exact Fin.ext (show (256 * j.val + k.val) % 256 = k.val by omega)

theorem up_gate (R : Reads P b T x0 x1 x2 x3 x4 x5 x6 x7) (j : Fin 11) (r : Fin 512) (k : Fin 256) :
    up (k0_pay4 x0 x1) (slab x2 j) (ix2 r k) = FfnMath.up P b ⟨512 * T.val + r.val, by omega⟩ ⟨256 * (gateOf j).val + k.val, by have := j.isLt; simp; omega⟩ := by
  pointwise [up, slab, k0_pay8, k0_pay5]
  simp only [normed_at R, R.h2, FfnMath.up, wCol_at P (gateOf j), wBlk_gate]

theorem up_val (R : Reads P b T x0 x1 x2 x3 x4 x5 x6 x7) (j : Fin 11) (r : Fin 512) (k : Fin 256) :
    up (k0_pay4 x0 x1) (slab x3 j) (ix2 r k) = FfnMath.up P b ⟨512 * T.val + r.val, by omega⟩ ⟨256 * (valOf j).val + k.val, by have := j.isLt; simp; omega⟩ := by
  pointwise [up, slab, k0_pay8, k0_pay5]
  simp only [normed_at R, R.h3, FfnMath.up, wCol_at P (valOf j), wBlk_val]

/-- A load `8 - d` rows back of the staged rows reads the up-projection that many rows before. -/
theorem tap_at (hp : Carried P b T p) (j : Fin 22) (a : FVec Ideal S512x256 .f32)
    (ha : ∀ (r : Fin 512) (k : Fin 256), a (ix2 r k) = FfnMath.up P b ⟨512 * T.val + r.val, by omega⟩ ⟨256 * j.val + k.val, by omega⟩)
    (d : ℕ) (hd : d ≤ 8) (r : Fin 512) (k : Fin 256) :
    tap d hd (histOf (col8 p j)) a (ix2 r k) = back P (8 - d) b ⟨512 * T.val + r.val, by omega⟩ ⟨256 * j.val + k.val, by omega⟩ := by
  have hr := r.isLt
  unfold tap
  by_cases h : 8 ≤ d + r.val
  · rw [dif_pos (show 8 ≤ d + ((ix2 r k : S512x256.Idx) 0).val from h)]
    exact (ha _ _).trans (back_pos P _ (show 512 * T.val + (d + r.val - 8) + (8 - d) = 512 * T.val + r.val by omega)).symm
  · rw [dif_neg (show ¬ 8 ≤ d + ((ix2 r k : S512x256.Idx) 0).val from h)]
    have e : histOf (col8 p j) (ix2 (⟨d + r.val, by omega⟩ : Fin 8) k) = p (ix3 0 (⟨d + r.val, by omega⟩ : Fin 8) ⟨256 * j.val + k.val, by omega⟩) := by
      pointwise [histOf, col8, k0_pay7, k0_pay6]
    refine (e.trans (hp _ _)).trans ?_
    by_cases hT : 0 < T.val
    · rw [dif_pos hT]
      exact (back_pos P _ (show 512 * T.val - 8 + (d + r.val) + (8 - d) = 512 * T.val + r.val by omega)).symm
    · rw [dif_neg hT]
      exact (back_neg P (show 512 * T.val + r.val < 8 - d by omega)).symm

theorem conv_at (R : Reads P b T x0 x1 x2 x3 x4 x5 x6 x7) (hp : Carried P b T p) (j : Fin 22) (a : FVec Ideal S512x256 .f32)
    (ha : ∀ (r : Fin 512) (k : Fin 256), a (ix2 r k) = FfnMath.up P b ⟨512 * T.val + r.val, by omega⟩ ⟨256 * j.val + k.val, by omega⟩)
    (r : Fin 512) (k : Fin 256) :
    conv (col3 x4 j) (col1 x5 j) (histOf (col8 p j)) a (ix2 r k) = FfnMath.conv P b ⟨512 * T.val + r.val, by omega⟩ ⟨256 * j.val + k.val, by omega⟩ := by
  pointwise [conv, col3, col1, k0_pay12, k0_pay11, k0_pay10]
  rw [tap_at hp j a ha, tap_at hp j a ha, tap_at hp j a ha]
  simp only [R.h4, R.h5]
  rfl

theorem act_at (R : Reads P b T x0 x1 x2 x3 x4 x5 x6 x7) (hp : Carried P b T p) (r : Fin 512) (d : Fin 2816) :
    acts (k0_pay4 x0 x1) x2 x3 x4 x5 p (ix2 r d) = FfnMath.act P b ⟨512 * T.val + r.val, by omega⟩ d := by
  have hd := d.isLt
  have hj : d.val / 256 < 11 := by omega
  rw [← acts_at (k0_pay4 x0 x1) x2 x3 x4 x5 p ⟨d.val / 256, hj⟩ (ix2 r (⟨d.val % 256, by omega⟩ : Fin 256)) (ix2 r d) rfl (show d.val = 256 * (d.val / 256) + d.val % 256 by omega)]
  unfold actJ
  pointwise [glu]
  rw [conv_at R hp (gateOf ⟨d.val / 256, hj⟩) _ (up_gate R _), conv_at R hp (valOf ⟨d.val / 256, hj⟩) _ (up_val R _)]
  have e1 : (⟨256 * (gateOf ⟨d.val / 256, hj⟩).val + d.val % 256, by simp; omega⟩ : Fin 5632) = ⟨d.val, by omega⟩ := Fin.ext (show 256 * (d.val / 256) + d.val % 256 = d.val by omega)
  have e2 : (⟨256 * (valOf ⟨d.val / 256, hj⟩).val + d.val % 256, by simp; omega⟩ : Fin 5632) = ⟨2816 + d.val, by omega⟩ := Fin.ext (show 256 * (11 + d.val / 256) + d.val % 256 = 2816 + d.val by omega)
  unfold FfnMath.act
  rw [← e1, ← e2]

/-- The block of results a grid point writes: the layer's rows of its tile. -/
theorem y_at (R : Reads P b T x0 x1 x2 x3 x4 x5 x6 x7) (hp : Carried P b T p) (r : Fin 512) (k : Fin 1024) :
    yBlk x0 x1 x2 x3 x4 x5 x6 x7 p (ix3 0 r k) = FfnMath.y P b ⟨512 * T.val + r.val, by omega⟩ k := by
  have e : ∀ k : Fin 1024, k0_pay158 (k0_pay3 x0) (acts (k0_pay4 x0 x1) x2 x3 x4 x5 p) x6 (ix2 r k) = res P b ⟨512 * T.val + r.val, by omega⟩ k := by
    intro k
    pointwise [k0_pay158, k0_pay3]
    simp only [R.h0, R.h6, act_at R hp, res]
  pointwise [yBlk, k0_pay1]
  simp only [e, R.h7]
  rfl

/-- The rows a grid point leaves for the next: the last eight of its tile's up-projection. -/
theorem last_block_at (R : Reads P b T x0 x1 x2 x3 x4 x5 x6 x7) (r : Fin 8) (c : Fin 5632) :
    lastBlk (k0_pay4 x0 x1) x2 x3 (ix3 0 r c) = FfnMath.up P b ⟨512 * T.val + 504 + r.val, by omega⟩ c := by
  have hc := c.isLt
  have e : ∀ (j : Fin 22) (k : Fin 256) (h : 256 * j.val + k.val < 5632), lastJ (k0_pay4 x0 x1) x2 x3 j (ix3 0 r k) = FfnMath.up P b ⟨512 * T.val + 504 + r.val, by omega⟩ ⟨256 * j.val + k.val, h⟩ := by
    intro j k h
    unfold FfnMath.up
    by_cases hj : j.val < 11
    · pointwise [lastJ, dif_pos hj, slab, k0_pay9, k0_pay5]
      refine Finset.sum_congr rfl fun i _ => ?_
      rw [normed_at R, R.h2, wCol_at, wBlk, dif_pos hj]
      congr 3
      exact Fin.ext (show 512 * T.val + (504 + r.val) = 512 * T.val + 504 + r.val by omega)
    · pointwise [lastJ, dif_neg hj, slab, k0_pay9, k0_pay5]
      refine Finset.sum_congr rfl fun i _ => ?_
      rw [normed_at R, R.h3, wCol_at, wBlk, dif_neg hj]
      congr 3
      exact Fin.ext (show 512 * T.val + (504 + r.val) = 512 * T.val + 504 + r.val by omega)
  rw [← last_at (k0_pay4 x0 x1) x2 x3 ⟨c.val / 256, by omega⟩ (ix3 0 r (⟨c.val % 256, by omega⟩ : Fin 256)) (ix3 0 r c) rfl (show c.val = 256 * (c.val / 256) + c.val % 256 by omega),
    e _ _ (show 256 * (c.val / 256) + c.val % 256 < 5632 by omega)]
  congr 1
  exact Fin.ext (show 256 * (c.val / 256) + c.val % 256 = c.val by omega)

/-- What a tile leaves is what the next tile of the batch finds. -/
theorem carried_next {T' : Fin 16} (hT : T'.val = T.val + 1) (R : Reads P b T x0 x1 x2 x3 x4 x5 x6 x7) : Carried P b T' (lastBlk (k0_pay4 x0 x1) x2 x3) := by
  intro r c
  rw [dif_pos (by omega), last_block_at R]
  congr 1
  exact Fin.ext (show 512 * T.val + 504 + r.val = 512 * T'.val - 8 + r.val by omega)

end Cert.FfnIdeal.Body
end
-- ==== Proof.FfnArrays.lean ====
module

public import proofs.«01_k».proof.Proof.FfnFirst
public import proofs.«01_k».proof.Proof.FfnCarryA
public import proofs.«01_k».proof.Proof.FfnCarryB
public import proofs.«01_k».proof.Proof.FfnTile

@[expose] public section

set_option maxRecDepth 16384

noncomputable section

namespace Cert.FfnIdeal.Body

open Cert.FfnIdeal Cert.FfnIdeal.Gen Idealize.ShloMosaic Idealize.ShloMosaic.TcCoe Idealize.SL.Sem Cert.FfnMath

variable (m : (ℓ : Loc nD τ sig) → Buf (Elt Ideal) ℓ) (c : Dev nD)

/-- The layer's arguments, read off the argument buffers. -/
def argsOf : Args where
  X b t k := (m ((c.tc : Thread nD τ).loc main_arg0) : Vec Ideal S2x8192x1024 .f32) (ix3 b t k)
  G k := (m ((c.tc : Thread nD τ).loc main_arg1) : Vec Ideal S1024 .f32) (ix1 k)
  Wg j i k := (m ((c.tc : Thread nD τ).loc main_arg2) : Vec Ideal S11x1024x256 .bf16) (ix3 j i k)
  Wv j i k := (m ((c.tc : Thread nD τ).loc main_arg3) : Vec Ideal S11x1024x256 .bf16) (ix3 j i k)
  CW j c' := (m ((c.tc : Thread nD τ).loc main_arg4) : Vec Ideal S2x3x5632 .f32) (ix3 1 j c')
  CB c' := (m ((c.tc : Thread nD τ).loc main_arg5) : Vec Ideal S2x5632 .f32) (ix2 1 c')
  Wd d k := (m ((c.tc : Thread nD τ).loc main_arg6) : Vec Ideal S2816x1024 .bf16) (ix2 d k)
  FG k := (m ((c.tc : Thread nD τ).loc main_arg7) : Vec Ideal S1024 .f32) (ix1 k)

theorem idx_all : ∀ t : Fin cfg0.N, win0_0.index t = ![t.val / 16, t.val % 16, 0] ∧ win0_1.index t = ![0, 0] ∧ win0_2.index t = ![0, 0, 0] ∧ win0_3.index t = ![0, 0, 0]
    ∧ win0_4.index t = ![1, 0, 0] ∧ win0_5.index t = ![1, 0, 0] ∧ win0_6.index t = ![0, 0] ∧ win0_7.index t = ![0, 0]
    ∧ win0_8.index t = ![t.val / 16, t.val % 16, 0] ∧ win0_9.index t = ![t.val / 16, 0, 0] :=
  (by decide +kernel : ∀ t : Fin grid0.N, _)

theorem lt32 (t : Fin cfg0.N) : t.val < 32 := t.isLt
/-- The batch of a grid point. -/
abbrev batch (t : Fin cfg0.N) : Fin 2 := ⟨t.val / 16, by have := lt32 t; omega⟩
/-- The tile of a grid point. -/
abbrev tile (t : Fin cfg0.N) : Fin 16 := ⟨t.val % 16, by omega⟩

/-- Every point reads its tile's blocks. -/
theorem reads (t : Fin cfg0.N) : Reads (argsOf m c) (batch t) (tile t) (iblk m c 0 t) (iblk m c 1 t) (iblk m c 2 t) (iblk m c 3 t) (iblk m c 4 t) (iblk m c 5 t) (iblk m c 6 t) (iblk m c 7 t) where
  h0 r k := by unfold argsOf; blk_ext [iblk, V, idx_all t]
  h1 k := by
    show iblk m c 1 t (ix2 0 k) = (m ((c.tc : Thread nD τ).loc main_arg1) : Vec Ideal S1024 .f32) (ix1 k)
    blk_ext! [iblk, V, idx_all t]
  h2 j i k := by unfold argsOf; blk_ext [iblk, V, idx_all t]
  h3 j i k := by unfold argsOf; blk_ext [iblk, V, idx_all t]
  h4 j c := by unfold argsOf; blk_ext [iblk, V, idx_all t]
  h5 k := by
    show iblk m c 5 t (ix3 0 0 k) = (m ((c.tc : Thread nD τ).loc main_arg5) : Vec Ideal S2x5632 .f32) (ix2 1 k)
    blk_ext! [iblk, V, idx_all t]
  h6 d k := by unfold argsOf; blk_ext [iblk, V, idx_all t]
  h7 k := by
    show iblk m c 7 t (ix2 0 k) = (m ((c.tc : Thread nD τ).loc main_arg7) : Vec Ideal S1024 .f32) (ix1 k)
    blk_ext! [iblk, V, idx_all t]

/-- The carry after a point is the last eight rows of its tile. -/
theorem carry_eq (t : Fin cfg0.N) : (outsAt0 m c t.val t.isLt).2 = lastBlk (k0_pay4 (iblk m c 0 t) (iblk m c 1 t)) (iblk m c 2 t) (iblk m c 3 t) := by
  by_cases h0 : t.val % 16 = 0
  · rw [outsAt0_A m c t h0]
    dsimp only
    rw [out_A_9]
  · rw [outsAt0_B m c t h0]
    dsimp only
    rw [out_B_9]

/-- The result block after a point. -/
theorem block_at (t : Fin cfg0.N) (r : Fin 512) (k : Fin 1024) :
    (outsAt0 m c t.val t.isLt).1 (ix3 0 r k) = FfnMath.y (argsOf m c) (batch t) ⟨512 * (t.val % 16) + r.val, by omega⟩ k := by
  by_cases h0 : t.val % 16 = 0
  · rw [outsAt0_A m c t h0]
    dsimp only
    rw [out_A_8]
    exact y_at (reads m c t) (carried_zero h0) r k
  · rw [outsAt0_B m c t h0]
    dsimp only
    rw [out_B_8]
    have ht := lt32 t
    refine y_at (reads m c t) ?_ r k
    rw [carry_eq m c ⟨t.val - 1, by have := t.isLt; omega⟩]
    have hb : batch (⟨t.val - 1, by have := t.isLt; omega⟩ : Fin cfg0.N) = batch t := Fin.ext (show (t.val - 1) / 16 = t.val / 16 by omega)
    rw [← hb]
    exact carried_next (show t.val % 16 = (t.val - 1) % 16 + 1 by omega) (reads m c ⟨t.val - 1, by have := t.isLt; omega⟩)

/-- The results' array after the run. -/
theorem final8 : (dats m 0 c).arrAt 8 cfg0.N = (fun i => FfnMath.y (argsOf m c) (i 0) (i 1) (i 2) : Vec Ideal S2x8192x1024 .f32) := by
  refine (dats m 0 c).arrAt_eq_of_covers 8 _ (by decide +kernel) fun t hf y => ?_
  blk_simp
  rw [after0_8]
  idx_vars y
  have ht := lt32 t
  have e0 : ((View.whole main_v3_0).slice (win0_8.rect t)).emb (ix3 y0 y1 y2) 0 = batch t := Fin.ext (by blk_simp [idx_all t])
  have e1 : ((View.whole main_v3_0).slice (win0_8.rect t)).emb (ix3 y0 y1 y2) 1 = (⟨512 * (t.val % 16) + y1.val, by omega⟩ : Fin 8192) := Fin.ext (by refine Eq.trans (b := 512 * (t.val % 16) + y1.val) ?_ rfl; blk_simp [idx_all t]; omega)
  have e2 : ((View.whole main_v3_0).slice (win0_8.rect t)).emb (ix3 y0 y1 y2) 2 = y2 := Fin.ext (by blk_simp [idx_all t])
  rw [e0, e1, e2]
  obtain rfl : y0 = 0 := Subsingleton.elim _ _
  exact block_at m c t y1 y2

/-- The carry is written back after a batch's last tile only. -/
theorem flush9_last : ∀ t : Fin cfg0.N, (win0 9).flush t = true → t.val % 16 = 15 :=
  (by decide +kernel : ∀ t : Fin grid0.N, (win0 9).flush t = true → t.val % 16 = 15)

/-- The carried rows' array after the run. -/
theorem final9 : (dats m 0 c).arrAt 9 cfg0.N = (fun i => FfnMath.last (argsOf m c) (i 0) (i 1) (i 2) : Vec Ideal S2x8x5632 .f32) := by
  refine (dats m 0 c).arrAt_eq_of_covers 9 _ (by decide +kernel) fun t hf y => ?_
  blk_simp
  rw [after0_9, carry_eq]
  idx_vars y
  have ht := lt32 t
  have hl := flush9_last t hf
  have e0 : ((View.whole main_v3_1).slice (win0_9.rect t)).emb (ix3 y0 y1 y2) 0 = batch t := Fin.ext (by blk_simp [idx_all t])
  have e1 : ((View.whole main_v3_1).slice (win0_9.rect t)).emb (ix3 y0 y1 y2) 1 = y1 := Fin.ext (by blk_simp [idx_all t])
  have e2 : ((View.whole main_v3_1).slice (win0_9.rect t)).emb (ix3 y0 y1 y2) 2 = y2 := Fin.ext (by blk_simp [idx_all t])
  rw [e0, e1, e2]
  obtain rfl : y0 = 0 := Subsingleton.elim _ _
  rw [last_block_at (reads m c t)]
  exact congrArg (fun s => FfnMath.up (argsOf m c) (batch t) s y2) (Fin.ext (show 512 * (t.val % 16) + 504 + y1.val = 8184 + y1.val by omega))

end Cert.FfnIdeal.Body
end
-- ==== Proof.FfnRefValue.lean ====
module

public import proofs.«01_k».proof.Proof.Gen.FfnRefIdeal.Read
public import proofs.«01_k».proof.Proof.FfnMath

@[expose] public section

set_option maxRecDepth 16384

noncomputable section

namespace Cert.FfnRefIdeal.Body

open Cert.FfnRefIdeal Cert.FfnRefIdeal.Gen Cert.FfnRefIdeal.Read Idealize.ShloMosaic Idealize.ShloMosaic.TcCoe Idealize.SL.Sem Cert.FfnMath

variable (x0 : Vec Ideal S2x8192x1024 .f32) (x1 : Vec Ideal S1024 .f32) (x2 x3 : Vec Ideal S11x1024x256 .bf16) (x4 : Vec Ideal S2x3x5632 .f32)
  (x5 : Vec Ideal S2x5632 .f32) (x6 : Vec Ideal S2816x1024 .bf16) (x7 : Vec Ideal S1024 .f32)

/-- The layer's arguments, read off eight arrays. -/
def argsOf : Args where
  X b t k := x0 (ix3 b t k)
  G k := x1 (ix1 k)
  Wg j i k := x2 (ix3 j i k)
  Wv j i k := x3 (ix3 j i k)
  CW j c := x4 (ix3 1 j c)
  CB c := x5 (ix2 1 c)
  Wd d k := x6 (ix2 d k)
  FG k := x7 (ix1 k)

theorem weights_at (i : Fin 1024) (c : Fin 5632) : val_main_v6 x2 x3 (ix2 i c) = wCol (argsOf x0 x1 x2 x3 x4 x5 x6 x7) c i := by
  pointwise [val_main_v6, val_main_v5, val_main_v4, val_main_v3, val_main_v2, val_main_v1, val_main_v0]
  unfold wCol wBlk argsOf
  have hc := c.isLt
  by_cases h : c.val < 2816
  · rw [dif_pos h, dif_pos (show c.val / 256 < 11 by omega)]
  · rw [dif_neg h, dif_neg (show ¬ c.val / 256 < 11 by omega)]
    refine congrArg x3 ?_
    congr 1
    · exact Fin.ext (show (c.val - 2816) / 256 = c.val / 256 - 11 by omega)
    · exact Fin.ext (show (c.val - 2816) % 256 = c.val % 256 by omega)

theorem normed_at (b : Fin 2) (t : Fin 8192) (k : Fin 1024) : val_main_v19 x0 x1 (ix3 b t k) = rms (fun k => x0 (ix3 b t k)) (fun k => x1 (ix1 k)) k := by
  pointwise [val_main_v19, val_main_v18, val_main_v17, val_main_v16, val_main_v15, val_main_v14, val_main_v13, val_main_v12, val_main_v11, val_main_v10, val_main_v9, val_main_v8, val_main_v7, val_main_cst, val_main_cst_0, val_main_cst_1]
  rfl

theorem up_at (b : Fin 2) (t : Fin 8192) (c : Fin 5632) : val_main_v20 x0 x1 x2 x3 (ix3 b t c) = up (argsOf x0 x1 x2 x3 x4 x5 x6 x7) b t c := by
  pointwise [val_main_v20]
  simp only [normed_at, weights_at x0 x1 x2 x3 x4 x5 x6 x7]
  rfl

theorem full_at (b : Fin 2) (t : Fin 8194) (c : Fin 5632) : val_main_v22 x0 x1 x2 x3 (ix3 b t c) = if h : 2 ≤ t.val then up (argsOf x0 x1 x2 x3 x4 x5 x6 x7) b ⟨t.val - 2, by omega⟩ c else 0 := by
  pointwise [val_main_v22, val_main_v21, val_main_cst_2]
  by_cases h : t.val < 2
  · rw [dif_pos h, dif_neg (by omega)]
  · rw [dif_neg h, dif_pos (by omega), up_at x0 x1 x2 x3 x4 x5 x6 x7]

theorem conv_at (b : Fin 2) (t : Fin 8192) (c : Fin 5632) : val_main_v47 x0 x1 x2 x3 x4 x5 (ix3 b t c) = conv (argsOf x0 x1 x2 x3 x4 x5 x6 x7) b t c := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  have ht := t.isLt
  have e0 : val_main_v22 x0 x1 x2 x3 (ix3 b (⟨t.val, by omega⟩ : Fin 8194) c) = back (argsOf x0 x1 x2 x3 x4 x5 x6 x7) 2 b t c := by
    rw [full_at x0 x1 x2 x3 x4 x5 x6 x7]
    by_cases h : 2 ≤ t.val
    · rw [dif_pos h]
      exact (back_pos _ _ (show t.val - 2 + 2 = t.val by omega)).symm
    · rw [dif_neg h]
      exact (back_neg _ (by omega)).symm
  have e1 : val_main_v22 x0 x1 x2 x3 (ix3 b (⟨1 + t.val, by omega⟩ : Fin 8194) c) = back (argsOf x0 x1 x2 x3 x4 x5 x6 x7) 1 b t c := by
    rw [full_at x0 x1 x2 x3 x4 x5 x6 x7]
    by_cases h : 2 ≤ 1 + t.val
    · rw [dif_pos h]
      exact (back_pos _ _ (show 1 + t.val - 2 + 1 = t.val by omega)).symm
    · rw [dif_neg h]
      exact (back_neg _ (by omega)).symm
  have e2 : val_main_v22 x0 x1 x2 x3 (ix3 b (⟨2 + t.val, by omega⟩ : Fin 8194) c) = up (argsOf x0 x1 x2 x3 x4 x5 x6 x7) b t c := by
    rw [full_at x0 x1 x2 x3 x4 x5 x6 x7, dif_pos (show 2 ≤ 2 + t.val by omega)]
    exact congrArg (fun s => up (argsOf x0 x1 x2 x3 x4 x5 x6 x7) b s c) (Fin.ext (show 2 + t.val - 2 = t.val by omega))
  rw [e0, e1, e2]
  show _ = x5 (ix2 1 c) + up _ b t c * x4 (ix3 1 2 c) + back _ 1 b t c * x4 (ix3 1 1 c) + back _ 2 b t c * x4 (ix3 1 0 c)
  abel

theorem act_at (b : Fin 2) (t : Fin 8192) (d : Fin 2816) : val_main_v51 x0 x1 x2 x3 x4 x5 (ix3 b t d) = act (argsOf x0 x1 x2 x3 x4 x5 x6 x7) b t d := by
  pointwise [val_main_v51, val_main_v50, val_main_call0_v5, val_main_call0_v4, val_main_call0_v3, val_main_call0_v2, val_main_call0_v1, val_main_call0_v0, val_main_call0_cst, val_main_call0_cst_0, val_main_v49, val_main_v48]
  rw [conv_at x0 x1 x2 x3 x4 x5 x6 x7, conv_at x0 x1 x2 x3 x4 x5 x6 x7]
  rfl

theorem res_at (b : Fin 2) (t : Fin 8192) (k : Fin 1024) : val_main_v54 x0 x1 x2 x3 x4 x5 x6 (ix3 b t k) = res (argsOf x0 x1 x2 x3 x4 x5 x6 x7) b t k := by
  pointwise [val_main_v54, val_main_v53, val_main_v52]
  simp only [act_at x0 x1 x2 x3 x4 x5 x6 x7]
  rfl

/-- The reference's normed result, read at an index. -/
theorem y_at (b : Fin 2) (t : Fin 8192) (k : Fin 1024) : val_main_v67 x0 x1 x2 x3 x4 x5 x6 x7 (ix3 b t k) = y (argsOf x0 x1 x2 x3 x4 x5 x6 x7) b t k := by
  pointwise [val_main_v67, val_main_v66, val_main_v65, val_main_v64, val_main_v63, val_main_v62, val_main_v61, val_main_v60, val_main_v59, val_main_v58, val_main_v57, val_main_v56, val_main_v55, val_main_cst_3, val_main_cst_4, val_main_cst_5]
  simp only [res_at x0 x1 x2 x3 x4 x5 x6 x7]
  rfl

/-- The reference's last eight rows, read at an index. -/
theorem last_at (b : Fin 2) (r : Fin 8) (c : Fin 5632) : val_main_v68 x0 x1 x2 x3 (ix3 b r c) = last (argsOf x0 x1 x2 x3 x4 x5 x6 x7) b r c := by
  pointwise [val_main_v68]
  rw [full_at x0 x1 x2 x3 x4 x5 x6 x7]
  rw [dif_pos (show 2 ≤ 8186 + r.val by omega)]
  exact congrArg (fun s => up (argsOf x0 x1 x2 x3 x4 x5 x6 x7) b s c) (Fin.ext (show 8186 + r.val - 2 = 8184 + r.val by omega))

end Cert.FfnRefIdeal.Body
end
-- ==== Proof.FfnClaims.lean ====
module

public import proofs.«01_k».proof.Defs
public import proofs.«01_k».proof.Proof.FfnArrays
public import proofs.«01_k».proof.Proof.FfnRefValue
public import proofs.«01_k».proof.Proof.Gen.Ffn.Frame
public import proofs.«01_k».proof.Proof.Gen.FfnRefIdeal.Run

@[expose] public section

set_option maxRecDepth 16384

noncomputable section

namespace Cert.FfnClaims

open Idealize.ShloMosaic Idealize.ShloMosaic.TcCoe Idealize.SL.Sem Cert.FfnMath

/-- The bit-exact kernel runs, leaves its arguments and comes to rest. -/
theorem frame_p : Cert.quiescent_Ffn := fun m ρ _ => Cert.Ffn.Gen.frame m ρ

/-- The idealized kernel runs, leaves its arguments and comes to rest. -/
theorem frame_pi : Cert.quiescent_FfnIdeal := fun m ρ _ => Cert.FfnIdeal.Gen.frame m ρ

/-- The reference runs, leaves its arguments and comes to rest. -/
theorem frame_ri : Cert.quiescent_FfnRefIdeal := fun m ρ _ =>
  (θ_run Cert.FfnRefIdeal.defs _ _).mono (fun r h => ⟨fun c => (h c).2.2, Idealize.ShloMosaic.sem_eq_zero_of_no_sems (by decide) r.2⟩)
    (Cert.FfnRefIdeal.Value.run (F := Ideal) m ρ)

/-- The kernel's two results are the reference's. -/
theorem algebraic : Cert.algebraic_FfnIdeal_FfnRefIdeal := by
  intro m ρ m' ρ' _ hag
  refine ⟨fun c => (fun i => FfnMath.y (FfnIdeal.Body.argsOf m c) (i 0) (i 1) (i 2) : Vec Ideal FfnIdeal.S2x8192x1024 .f32),
    fun c => (fun i => FfnMath.last (FfnIdeal.Body.argsOf m c) (i 0) (i 1) (i 2) : Vec Ideal FfnIdeal.S2x8x5632 .f32), ?_, ?_⟩
  · exact (θ_run _ _ _).mono (fun r h c => ⟨(h c).1.trans (FfnIdeal.Body.final8 m c), (h c).2.1.trans (FfnIdeal.Body.final9 m c), (h c).2.2⟩)
      (Cert.FfnIdeal.Value.run_blocks (F := Ideal) m ρ)
  · refine (θ_run _ _ _).mono (fun r h c => ⟨(h c).1.trans ?_, (h c).2.1.trans ?_, (h c).2.2⟩) (Cert.FfnRefIdeal.Value.run (F := Ideal) m' ρ')
    · obtain ⟨a0, a1, a2, a3, a4, a5, a6, a7⟩ := hag c
      rw [Cert.FfnRefIdeal.Read.val_main_v67_eq, a0, a1, a2, a3, a4, a5, a6, a7]
      funext i
      idx_vars i
      exact FfnRefIdeal.Body.y_at _ _ _ _ _ _ _ _ i0 i1 i2
    · obtain ⟨a0, a1, a2, a3, a4, a5, a6, a7⟩ := hag c
      refine (Cert.FfnRefIdeal.Read.val_main_v68_eq _ _ _ _).trans ?_
      rw [a0, a1, a2, a3]
      funext i
      idx_vars i
      exact FfnRefIdeal.Body.last_at _ _ _ _ (m ((c.tc : Thread _ _).loc FfnIdeal.main_arg4)) (m ((c.tc : Thread _ _).loc FfnIdeal.main_arg5)) (m ((c.tc : Thread _ _).loc FfnIdeal.main_arg6)) (m ((c.tc : Thread _ _).loc FfnIdeal.main_arg7)) i0 i1 i2

end Cert.FfnClaims
end
-- ==== Proof.QkvRun.lean ====
module

public import proofs.«01_k».proof.Proof.Gen.QkvIdeal.Frame
public import proofs.«01_k».proof.Proof.Gen.QkvIdeal.Skeleton
public import Idealize.ShloMosaic.Lib.Pipeline.ValueKit
public import Idealize.ShloMosaic.Lib.Pipeline.ReadBack
public import Idealize.ShloMosaic.Lib.VecWindow

@[expose] public section

set_option maxRecDepth 16384

noncomputable section

namespace Cert.QkvIdeal.Body

open Cert.QkvIdeal Cert.QkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- The projection's columns of the query, the key and the value. -/
def wPart (o : ℕ) (h : o ≤ 2048) (w : Vec F S1024x3072 .f32) : Vec F S1024x1024 .f32 := fun y =>
  w (Fin.cons (y 0) (Fin.cons (⟨o + (y 1).val, by have h1 : (y 1).val < 1024 := (y 1).isLt; show o + (y 1).val < 3072; omega⟩ : Fin 3072) fun z => z.elim0))

variable (x : Vec F S1x1024x1024 .f32) (s : Vec F S256x1024 .f32) (g : Vec F S1x1024 .f32) (w : Vec F S1024x3072 .f32)

/-- A tile of the prompt: the query, the key and the value; and the tail's key and value, transposed. -/
def qBlk : Vec F S1x1024x1024 .bf16 := k0_pay8 x g (wPart 0 (by omega) w)
def kBlk : Vec F S1x1024x1024 .bf16 := k0_pay1 (k0_pay9 x g (wPart 1024 (by omega) w))
def vBlk : Vec F S1x1024x1024 .bf16 := k0_pay2 (k0_pay7 x g (wPart 2048 (by omega) w))
def kTail : Vec F S1x1024x512 .f32 := k0_pay3 (k0_pay6 x g (wPart 1024 (by omega) w))
def vTail : Vec F S1x1024x512 .f32 := k0_pay4 (k0_pay7 x g (wPart 2048 (by omega) w))
/-- The sample's rows: the query, the key and the value, the last two also before their rounding. -/
def qRow : Vec F S256x1024 .bf16 := k0_pay13 s g (wPart 0 (by omega) w)
def kRow : Vec F S256x1024 .bf16 := k0_pay14 s g (wPart 1024 (by omega) w)
def vRow : Vec F S256x1024 .bf16 := k0_pay15 s g (wPart 2048 (by omega) w)
def kRow32 : Vec F S256x1024 .f32 := k0_pay11 s g (wPart 1024 (by omega) w)
def vRow32 : Vec F S256x1024 .f32 := k0_pay12 s g (wPart 2048 (by omega) w)

/-- A load of a whole buffer reads what it holds, -/
theorem load_full {sh : Shape} {e : EltTy} (a : Memref sig .tc .vmem sh e) (ha : a.IsWhole) (v : Vec F sh e) {off : Fin sh.rank → ℕ}
    (inb : ∀ k, off k + sh.size k ≤ sh.size k) : a.view.readAt (Elt F) (Rect.unit off sh.size inb).toLoadRect (ha.unread v) = v :=
  (View.readAt_full _ _ inb).trans (ha.read_unread v)

/-- and a load of the projection's columns from `o` on these columns. -/
theorem load_part (a : Memref sig .tc .vmem S1024x3072 .f32) (ha : a.IsWhole) (o : ℕ) (h : o ≤ 2048) (v : Vec F S1024x3072 .f32)
    (inb : ∀ k, ![0, o] k + S1024x1024.size k ≤ S1024x3072.size k) :
    a.view.readAt (Elt F) (Rect.unit (s := S1024x3072) ![0, o] S1024x1024.size inb).toLoadRect (ha.unread v) = wPart o h v := by
  funext y
  rw [View.readAt_apply, ha.read_unread]
  unfold wPart
  congr 1
  funext k; apply Fin.ext
  fin_cases k
  · show 0 + 1 * (y 0).val = (y 0).val; omega
  · show o + 1 * (y 1).val = o + (y 1).val; omega

/-! ## The grid's cases -/

/-- A point of a tile of the prompt, -/
abbrev Tile (i : grid0.Coords) : Prop := k0_cond1 i = 1#1
/-- of the last tile of a sequence, -/
abbrev Tail (i : grid0.Coords) : Prop := k0_cond2 i = 1#1
/-- of the sample. -/
abbrev Sample (i : grid0.Coords) : Prop := k0_cond3 i = 1#1

set_option maxHeartbeats 4000000 in
/-- The body at a point of case A. -/
theorem run_A (c : Dev nD) (i : grid0.Coords) (a0 : Memref sig .tc .vmem S1x1024x1024 .f32) (ha0 : a0.IsWhole) (a1 : Memref sig .tc .vmem S256x1024 .f32) (ha1 : a1.IsWhole) (a2 : Memref sig .tc .vmem S1x1024 .f32) (ha2 : a2.IsWhole) (a3 : Memref sig .tc .vmem S1024x3072 .f32) (ha3 : a3.IsWhole) (a4 : Memref sig .tc .vmem S1x1024x1024 .bf16) (ha4 : a4.IsWhole) (a5 : Memref sig .tc .vmem S1x1024x1024 .bf16) (ha5 : a5.IsWhole) (a6 : Memref sig .tc .vmem S1x1024x1024 .bf16) (ha6 : a6.IsWhole) (a7 : Memref sig .tc .vmem S1x1024x512 .f32) (ha7 : a7.IsWhole) (a8 : Memref sig .tc .vmem S1x1024x512 .f32) (ha8 : a8.IsWhole) (a9 : Memref sig .tc .vmem S256x1024 .bf16) (ha9 : a9.IsWhole) (a10 : Memref sig .tc .vmem S256x1024 .bf16) (ha10 : a10.IsWhole) (a11 : Memref sig .tc .vmem S256x1024 .bf16) (ha11 : a11.IsWhole) (a12 : Memref sig .tc .vmem S256x1024 .f32) (ha12 : a12.IsWhole) (a13 : Memref sig .tc .vmem S256x1024 .f32) (ha13 : a13.IsWhole) (h0 : Tile i) (h1 : ¬Tail i) (h2 : ¬Sample i)
    (x0 : Vec F S1x1024x1024 .f32) (x1 : Vec F S256x1024 .f32) (x2 : Vec F S1x1024 .f32) (x3 : Vec F S1024x3072 .f32) (y7 : Vec F S1x1024x512 .f32) (y8 : Vec F S1x1024x512 .f32) (y9 : Vec F S256x1024 .bf16) (y10 : Vec F S256x1024 .bf16) (y11 : Vec F S256x1024 .bf16) (y12 : Vec F S256x1024 .f32) (y13 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d) ∗ owns (c : Thread nD τ) a7 fullShare y7 ∗ owns (c : Thread nD τ) a8 fullShare y8 ∗ owns (c : Thread nD τ) a9 fullShare y9 ∗ owns (c : Thread nD τ) a10 fullShare y10 ∗ owns (c : Thread nD τ) a11 fullShare y11 ∗ owns (c : Thread nD τ) a12 fullShare y12 ∗ owns (c : Thread nD τ) a13 fullShare y13
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (qBlk x0 x2 x3) ∗ owns (c : Thread nD τ) a5 fullShare (kBlk x0 x2 x3) ∗ owns (c : Thread nD τ) a6 fullShare (vBlk x0 x2 x3) ∗ owns (c : Thread nD τ) a7 fullShare y7 ∗ owns (c : Thread nD τ) a8 fullShare y8 ∗ owns (c : Thread nD τ) a9 fullShare y9 ∗ owns (c : Thread nD τ) a10 fullShare y10 ∗ owns (c : Thread nD τ) a11 fullShare y11 ∗ owns (c : Thread nD τ) a12 fullShare y12 ∗ owns (c : Thread nD τ) a13 fullShare y13) -∗ K ⟨⟩))
      ⊢ wp frame (wpE (defs₀ (F := F)) Variants.none c none) E (cc0_qkv_proj i a0 ha0 a1 ha1 a2 ha2 a3 ha3 a4 ha4 a5 ha5 a6 ha6 a7 ha7 a8 ha8 a9 ha9 a10 ha10 a11 ha11 a12 ha12 a13 ha13) K := by
  simp only [cc0_qkv_proj_eq_skeleton]; unfold cc0_qkv_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := ha0.eq_unread hf0
  obtain rfl := ha1.eq_unread hf1
  obtain rfl := ha2.eq_unread hf2
  obtain rfl := ha3.eq_unread hf3
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  sl_exec (disch := first | sl_exact h0 | sl_exact h1 | sl_exact h2)
  sl_step
  iapply Hk
  isplitl [H0]
  · iexists _; isplitr; swap; · iexact H0
    ipureintro; exact ha0.read_unread _
  isplitl [H1]
  · iexists _; isplitr; swap; · iexact H1
    ipureintro; exact ha1.read_unread _
  isplitl [H2]
  · iexists _; isplitr; swap; · iexact H2
    ipureintro; exact ha2.read_unread _
  isplitl [H3]
  · iexists _; isplitr; swap; · iexact H3
    ipureintro; exact ha3.read_unread _
  isplitl [H4]
  · iexists _; isplitr; swap; · iexact H4
    ipureintro; refine (View.read_writes_full _ _ _ _ _).trans ?_; rw [load_full, load_full, load_part _ _ 0 (by omega)]; rfl
  isplitl [H5]
  · iexists _; isplitr; swap; · iexact H5
    ipureintro; refine (View.read_writes_full _ _ _ _ _).trans ?_; unfold run_A.sl.r_2; rw [load_full, load_full, load_part _ _ 1024 (by omega)]; rfl
  isplitl [H6]
  · iexists _; isplitr; swap; · iexact H6
    ipureintro; refine (View.read_writes_full _ _ _ _ _).trans ?_; unfold run_A.sl.r_1; rw [load_full, load_full, load_part _ _ 2048 (by omega)]; rfl
  isplitl [H7]
  · iexists _; isplitr; swap; · iexact H7
    ipureintro; exact ha7.read_unread _
  isplitl [H8]
  · iexists _; isplitr; swap; · iexact H8
    ipureintro; exact ha8.read_unread _
  isplitl [H9]
  · iexists _; isplitr; swap; · iexact H9
    ipureintro; exact ha9.read_unread _
  isplitl [H10]
  · iexists _; isplitr; swap; · iexact H10
    ipureintro; exact ha10.read_unread _
  isplitl [H11]
  · iexists _; isplitr; swap; · iexact H11
    ipureintro; exact ha11.read_unread _
  isplitl [H12]
  · iexists _; isplitr; swap; · iexact H12
    ipureintro; exact ha12.read_unread _
  iexists _; isplitr; swap; · iexact H13
  ipureintro; exact ha13.read_unread _

set_option maxHeartbeats 4000000 in
/-- The body at a point of case B. -/
theorem run_B (c : Dev nD) (i : grid0.Coords) (a0 : Memref sig .tc .vmem S1x1024x1024 .f32) (ha0 : a0.IsWhole) (a1 : Memref sig .tc .vmem S256x1024 .f32) (ha1 : a1.IsWhole) (a2 : Memref sig .tc .vmem S1x1024 .f32) (ha2 : a2.IsWhole) (a3 : Memref sig .tc .vmem S1024x3072 .f32) (ha3 : a3.IsWhole) (a4 : Memref sig .tc .vmem S1x1024x1024 .bf16) (ha4 : a4.IsWhole) (a5 : Memref sig .tc .vmem S1x1024x1024 .bf16) (ha5 : a5.IsWhole) (a6 : Memref sig .tc .vmem S1x1024x1024 .bf16) (ha6 : a6.IsWhole) (a7 : Memref sig .tc .vmem S1x1024x512 .f32) (ha7 : a7.IsWhole) (a8 : Memref sig .tc .vmem S1x1024x512 .f32) (ha8 : a8.IsWhole) (a9 : Memref sig .tc .vmem S256x1024 .bf16) (ha9 : a9.IsWhole) (a10 : Memref sig .tc .vmem S256x1024 .bf16) (ha10 : a10.IsWhole) (a11 : Memref sig .tc .vmem S256x1024 .bf16) (ha11 : a11.IsWhole) (a12 : Memref sig .tc .vmem S256x1024 .f32) (ha12 : a12.IsWhole) (a13 : Memref sig .tc .vmem S256x1024 .f32) (ha13 : a13.IsWhole) (h0 : Tile i) (h1 : Tail i) (h2 : ¬Sample i)
    (x0 : Vec F S1x1024x1024 .f32) (x1 : Vec F S256x1024 .f32) (x2 : Vec F S1x1024 .f32) (x3 : Vec F S1024x3072 .f32) (y9 : Vec F S256x1024 .bf16) (y10 : Vec F S256x1024 .bf16) (y11 : Vec F S256x1024 .bf16) (y12 : Vec F S256x1024 .f32) (y13 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ owns (c : Thread nD τ) a9 fullShare y9 ∗ owns (c : Thread nD τ) a10 fullShare y10 ∗ owns (c : Thread nD τ) a11 fullShare y11 ∗ owns (c : Thread nD τ) a12 fullShare y12 ∗ owns (c : Thread nD τ) a13 fullShare y13
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (qBlk x0 x2 x3) ∗ owns (c : Thread nD τ) a5 fullShare (kBlk x0 x2 x3) ∗ owns (c : Thread nD τ) a6 fullShare (vBlk x0 x2 x3) ∗ owns (c : Thread nD τ) a7 fullShare (kTail x0 x2 x3) ∗ owns (c : Thread nD τ) a8 fullShare (vTail x0 x2 x3) ∗ owns (c : Thread nD τ) a9 fullShare y9 ∗ owns (c : Thread nD τ) a10 fullShare y10 ∗ owns (c : Thread nD τ) a11 fullShare y11 ∗ owns (c : Thread nD τ) a12 fullShare y12 ∗ owns (c : Thread nD τ) a13 fullShare y13) -∗ K ⟨⟩))
      ⊢ wp frame (wpE (defs₀ (F := F)) Variants.none c none) E (cc0_qkv_proj i a0 ha0 a1 ha1 a2 ha2 a3 ha3 a4 ha4 a5 ha5 a6 ha6 a7 ha7 a8 ha8 a9 ha9 a10 ha10 a11 ha11 a12 ha12 a13 ha13) K := by
  simp only [cc0_qkv_proj_eq_skeleton]; unfold cc0_qkv_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := ha0.eq_unread hf0
  obtain rfl := ha1.eq_unread hf1
  obtain rfl := ha2.eq_unread hf2
  obtain rfl := ha3.eq_unread hf3
  obtain rfl := ha9.eq_unread hf9
  obtain rfl := ha10.eq_unread hf10
  obtain rfl := ha11.eq_unread hf11
  obtain rfl := ha12.eq_unread hf12
  obtain rfl := ha13.eq_unread hf13
  sl_exec (disch := first | sl_exact h0 | sl_exact h1 | sl_exact h2)
  sl_step
  iapply Hk
  isplitl [H0]
  · iexists _; isplitr; swap; · iexact H0
    ipureintro; exact ha0.read_unread _
  isplitl [H1]
  · iexists _; isplitr; swap; · iexact H1
    ipureintro; exact ha1.read_unread _
  isplitl [H2]
  · iexists _; isplitr; swap; · iexact H2
    ipureintro; exact ha2.read_unread _
  isplitl [H3]
  · iexists _; isplitr; swap; · iexact H3
    ipureintro; exact ha3.read_unread _
  isplitl [H4]
  · iexists _; isplitr; swap; · iexact H4
    ipureintro; refine (View.read_writes_full _ _ _ _ _).trans ?_; rw [load_full, load_full, load_part _ _ 0 (by omega)]; rfl
  isplitl [H5]
  · iexists _; isplitr; swap; · iexact H5
    ipureintro; refine (View.read_writes_full _ _ _ _ _).trans ?_; unfold run_B.sl.r_2; rw [load_full, load_full, load_part _ _ 1024 (by omega)]; rfl
  isplitl [H6]
  · iexists _; isplitr; swap; · iexact H6
    ipureintro; refine (View.read_writes_full _ _ _ _ _).trans ?_; unfold run_B.sl.r_1; rw [load_full, load_full, load_part _ _ 2048 (by omega)]; rfl
  isplitl [H7]
  · iexists _; isplitr; swap; · iexact H7
    ipureintro; refine (View.read_writes_full _ _ _ _ _).trans ?_; unfold run_B.sl.r; rw [load_full, load_full, load_part _ _ 1024 (by omega)]; rfl
  isplitl [H8]
  · iexists _; isplitr; swap; · iexact H8
    ipureintro; refine (View.read_writes_full _ _ _ _ _).trans ?_; unfold run_B.sl.r_1; rw [load_full, load_full, load_part _ _ 2048 (by omega)]; rfl
  isplitl [H9]
  · iexists _; isplitr; swap; · iexact H9
    ipureintro; exact ha9.read_unread _
  isplitl [H10]
  · iexists _; isplitr; swap; · iexact H10
    ipureintro; exact ha10.read_unread _
  isplitl [H11]
  · iexists _; isplitr; swap; · iexact H11
    ipureintro; exact ha11.read_unread _
  isplitl [H12]
  · iexists _; isplitr; swap; · iexact H12
    ipureintro; exact ha12.read_unread _
  iexists _; isplitr; swap; · iexact H13
  ipureintro; exact ha13.read_unread _

set_option maxHeartbeats 4000000 in
/-- The body at a point of case C. -/
theorem run_C (c : Dev nD) (i : grid0.Coords) (a0 : Memref sig .tc .vmem S1x1024x1024 .f32) (ha0 : a0.IsWhole) (a1 : Memref sig .tc .vmem S256x1024 .f32) (ha1 : a1.IsWhole) (a2 : Memref sig .tc .vmem S1x1024 .f32) (ha2 : a2.IsWhole) (a3 : Memref sig .tc .vmem S1024x3072 .f32) (ha3 : a3.IsWhole) (a4 : Memref sig .tc .vmem S1x1024x1024 .bf16) (ha4 : a4.IsWhole) (a5 : Memref sig .tc .vmem S1x1024x1024 .bf16) (ha5 : a5.IsWhole) (a6 : Memref sig .tc .vmem S1x1024x1024 .bf16) (ha6 : a6.IsWhole) (a7 : Memref sig .tc .vmem S1x1024x512 .f32) (ha7 : a7.IsWhole) (a8 : Memref sig .tc .vmem S1x1024x512 .f32) (ha8 : a8.IsWhole) (a9 : Memref sig .tc .vmem S256x1024 .bf16) (ha9 : a9.IsWhole) (a10 : Memref sig .tc .vmem S256x1024 .bf16) (ha10 : a10.IsWhole) (a11 : Memref sig .tc .vmem S256x1024 .bf16) (ha11 : a11.IsWhole) (a12 : Memref sig .tc .vmem S256x1024 .f32) (ha12 : a12.IsWhole) (a13 : Memref sig .tc .vmem S256x1024 .f32) (ha13 : a13.IsWhole) (h0 : ¬Tile i) (h2 : Sample i)
    (x0 : Vec F S1x1024x1024 .f32) (x1 : Vec F S256x1024 .f32) (x2 : Vec F S1x1024 .f32) (x3 : Vec F S1024x3072 .f32) (y4 : Vec F S1x1024x1024 .bf16) (y5 : Vec F S1x1024x1024 .bf16) (y6 : Vec F S1x1024x1024 .bf16) (y7 : Vec F S1x1024x512 .f32) (y8 : Vec F S1x1024x512 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ owns (c : Thread nD τ) a5 fullShare y5 ∗ owns (c : Thread nD τ) a6 fullShare y6 ∗ owns (c : Thread nD τ) a7 fullShare y7 ∗ owns (c : Thread nD τ) a8 fullShare y8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ owns (c : Thread nD τ) a5 fullShare y5 ∗ owns (c : Thread nD τ) a6 fullShare y6 ∗ owns (c : Thread nD τ) a7 fullShare y7 ∗ owns (c : Thread nD τ) a8 fullShare y8 ∗ owns (c : Thread nD τ) a9 fullShare (qRow x1 x2 x3) ∗ owns (c : Thread nD τ) a10 fullShare (kRow x1 x2 x3) ∗ owns (c : Thread nD τ) a11 fullShare (vRow x1 x2 x3) ∗ owns (c : Thread nD τ) a12 fullShare (kRow32 x1 x2 x3) ∗ owns (c : Thread nD τ) a13 fullShare (vRow32 x1 x2 x3)) -∗ K ⟨⟩))
      ⊢ wp frame (wpE (defs₀ (F := F)) Variants.none c none) E (cc0_qkv_proj i a0 ha0 a1 ha1 a2 ha2 a3 ha3 a4 ha4 a5 ha5 a6 ha6 a7 ha7 a8 ha8 a9 ha9 a10 ha10 a11 ha11 a12 ha12 a13 ha13) K := by
  simp only [cc0_qkv_proj_eq_skeleton]; unfold cc0_qkv_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := ha0.eq_unread hf0
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  sl_exec (disch := first | sl_exact h0 | sl_exact h2)
  sl_step
  iapply Hk
  isplitl [H0]
  · iexists _; isplitr; swap; · iexact H0
    ipureintro; exact ha0.read_unread _
  isplitl [H1]
  · iexists _; isplitr; swap; · iexact H1
    ipureintro; exact ha1.read_unread _
  isplitl [H2]
  · iexists _; isplitr; swap; · iexact H2
    ipureintro; exact ha2.read_unread _
  isplitl [H3]
  · iexists _; isplitr; swap; · iexact H3
    ipureintro; exact ha3.read_unread _
  isplitl [H4]
  · iexists _; isplitr; swap; · iexact H4
    ipureintro; exact ha4.read_unread _
  isplitl [H5]
  · iexists _; isplitr; swap; · iexact H5
    ipureintro; exact ha5.read_unread _
  isplitl [H6]
  · iexists _; isplitr; swap; · iexact H6
    ipureintro; exact ha6.read_unread _
  isplitl [H7]
  · iexists _; isplitr; swap; · iexact H7
    ipureintro; exact ha7.read_unread _
  isplitl [H8]
  · iexists _; isplitr; swap; · iexact H8
    ipureintro; exact ha8.read_unread _
  isplitl [H9]
  · iexists _; isplitr; swap; · iexact H9
    ipureintro; refine (View.read_writes_full _ _ _ _ _).trans ?_; rw [load_full, load_full, load_part _ _ 0 (by omega)]; rfl
  isplitl [H10]
  · iexists _; isplitr; swap; · iexact H10
    ipureintro; refine (View.read_writes_full _ _ _ _ _).trans ?_; rw [load_full, load_full, load_part _ _ 1024 (by omega)]; rfl
  isplitl [H11]
  · iexists _; isplitr; swap; · iexact H11
    ipureintro; refine (View.read_writes_full _ _ _ _ _).trans ?_; rw [load_full, load_full, load_part _ _ 2048 (by omega)]; rfl
  isplitl [H12]
  · iexists _; isplitr; swap; · iexact H12
    ipureintro; refine (View.read_writes_full _ _ _ _ _).trans ?_; unfold run_C.sl.r; rw [load_full, load_full, load_part _ _ 1024 (by omega)]; rfl
  iexists _; isplitr; swap; · iexact H13
  ipureintro; refine (View.read_writes_full _ _ _ _ _).trans ?_; unfold run_C.sl.r_1; rw [load_full, load_full, load_part _ _ 2048 (by omega)]; rfl

end Cert.QkvIdeal.Body

end
-- ==== Proof.QkvBody.lean ====
module

public import proofs.«01_k».proof.Proof.QkvRun
public import Idealize.ShloMosaic.Lib.Claim

@[expose] public section

set_option maxRecDepth 16384

noncomputable section

namespace Cert.QkvIdeal.Body

open Cert.QkvIdeal Cert.QkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem tile_iff : ∀ t : Fin cfg0.N, Tile (grid0.coords t) ↔ t.val < 16 :=
  (by decide +kernel : ∀ t : Fin grid0.N, Tile (grid0.coords t) ↔ t.val < 16)
theorem tail_iff : ∀ t : Fin cfg0.N, Tail (grid0.coords t) ↔ t.val % 8 = 7 :=
  (by decide +kernel : ∀ t : Fin grid0.N, Tail (grid0.coords t) ↔ t.val % 8 = 7)
theorem sample_iff : ∀ t : Fin cfg0.N, Sample (grid0.coords t) ↔ t.val = 16 :=
  (by decide +kernel : ∀ t : Fin grid0.N, Sample (grid0.coords t) ↔ t.val = 16)

theorem idle_4 : ∀ t : Fin cfg0.N, cfg0.idle 4 (grid0.coords t) = !decide (t.val < 16) :=
  (by decide +kernel : ∀ t : Fin grid0.N, idle0 4 (grid0.coords t) = !decide (t.val < 16))
theorem flush_4 : ∀ t : Fin cfg0.N, (cfg0.win 4).flush t = decide (t.val ≠ 15) :=
  (by decide +kernel : ∀ t : Fin grid0.N, win0_4.flush t = decide (t.val ≠ 15))
theorem idle_5 : ∀ t : Fin cfg0.N, cfg0.idle 5 (grid0.coords t) = !decide (t.val < 16) :=
  (by decide +kernel : ∀ t : Fin grid0.N, idle0 5 (grid0.coords t) = !decide (t.val < 16))
theorem flush_5 : ∀ t : Fin cfg0.N, (cfg0.win 5).flush t = decide (t.val ≠ 15) :=
  (by decide +kernel : ∀ t : Fin grid0.N, win0_5.flush t = decide (t.val ≠ 15))
theorem idle_6 : ∀ t : Fin cfg0.N, cfg0.idle 6 (grid0.coords t) = !decide (t.val < 16) :=
  (by decide +kernel : ∀ t : Fin grid0.N, idle0 6 (grid0.coords t) = !decide (t.val < 16))
theorem flush_6 : ∀ t : Fin cfg0.N, (cfg0.win 6).flush t = decide (t.val ≠ 15) :=
  (by decide +kernel : ∀ t : Fin grid0.N, win0_6.flush t = decide (t.val ≠ 15))
theorem idle_7 : ∀ t : Fin cfg0.N, cfg0.idle 7 (grid0.coords t) = !decide (t.val < 16 ∧ t.val % 8 = 7) :=
  (by decide +kernel : ∀ t : Fin grid0.N, idle0 7 (grid0.coords t) = !decide (t.val < 16 ∧ t.val % 8 = 7))
theorem flush_7 : ∀ t : Fin cfg0.N, (cfg0.win 7).flush t = decide (t.val = 7 ∨ t.val = 16) :=
  (by decide +kernel : ∀ t : Fin grid0.N, win0_7.flush t = decide (t.val = 7 ∨ t.val = 16))
theorem idle_8 : ∀ t : Fin cfg0.N, cfg0.idle 8 (grid0.coords t) = !decide (t.val < 16 ∧ t.val % 8 = 7) :=
  (by decide +kernel : ∀ t : Fin grid0.N, idle0 8 (grid0.coords t) = !decide (t.val < 16 ∧ t.val % 8 = 7))
theorem flush_8 : ∀ t : Fin cfg0.N, (cfg0.win 8).flush t = decide (t.val = 7 ∨ t.val = 16) :=
  (by decide +kernel : ∀ t : Fin grid0.N, win0_8.flush t = decide (t.val = 7 ∨ t.val = 16))
theorem idle_9 : ∀ t : Fin cfg0.N, cfg0.idle 9 (grid0.coords t) = !decide (t.val = 16) :=
  (by decide +kernel : ∀ t : Fin grid0.N, idle0 9 (grid0.coords t) = !decide (t.val = 16))
theorem flush_9 : ∀ t : Fin cfg0.N, (cfg0.win 9).flush t = decide (t.val = 16) :=
  (by decide +kernel : ∀ t : Fin grid0.N, win0_9.flush t = decide (t.val = 16))
theorem idle_10 : ∀ t : Fin cfg0.N, cfg0.idle 10 (grid0.coords t) = !decide (t.val = 16) :=
  (by decide +kernel : ∀ t : Fin grid0.N, idle0 10 (grid0.coords t) = !decide (t.val = 16))
theorem flush_10 : ∀ t : Fin cfg0.N, (cfg0.win 10).flush t = decide (t.val = 16) :=
  (by decide +kernel : ∀ t : Fin grid0.N, win0_10.flush t = decide (t.val = 16))
theorem idle_11 : ∀ t : Fin cfg0.N, cfg0.idle 11 (grid0.coords t) = !decide (t.val = 16) :=
  (by decide +kernel : ∀ t : Fin grid0.N, idle0 11 (grid0.coords t) = !decide (t.val = 16))
theorem flush_11 : ∀ t : Fin cfg0.N, (cfg0.win 11).flush t = decide (t.val = 16) :=
  (by decide +kernel : ∀ t : Fin grid0.N, win0_11.flush t = decide (t.val = 16))
theorem idle_12 : ∀ t : Fin cfg0.N, cfg0.idle 12 (grid0.coords t) = !decide (t.val = 16) :=
  (by decide +kernel : ∀ t : Fin grid0.N, idle0 12 (grid0.coords t) = !decide (t.val = 16))
theorem flush_12 : ∀ t : Fin cfg0.N, (cfg0.win 12).flush t = decide (t.val = 16) :=
  (by decide +kernel : ∀ t : Fin grid0.N, win0_12.flush t = decide (t.val = 16))
theorem idle_13 : ∀ t : Fin cfg0.N, cfg0.idle 13 (grid0.coords t) = !decide (t.val = 16) :=
  (by decide +kernel : ∀ t : Fin grid0.N, idle0 13 (grid0.coords t) = !decide (t.val = 16))
theorem flush_13 : ∀ t : Fin cfg0.N, (cfg0.win 13).flush t = decide (t.val = 16) :=
  (by decide +kernel : ∀ t : Fin grid0.N, win0_13.flush t = decide (t.val = 16))

/-- The point whose tile the prompt's buffers hold after point `t`: its own, and the last tile's after the sample's point. -/
def tileOf (t : Fin cfg0.N) : Fin cfg0.N := ⟨min t.val 15, lt_of_le_of_lt (Nat.min_le_left _ _) t.isLt⟩

/-- The point whose tail the tails' buffers hold when they are written back. -/
def tailOf (t : Fin cfg0.N) : Fin cfg0.N :=
  if t.val < 15 then ⟨7, lt_of_lt_of_eq (by decide) (show 17 = cfg0.N from N_0.symm)⟩ else ⟨15, lt_of_lt_of_eq (by decide) (show 17 = cfg0.N from N_0.symm)⟩

theorem tileOf_tile (t : Fin cfg0.N) (h : t.val < 16) : tileOf t = t := Fin.ext (by show min t.val 15 = t.val; omega)
theorem tailOf_tail (t : Fin cfg0.N) (h : t.val < 16) (h1 : t.val % 8 = 7) : tailOf t = t := by
  unfold tailOf; split <;> refine Fin.ext ?_ <;> dsimp only <;> omega

/-! ## The proof data -/

/-- What each window's buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qBlk (iblk m c 0 (tileOf t)) (iblk m c 2 (tileOf t)) (iblk m c 3 (tileOf t))
    | ⟨5, _⟩ => kBlk (iblk m c 0 (tileOf t)) (iblk m c 2 (tileOf t)) (iblk m c 3 (tileOf t))
    | ⟨6, _⟩ => vBlk (iblk m c 0 (tileOf t)) (iblk m c 2 (tileOf t)) (iblk m c 3 (tileOf t))
    | ⟨7, _⟩ => kTail (iblk m c 0 (tailOf t)) (iblk m c 2 (tailOf t)) (iblk m c 3 (tailOf t))
    | ⟨8, _⟩ => vTail (iblk m c 0 (tailOf t)) (iblk m c 2 (tailOf t)) (iblk m c 3 (tailOf t))
    | ⟨9, _⟩ => qRow (iblk m c 1 t) (iblk m c 2 t) (iblk m c 3 t)
    | ⟨10, _⟩ => kRow (iblk m c 1 t) (iblk m c 2 t) (iblk m c 3 t)
    | ⟨11, _⟩ => vRow (iblk m c 1 t) (iblk m c 2 t) (iblk m c 3 t)
    | ⟨12, _⟩ => kRow32 (iblk m c 1 t) (iblk m c 2 t) (iblk m c 3 t)
    | ⟨13, _⟩ => vRow32 (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = qBlk (iblk m c 0 (tileOf t)) (iblk m c 2 (tileOf t)) (iblk m c 3 (tileOf t)) := by dsimp only [dats]
theorem after_5 (c : Dev nD) (t : Fin cfg0.N) : (dats m 0 c).after 5 t = kBlk (iblk m c 0 (tileOf t)) (iblk m c 2 (tileOf t)) (iblk m c 3 (tileOf t)) := by dsimp only [dats]
theorem after_6 (c : Dev nD) (t : Fin cfg0.N) : (dats m 0 c).after 6 t = vBlk (iblk m c 0 (tileOf t)) (iblk m c 2 (tileOf t)) (iblk m c 3 (tileOf t)) := by dsimp only [dats]
theorem after_7 (c : Dev nD) (t : Fin cfg0.N) : (dats m 0 c).after 7 t = kTail (iblk m c 0 (tailOf t)) (iblk m c 2 (tailOf t)) (iblk m c 3 (tailOf t)) := by dsimp only [dats]
theorem after_8 (c : Dev nD) (t : Fin cfg0.N) : (dats m 0 c).after 8 t = vTail (iblk m c 0 (tailOf t)) (iblk m c 2 (tailOf t)) (iblk m c 3 (tailOf t)) := by dsimp only [dats]
theorem after_9 (c : Dev nD) (t : Fin cfg0.N) : (dats m 0 c).after 9 t = qRow (iblk m c 1 t) (iblk m c 2 t) (iblk m c 3 t) := by dsimp only [dats]
theorem after_10 (c : Dev nD) (t : Fin cfg0.N) : (dats m 0 c).after 10 t = kRow (iblk m c 1 t) (iblk m c 2 t) (iblk m c 3 t) := by dsimp only [dats]
theorem after_11 (c : Dev nD) (t : Fin cfg0.N) : (dats m 0 c).after 11 t = vRow (iblk m c 1 t) (iblk m c 2 t) (iblk m c 3 t) := by dsimp only [dats]
theorem after_12 (c : Dev nD) (t : Fin cfg0.N) : (dats m 0 c).after 12 t = kRow32 (iblk m c 1 t) (iblk m c 2 t) (iblk m c 3 t) := by dsimp only [dats]
theorem after_13 (c : Dev nD) (t : Fin cfg0.N) : (dats m 0 c).after 13 t = vRow32 (iblk m c 1 t) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At the sample's point a buffer of the prompt holds what the point before left, for a window whose blocks are whole. -/
theorem before_sample (c : Dev nD) (w : Fin cfg0.W) (hw : (cfg0.win w).isOut = true) (t : Fin cfg0.N) (ht : t.val = 16)
    (hi : cfg0.idle w (grid0.coords ⟨t.val - 1, Nat.lt_of_le_of_lt (Nat.sub_le _ _) t.isLt⟩) = false)
    (hf : (cfg0.win w).flush ⟨t.val - 1, Nat.lt_of_le_of_lt (Nat.sub_le _ _) t.isLt⟩ = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t (by omega) ((cfg0.win w).fetch_out hw t), hf, if_neg Bool.false_ne_true]
  unfold Dat.left; rw [hi]; dsimp only
  unfold Dat.kept
  rw [Pipeline.fill_of_clip_none w _ (hclip _) d ((dats m 0 c).after w _), Window.fill_cut]

theorem before_4_C (c : Dev nD) (t : Fin cfg0.N) (ht : t.val = 16) (d) : (dats m 0 c).before 4 t d = (dats m 0 c).after 4 t := by
  refine (before_sample m c 4 rfl t ht (by rw [idle_4]; simp [ht]) (by rw [flush_4]; simp [ht]) (fun _ _ => rfl) d).trans ?_
  rw [after_4, after_4, show tileOf ⟨t.val - 1, Nat.lt_of_le_of_lt (Nat.sub_le _ _) t.isLt⟩ = tileOf t from by unfold tileOf; refine Fin.ext ?_; dsimp only; omega]
theorem before_5_C (c : Dev nD) (t : Fin cfg0.N) (ht : t.val = 16) (d) : (dats m 0 c).before 5 t d = (dats m 0 c).after 5 t := by
  refine (before_sample m c 5 rfl t ht (by rw [idle_5]; simp [ht]) (by rw [flush_5]; simp [ht]) (fun _ _ => rfl) d).trans ?_
  rw [after_5, after_5, show tileOf ⟨t.val - 1, Nat.lt_of_le_of_lt (Nat.sub_le _ _) t.isLt⟩ = tileOf t from by unfold tileOf; refine Fin.ext ?_; dsimp only; omega]
theorem before_6_C (c : Dev nD) (t : Fin cfg0.N) (ht : t.val = 16) (d) : (dats m 0 c).before 6 t d = (dats m 0 c).after 6 t := by
  refine (before_sample m c 6 rfl t ht (by rw [idle_6]; simp [ht]) (by rw [flush_6]; simp [ht]) (fun _ _ => rfl) d).trans ?_
  rw [after_6, after_6, show tileOf ⟨t.val - 1, Nat.lt_of_le_of_lt (Nat.sub_le _ _) t.isLt⟩ = tileOf t from by unfold tileOf; refine Fin.ext ?_; dsimp only; omega]
theorem before_7_C (c : Dev nD) (t : Fin cfg0.N) (ht : t.val = 16) (d) : (dats m 0 c).before 7 t d = (dats m 0 c).after 7 t := by
  refine (before_sample m c 7 rfl t ht (by rw [idle_7]; simp [ht]) (by rw [flush_7]; simp [ht]) (fun _ _ => rfl) d).trans ?_
  rw [after_7, after_7, show tailOf ⟨t.val - 1, Nat.lt_of_le_of_lt (Nat.sub_le _ _) t.isLt⟩ = tailOf t from by unfold tailOf; rw [if_neg (by dsimp only; omega), if_neg (by omega)]]
theorem before_8_C (c : Dev nD) (t : Fin cfg0.N) (ht : t.val = 16) (d) : (dats m 0 c).before 8 t d = (dats m 0 c).after 8 t := by
  refine (before_sample m c 8 rfl t ht (by rw [idle_8]; simp [ht]) (by rw [flush_8]; simp [ht]) (fun _ _ => rfl) d).trans ?_
  rw [after_8, after_8, show tailOf ⟨t.val - 1, Nat.lt_of_le_of_lt (Nat.sub_le _ _) t.isLt⟩ = tailOf t from by unfold tailOf; rw [if_neg (by dsimp only; omega), if_neg (by omega)]]

/-- A live point, or one that writes back, leaves `after` in the buffer. -/
theorem leaves_after (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-! ## The body at a point -/

def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
theorem sound_A (c : Dev nD) (t : Fin cfg0.N) (h0 : t.val < 16) (h1 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [leaves_after m c 0 t (.inl rfl), after_0]
  rw [leaves_after m c 1 t (.inl rfl), after_1]
  rw [leaves_after m c 2 t (.inl rfl), after_2]
  rw [leaves_after m c 3 t (.inl rfl), after_3]
  rw [leaves_after m c 4 t (.inl (by rw [idle_4]; simp; omega)), after_4]
  rw [leaves_after m c 5 t (.inl (by rw [idle_5]; simp; omega)), after_5]
  rw [leaves_after m c 6 t (.inl (by rw [idle_6]; simp; omega)), after_6]
  rw [Dat.leavesExact_idle _ 7 t (show cfg0.idle 7 (grid0.coords t) = true by rw [idle_7]; simp; omega) (by rw [flush_7]; simp; omega)]
  rw [Dat.leavesExact_idle _ 8 t (show cfg0.idle 8 (grid0.coords t) = true by rw [idle_8]; simp; omega) (by rw [flush_8]; simp; omega)]
  rw [Dat.leavesExact_idle _ 9 t (show cfg0.idle 9 (grid0.coords t) = true by rw [idle_9]; simp; omega) (by rw [flush_9]; simp; omega)]
  rw [Dat.leavesExact_idle _ 10 t (show cfg0.idle 10 (grid0.coords t) = true by rw [idle_10]; simp; omega) (by rw [flush_10]; simp; omega)]
  rw [Dat.leavesExact_idle _ 11 t (show cfg0.idle 11 (grid0.coords t) = true by rw [idle_11]; simp; omega) (by rw [flush_11]; simp; omega)]
  rw [Dat.leavesExact_idle _ 12 t (show cfg0.idle 12 (grid0.coords t) = true by rw [idle_12]; simp; omega) (by rw [flush_12]; simp; omega)]
  rw [Dat.leavesExact_idle _ 13 t (show cfg0.idle 13 (grid0.coords t) = true by rw [idle_13]; simp; omega) (by rw [flush_13]; simp; omega)]
  rw [tileOf_tile t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_A c (grid0.coords t) _ _ _ _ _ _ _ _ _ _ _ _ _ _ _ _ _ _ _ _ _ _ _ _ _ _ _ _ ((tile_iff t).mpr h0) (fun h => h1 ((tail_iff t).mp h)) (fun h => absurd ((sample_iff t).mp h) (by omega)) (iblk m c 0 t) (iblk m c 1 t) (iblk m c 2 t) (iblk m c 3 t) _ _ _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

set_option maxHeartbeats 4000000 in
theorem sound_B (c : Dev nD) (t : Fin cfg0.N) (h0 : t.val < 16) (h1 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [leaves_after m c 0 t (.inl rfl), after_0]
  rw [leaves_after m c 1 t (.inl rfl), after_1]
  rw [leaves_after m c 2 t (.inl rfl), after_2]
  rw [leaves_after m c 3 t (.inl rfl), after_3]
  rw [leaves_after m c 4 t (.inl (by rw [idle_4]; simp; omega)), after_4]
  rw [leaves_after m c 5 t (.inl (by rw [idle_5]; simp; omega)), after_5]
  rw [leaves_after m c 6 t (.inl (by rw [idle_6]; simp; omega)), after_6]
  rw [leaves_after m c 7 t (.inl (by rw [idle_7]; simp; omega)), after_7]
  rw [leaves_after m c 8 t (.inl (by rw [idle_8]; simp; omega)), after_8]
  rw [Dat.leavesExact_idle _ 9 t (show cfg0.idle 9 (grid0.coords t) = true by rw [idle_9]; simp; omega) (by rw [flush_9]; simp; omega)]
  rw [Dat.leavesExact_idle _ 10 t (show cfg0.idle 10 (grid0.coords t) = true by rw [idle_10]; simp; omega) (by rw [flush_10]; simp; omega)]
  rw [Dat.leavesExact_idle _ 11 t (show cfg0.idle 11 (grid0.coords t) = true by rw [idle_11]; simp; omega) (by rw [flush_11]; simp; omega)]
  rw [Dat.leavesExact_idle _ 12 t (show cfg0.idle 12 (grid0.coords t) = true by rw [idle_12]; simp; omega) (by rw [flush_12]; simp; omega)]
  rw [Dat.leavesExact_idle _ 13 t (show cfg0.idle 13 (grid0.coords t) = true by rw [idle_13]; simp; omega) (by rw [flush_13]; simp; omega)]
  rw [tileOf_tile t h0]
  rw [tailOf_tail t h0 h1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ ((tile_iff t).mpr h0) ((tail_iff t).mpr h1) (fun h => absurd ((sample_iff t).mp h) (by omega)) (iblk m c 0 t) (iblk m c 1 t) (iblk m c 2 t) (iblk m c 3 t) _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

set_option maxHeartbeats 4000000 in
theorem sound_C (c : Dev nD) (t : Fin cfg0.N) (h2 : t.val = 16) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [leaves_after m c 0 t (.inl rfl), after_0]
  rw [leaves_after m c 1 t (.inl rfl), after_1]
  rw [leaves_after m c 2 t (.inl rfl), after_2]
  rw [leaves_after m c 3 t (.inl rfl), after_3]
  rw [leaves_after m c 4 t (.inr (by rw [flush_4]; simp; omega))]; simp only [before_4_C m c t h2]
  rw [leaves_after m c 5 t (.inr (by rw [flush_5]; simp; omega))]; simp only [before_5_C m c t h2]
  rw [leaves_after m c 6 t (.inr (by rw [flush_6]; simp; omega))]; simp only [before_6_C m c t h2]
  rw [leaves_after m c 7 t (.inr (by rw [flush_7]; simp; omega))]; simp only [before_7_C m c t h2]
  rw [leaves_after m c 8 t (.inr (by rw [flush_8]; simp; omega))]; simp only [before_8_C m c t h2]
  rw [leaves_after m c 9 t (.inl (by rw [idle_9]; simp; omega)), after_9]
  rw [leaves_after m c 10 t (.inl (by rw [idle_10]; simp; omega)), after_10]
  rw [leaves_after m c 11 t (.inl (by rw [idle_11]; simp; omega)), after_11]
  rw [leaves_after m c 12 t (.inl (by rw [idle_12]; simp; omega)), after_12]
  rw [leaves_after m c 13 t (.inl (by rw [idle_13]; simp; omega)), after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ (fun h => absurd ((tile_iff t).mp h) (by omega)) ((sample_iff t).mpr h2) (iblk m c 0 t) (iblk m c 1 t) (iblk m c 2 t) (iblk m c 3 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem sound_body (c : Dev nD) (t : Fin cfg0.N) :
    bodyPre m c t ⊢ wp frame (wpE (defs₀ (F := F)) Variants.none c none) Set.univ (bodyAt0 t) (fun _ => bodyPost m c t) := by
  have hN : t.val < 17 := lt_of_lt_of_eq t.isLt (show cfg0.N = 17 from N_0)
  by_cases h0 : t.val < 16
  · by_cases h1 : t.val % 8 = 7
    · exact sound_B m c t h0 h1
    · exact sound_A m c t h0 h1
  · exact sound_C m c t (by omega)

theorem row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every run ends with the arrays at what the proof data says and with every semaphore's counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they were launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.QkvIdeal.Body

end
-- ==== Proof.QkvTile.lean ====
module

public import proofs.«01_k».proof.Proof.QkvBody
public import proofs.«01_k».proof.Proof.FfnMath

@[expose] public section

set_option maxRecDepth 16384

noncomputable section

namespace Cert.QkvMath

open Idealize.ShloMosaic Cert.FfnMath

/-- The arguments of the projections, each read by its coordinates: the prompt, the sample, the gain and the matrix. -/
structure Args where
  X : Fin 2 → Fin 8192 → Fin 1024 → EReal
  S : Fin 256 → Fin 1024 → EReal
  G : Fin 1024 → EReal
  W : Fin 1024 → Fin 3072 → EReal

/-- Column `c` of a normed row's projection. -/
def proj (x g : Fin 1024 → EReal) (w : Fin 1024 → Fin 3072 → EReal) (c : Fin 3072) : EReal := ∑ i, rms x g i * w i c

/-- The query's scale. -/
def scale : EReal := Ideal.ofBits FTy.f32 0x3E38AA3B#32

/-- The projection's columns from `o`. -/
abbrev at_ (o : ℕ) (ho : o ≤ 2048) (k : Fin 1024) : Fin 3072 := ⟨o + k.val, by omega⟩

/-- A row of a tile's lower half. -/
abbrev lower (r : Fin 512) : Fin 1024 := ⟨512 + r.val, by omega⟩

end Cert.QkvMath

namespace Cert.QkvIdeal.Body

open Cert.QkvIdeal Cert.QkvIdeal.Gen Idealize.ShloMosaic Idealize.ShloMosaic.TcCoe Idealize.SL.Sem Cert.FfnMath Cert.QkvMath

variable {x : Vec Ideal S1x1024x1024 .f32} {s : Vec Ideal S256x1024 .f32} {g : Vec Ideal S1x1024 .f32} {w : Vec Ideal S1024x3072 .f32}
  {X G : Fin 1024 → EReal} {W : Fin 1024 → Fin 3072 → EReal}

theorem wPart_at (o : ℕ) (ho : o ≤ 2048) (hw : ∀ i c, w (ix2 i c) = W i c) (i k : Fin 1024) : wPart o ho w (ix2 i k) = W i (at_ o ho k) := by
  rw [← hw]
  exact congrArg w (funext fun a => by fin_cases a <;> rfl)

theorem normed_at (r : Fin 1024) (hx : ∀ k, x (ix3 0 r k) = X k) (hg : ∀ k, g (ix2 0 k) = G k) (k : Fin 1024) : k0_pay5 x g (ix2 r k) = rms X G k := by
  pointwise [k0_pay5]
  simp only [hx, hg, rms]

theorem row_normed_at (r : Fin 256) (hs : ∀ k, s (ix2 r k) = X k) (hg : ∀ k, g (ix2 0 k) = G k) (k : Fin 1024) : k0_pay10 s g (ix2 r k) = rms X G k := by
  pointwise [k0_pay10]
  simp only [hs, hg, rms]

section
variable (r : Fin 1024) (hx : ∀ k, x (ix3 0 r k) = X k) (hg : ∀ k, g (ix2 0 k) = G k) (hw : ∀ i c, w (ix2 i c) = W i c)
include hx hg hw

theorem q_at (k : Fin 1024) : qBlk x g w (ix3 0 r k) = proj X G W (at_ 0 (by omega) k) * scale := by
  unfold qBlk
  pointwise [k0_pay8]
  simp only [normed_at r hx hg, wPart_at _ _ hw]
  rfl

theorem k_at (k : Fin 1024) : kBlk x g w (ix3 0 r k) = proj X G W (at_ 1024 (by omega) k) := by
  unfold kBlk
  pointwise [k0_pay1, k0_pay9, k0_pay6]
  simp only [normed_at r hx hg, wPart_at _ _ hw]
  rfl

theorem v_at (k : Fin 1024) : vBlk x g w (ix3 0 r k) = proj X G W (at_ 2048 (by omega) k) := by
  unfold vBlk
  pointwise [k0_pay2, k0_pay7]
  simp only [normed_at r hx hg, wPart_at _ _ hw]
  rfl
end

section
variable (r : Fin 512) (hx : ∀ k, x (ix3 0 (lower r) k) = X k) (hg : ∀ k, g (ix2 0 k) = G k) (hw : ∀ i c, w (ix2 i c) = W i c)
include hx hg hw

theorem kTail_at (k : Fin 1024) : kTail x g w (ix3 0 k r) = proj X G W (at_ 1024 (by omega) k) := by
  unfold kTail
  pointwise [k0_pay3, k0_pay6]
  simp only [normed_at _ hx hg, wPart_at _ _ hw]
  rfl

theorem vTail_at (k : Fin 1024) : vTail x g w (ix3 0 k r) = proj X G W (at_ 2048 (by omega) k) := by
  unfold vTail
  pointwise [k0_pay4, k0_pay7]
  simp only [normed_at _ hx hg, wPart_at _ _ hw]
  rfl
end

section
variable (r : Fin 256) (hs : ∀ k, s (ix2 r k) = X k) (hg : ∀ k, g (ix2 0 k) = G k) (hw : ∀ i c, w (ix2 i c) = W i c)
include hs hg hw

theorem qRow_at (k : Fin 1024) : qRow s g w (ix2 r k) = proj X G W (at_ 0 (by omega) k) * scale := by
  unfold qRow
  pointwise [k0_pay13]
  simp only [row_normed_at r hs hg, wPart_at _ _ hw]
  rfl

theorem kRow_at (k : Fin 1024) : kRow s g w (ix2 r k) = proj X G W (at_ 1024 (by omega) k) := by
  unfold kRow
  pointwise [k0_pay14, k0_pay11]
  simp only [row_normed_at r hs hg, wPart_at _ _ hw]
  rfl

theorem vRow_at (k : Fin 1024) : vRow s g w (ix2 r k) = proj X G W (at_ 2048 (by omega) k) := by
  unfold vRow
  pointwise [k0_pay15, k0_pay12]
  simp only [row_normed_at r hs hg, wPart_at _ _ hw]
  rfl

theorem kRow32_at (k : Fin 1024) : kRow32 s g w (ix2 r k) = proj X G W (at_ 1024 (by omega) k) := kRow_at r hs hg hw k

theorem vRow32_at (k : Fin 1024) : vRow32 s g w (ix2 r k) = proj X G W (at_ 2048 (by omega) k) := vRow_at r hs hg hw k
end

end Cert.QkvIdeal.Body
end
-- ==== Proof.QkvRefValue.lean ====
module

public import proofs.«01_k».proof.Proof.Gen.QkvRefIdeal.Read
public import proofs.«01_k».proof.Proof.QkvTile

@[expose] public section

set_option maxRecDepth 16384

noncomputable section

namespace Cert.QkvRefIdeal.Body

open Cert.QkvRefIdeal Cert.QkvRefIdeal.Gen Cert.QkvRefIdeal.Read Idealize.ShloMosaic Idealize.ShloMosaic.TcCoe Idealize.SL.Sem Cert.FfnMath Cert.QkvMath

variable (x0 : Vec Ideal S2x8192x1024 .f32) (x1 : Vec Ideal S256x1024 .f32) (x2 : Vec Ideal S1024 .f32) (x3 : Vec Ideal S1024x3072 .f32)

theorem all_at (b : Fin 2) (t : Fin 8192) (c : Fin 3072) :
    val_main_v13 x0 x2 x3 (ix3 b t c) = proj (fun k => x0 (ix3 b t k)) (fun k => x2 (ix1 k)) (fun i c => x3 (ix2 i c)) c := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem row_all_at (r : Fin 256) (c : Fin 3072) :
    val_main_v30 x1 x2 x3 (ix2 r c) = proj (fun k => x1 (ix2 r k)) (fun k => x2 (ix1 k)) (fun i c => x3 (ix2 i c)) c := by
  pointwise [val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]
  rfl

theorem q_at (b : Fin 2) (t : Fin 8192) (k : Fin 1024) :
    val_main_v40 x0 x2 x3 (ix3 b t k) = proj (fun k => x0 (ix3 b t k)) (fun k => x2 (ix1 k)) (fun i c => x3 (ix2 i c)) (at_ 0 (by omega) k) * scale := by
  pointwise [val_main_v40, val_main_v39, val_main_v38, val_main_cst_5, val_main_v14]
  rw [all_at]
  congr 2
  exact Fin.ext (show k.val = 0 + k.val by omega)

theorem k_at (b : Fin 2) (t : Fin 8192) (k : Fin 1024) :
    val_main_v41 x0 x2 x3 (ix3 b t k) = proj (fun k => x0 (ix3 b t k)) (fun k => x2 (ix1 k)) (fun i c => x3 (ix2 i c)) (at_ 1024 (by omega) k) := by
  pointwise [val_main_v41, val_main_v15]
  rw [all_at]

theorem v_at (b : Fin 2) (t : Fin 8192) (k : Fin 1024) :
    val_main_v42 x0 x2 x3 (ix3 b t k) = proj (fun k => x0 (ix3 b t k)) (fun k => x2 (ix1 k)) (fun i c => x3 (ix2 i c)) (at_ 2048 (by omega) k) := by
  pointwise [val_main_v42, val_main_v16]
  rw [all_at]

theorem kTail_at (b : Fin 2) (k : Fin 1024) (r : Fin 512) :
    val_main_v35 x0 x2 x3 (ix3 b k r) = proj (fun k => x0 (ix3 b (⟨7680 + r.val, by omega⟩ : Fin 8192) k)) (fun k => x2 (ix1 k)) (fun i c => x3 (ix2 i c)) (at_ 1024 (by omega) k) := by
  pointwise [val_main_v35, val_main_v34, val_main_v15]
  rw [all_at]

theorem vTail_at (b : Fin 2) (k : Fin 1024) (r : Fin 512) :
    val_main_v37 x0 x2 x3 (ix3 b k r) = proj (fun k => x0 (ix3 b (⟨7680 + r.val, by omega⟩ : Fin 8192) k)) (fun k => x2 (ix1 k)) (fun i c => x3 (ix2 i c)) (at_ 2048 (by omega) k) := by
  pointwise [val_main_v37, val_main_v36, val_main_v16]
  rw [all_at]

theorem qRow_at (r : Fin 256) (k : Fin 1024) :
    val_main_v45 x1 x2 x3 (ix2 r k) = proj (fun k => x1 (ix2 r k)) (fun k => x2 (ix1 k)) (fun i c => x3 (ix2 i c)) (at_ 0 (by omega) k) * scale := by
  pointwise [val_main_v45, val_main_v44, val_main_v43, val_main_cst_6, val_main_v31]
  rw [row_all_at]
  congr 2
  exact Fin.ext (show k.val = 0 + k.val by omega)

theorem kRow32_at (r : Fin 256) (k : Fin 1024) :
    val_main_v32 x1 x2 x3 (ix2 r k) = proj (fun k => x1 (ix2 r k)) (fun k => x2 (ix1 k)) (fun i c => x3 (ix2 i c)) (at_ 1024 (by omega) k) := by
  pointwise [val_main_v32]
  rw [row_all_at]

theorem vRow32_at (r : Fin 256) (k : Fin 1024) :
    val_main_v33 x1 x2 x3 (ix2 r k) = proj (fun k => x1 (ix2 r k)) (fun k => x2 (ix1 k)) (fun i c => x3 (ix2 i c)) (at_ 2048 (by omega) k) := by
  pointwise [val_main_v33]
  rw [row_all_at]

theorem kRow_at (r : Fin 256) (k : Fin 1024) :
    val_main_v46 x1 x2 x3 (ix2 r k) = proj (fun k => x1 (ix2 r k)) (fun k => x2 (ix1 k)) (fun i c => x3 (ix2 i c)) (at_ 1024 (by omega) k) := by
  pointwise [val_main_v46]
  rw [kRow32_at]

theorem vRow_at (r : Fin 256) (k : Fin 1024) :
    val_main_v47 x1 x2 x3 (ix2 r k) = proj (fun k => x1 (ix2 r k)) (fun k => x2 (ix1 k)) (fun i c => x3 (ix2 i c)) (at_ 2048 (by omega) k) := by
  pointwise [val_main_v47]
  rw [vRow32_at]

end Cert.QkvRefIdeal.Body
end
-- ==== Proof.QkvArrays.lean ====
module

public import proofs.«01_k».proof.Proof.QkvTile
public import proofs.«01_k».proof.Proof.QkvRefValue

@[expose] public section

set_option maxRecDepth 16384

noncomputable section

namespace Cert.QkvIdeal.Body

open Cert.QkvIdeal Cert.QkvIdeal.Gen Idealize.ShloMosaic Idealize.ShloMosaic.TcCoe Idealize.SL.Sem Cert.FfnMath Cert.QkvMath

variable (m : (ℓ : Loc nD τ sig) → Buf (Elt Ideal) ℓ) (c : Dev nD)

/-- The projections' arguments, read off the argument buffers. -/
def argsOf : QkvMath.Args where
  X b t k := (m ((c.tc : Thread nD τ).loc main_arg0) : Vec Ideal S2x8192x1024 .f32) (ix3 b t k)
  S r k := (m ((c.tc : Thread nD τ).loc main_arg1) : Vec Ideal S256x1024 .f32) (ix2 r k)
  G k := (m ((c.tc : Thread nD τ).loc main_arg2) : Vec Ideal S1024 .f32) (ix1 k)
  W i k := (m ((c.tc : Thread nD τ).loc main_arg3) : Vec Ideal S1024x3072 .f32) (ix2 i k)

theorem idx_all : ∀ t : Fin cfg0.N, win0_0.index t = ![min t.val 15 / 8, min t.val 15 % 8, 0] ∧ win0_1.index t = ![0, 0] ∧ win0_2.index t = ![0, 0] ∧ win0_3.index t = ![0, 0]
    ∧ win0_4.index t = ![min t.val 15 / 8, min t.val 15 % 8, 0] ∧ win0_5.index t = ![min t.val 15 / 8, min t.val 15 % 8, 0] ∧ win0_6.index t = ![min t.val 15 / 8, min t.val 15 % 8, 0]
    ∧ win0_7.index t = ![min t.val 15 / 8, 0, 0] ∧ win0_8.index t = ![min t.val 15 / 8, 0, 0]
    ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem lt17 (t : Fin cfg0.N) : t.val < 17 := t.isLt
/-- The batch of a grid point. -/
abbrev batch (t : Fin cfg0.N) : Fin 2 := ⟨min t.val 15 / 8, by omega⟩
/-- A row of a grid point's tile. -/
abbrev rowOf (t : Fin cfg0.N) (r : Fin 1024) : Fin 8192 := ⟨1024 * (min t.val 15 % 8) + r.val, by omega⟩

/-- A row of the tail. -/
def tailRow (r : Fin 512) : Fin 8192 := ⟨7680 + r.val, by omega⟩

theorem x_at (t : Fin cfg0.N) (r k : Fin 1024) : iblk m c 0 t (ix3 0 r k) = (argsOf m c).X (batch t) (rowOf t r) k := by
  unfold argsOf; blk_ext [iblk, V, idx_all t]
theorem s_at (t : Fin cfg0.N) (r : Fin 256) (k : Fin 1024) : iblk m c 1 t (ix2 r k) = (argsOf m c).S r k := by
  unfold argsOf; blk_ext [iblk, V, idx_all t]
theorem g_at (t : Fin cfg0.N) (k : Fin 1024) : iblk m c 2 t (ix2 0 k) = (argsOf m c).G k := by
  show iblk m c 2 t (ix2 0 k) = (m ((c.tc : Thread nD τ).loc main_arg2) : Vec Ideal S1024 .f32) (ix1 k)
  blk_ext! [iblk, V, idx_all t]
theorem w_at (t : Fin cfg0.N) (i : Fin 1024) (k : Fin 3072) : iblk m c 3 t (ix2 i k) = (argsOf m c).W i k := by
  unfold argsOf; blk_ext [iblk, V, idx_all t]

theorem flush_tail : ∀ t : Fin cfg0.N, (win0 7).flush t = true → t.val = 7 ∨ t.val = 16 := by
  intro t; have h := flush_7 t; intro h'; simpa using h.symm.trans h'
theorem flush_tail' : ∀ t : Fin cfg0.N, (win0 8).flush t = true → t.val = 7 ∨ t.val = 16 := by
  intro t; have h := flush_8 t; intro h'; simpa using h.symm.trans h'

/-- The tile whose tail a write-back of the tails carries. -/
theorem tailOf_flush (t : Fin cfg0.N) (h : t.val = 7 ∨ t.val = 16) : (tailOf t).val = if t.val = 7 then 7 else 15 := by
  unfold tailOf
  rcases h with h | h
  · rw [if_pos (by omega), if_pos h]
  · rw [if_neg (by omega), if_neg (by omega)]

/-- After the run each array of results holds the projection of its rows. -/
theorem final4 : (dats m 0 c).arrAt 4 cfg0.N = (fun i => proj ((argsOf m c).X (i 0) (i 1)) (argsOf m c).G (argsOf m c).W (at_ 0 (by omega) (i 2)) * scale : Vec Ideal S2x8192x1024 .bf16) := by
  refine (dats m 0 c).arrAt_eq_of_covers 4 _ (by decide +kernel) fun t hf y => ?_
  blk_simp
  rw [after_4]
  idx_vars y
  have ht := lt17 t
  have e0 : ((View.whole main_v1_0).slice (win0_4.rect t)).emb (ix3 y0 y1 y2) 0 = batch (tileOf t) := Fin.ext (by refine Eq.trans (b := min (min t.val 15) 15 / 8) ?_ rfl; blk_simp [idx_all t]; omega)
  have e1 : ((View.whole main_v1_0).slice (win0_4.rect t)).emb (ix3 y0 y1 y2) 1 = rowOf (tileOf t) y1 := Fin.ext (by refine Eq.trans (b := 1024 * (min (min t.val 15) 15 % 8) + y1.val) ?_ rfl; blk_simp [idx_all t]; omega)
  have e2 : ((View.whole main_v1_0).slice (win0_4.rect t)).emb (ix3 y0 y1 y2) 2 = y2 := Fin.ext (by blk_simp [idx_all t])
  rw [e0, e1, e2]
  obtain rfl : y0 = 0 := Subsingleton.elim _ _
  exact q_at y1 (x_at m c (tileOf t) y1) (g_at m c _) (w_at m c _) y2

theorem final5 : (dats m 0 c).arrAt 5 cfg0.N = (fun i => proj ((argsOf m c).X (i 0) (i 1)) (argsOf m c).G (argsOf m c).W (at_ 1024 (by omega) (i 2)) : Vec Ideal S2x8192x1024 .bf16) := by
  refine (dats m 0 c).arrAt_eq_of_covers 5 _ (by decide +kernel) fun t hf y => ?_
  blk_simp
  rw [after_5]
  idx_vars y
  have ht := lt17 t
  have e0 : ((View.whole main_v1_1).slice (win0_5.rect t)).emb (ix3 y0 y1 y2) 0 = batch (tileOf t) := Fin.ext (by refine Eq.trans (b := min (min t.val 15) 15 / 8) ?_ rfl; blk_simp [idx_all t]; omega)
  have e1 : ((View.whole main_v1_1).slice (win0_5.rect t)).emb (ix3 y0 y1 y2) 1 = rowOf (tileOf t) y1 := Fin.ext (by refine Eq.trans (b := 1024 * (min (min t.val 15) 15 % 8) + y1.val) ?_ rfl; blk_simp [idx_all t]; omega)
  have e2 : ((View.whole main_v1_1).slice (win0_5.rect t)).emb (ix3 y0 y1 y2) 2 = y2 := Fin.ext (by blk_simp [idx_all t])
  rw [e0, e1, e2]
  obtain rfl : y0 = 0 := Subsingleton.elim _ _
  exact k_at y1 (x_at m c (tileOf t) y1) (g_at m c _) (w_at m c _) y2

theorem final6 : (dats m 0 c).arrAt 6 cfg0.N = (fun i => proj ((argsOf m c).X (i 0) (i 1)) (argsOf m c).G (argsOf m c).W (at_ 2048 (by omega) (i 2)) : Vec Ideal S2x8192x1024 .bf16) := by
  refine (dats m 0 c).arrAt_eq_of_covers 6 _ (by decide +kernel) fun t hf y => ?_
  blk_simp
  rw [after_6]
  idx_vars y
  have ht := lt17 t
  have e0 : ((View.whole main_v1_2).slice (win0_6.rect t)).emb (ix3 y0 y1 y2) 0 = batch (tileOf t) := Fin.ext (by refine Eq.trans (b := min (min t.val 15) 15 / 8) ?_ rfl; blk_simp [idx_all t]; omega)
  have e1 : ((View.whole main_v1_2).slice (win0_6.rect t)).emb (ix3 y0 y1 y2) 1 = rowOf (tileOf t) y1 := Fin.ext (by refine Eq.trans (b := 1024 * (min (min t.val 15) 15 % 8) + y1.val) ?_ rfl; blk_simp [idx_all t]; omega)
  have e2 : ((View.whole main_v1_2).slice (win0_6.rect t)).emb (ix3 y0 y1 y2) 2 = y2 := Fin.ext (by blk_simp [idx_all t])
  rw [e0, e1, e2]
  obtain rfl : y0 = 0 := Subsingleton.elim _ _
  exact v_at y1 (x_at m c (tileOf t) y1) (g_at m c _) (w_at m c _) y2

theorem final7 : (dats m 0 c).arrAt 7 cfg0.N = (fun i => proj ((argsOf m c).X (i 0) (tailRow (i 2))) (argsOf m c).G (argsOf m c).W (at_ 1024 (by omega) (i 1)) : Vec Ideal S2x1024x512 .f32) := by
  refine (dats m 0 c).arrAt_eq_of_covers 7 _ (by decide +kernel) fun t hf y => ?_
  blk_simp
  rw [after_7]
  idx_vars y
  have ht := lt17 t
  have hl := tailOf_flush t (flush_tail t hf)
  have hl' := flush_tail t hf
  have e0 : ((View.whole main_v1_3).slice (win0_7.rect t)).emb (ix3 y0 y1 y2) 0 = batch (tailOf t) := Fin.ext (by refine Eq.trans (b := min (tailOf t).val 15 / 8) ?_ rfl; rw [hl]; blk_simp [idx_all t]; split <;> omega)
  have e1 : ((View.whole main_v1_3).slice (win0_7.rect t)).emb (ix3 y0 y1 y2) 1 = y1 := Fin.ext (by blk_simp [idx_all t])
  have e2 : ((View.whole main_v1_3).slice (win0_7.rect t)).emb (ix3 y0 y1 y2) 2 = y2 := Fin.ext (by blk_simp [idx_all t])
  have er : rowOf (tailOf t) (lower y2) = tailRow y2 := Fin.ext (by
    show 1024 * (min (tailOf t).val 15 % 8) + (512 + y2.val) = 7680 + y2.val
    rw [hl]; split <;> omega)
  rw [e0, e1, e2, ← er]
  obtain rfl : y0 = 0 := Subsingleton.elim _ _
  exact kTail_at y2 (x_at m c (tailOf t) _) (g_at m c _) (w_at m c _) y1

theorem final8 : (dats m 0 c).arrAt 8 cfg0.N = (fun i => proj ((argsOf m c).X (i 0) (tailRow (i 2))) (argsOf m c).G (argsOf m c).W (at_ 2048 (by omega) (i 1)) : Vec Ideal S2x1024x512 .f32) := by
  refine (dats m 0 c).arrAt_eq_of_covers 8 _ (by decide +kernel) fun t hf y => ?_
  blk_simp
  rw [after_8]
  idx_vars y
  have ht := lt17 t
  have hl := tailOf_flush t (flush_tail' t hf)
  have hl' := flush_tail' t hf
  have e0 : ((View.whole main_v1_4).slice (win0_8.rect t)).emb (ix3 y0 y1 y2) 0 = batch (tailOf t) := Fin.ext (by refine Eq.trans (b := min (tailOf t).val 15 / 8) ?_ rfl; rw [hl]; blk_simp [idx_all t]; split <;> omega)
  have e1 : ((View.whole main_v1_4).slice (win0_8.rect t)).emb (ix3 y0 y1 y2) 1 = y1 := Fin.ext (by blk_simp [idx_all t])
  have e2 : ((View.whole main_v1_4).slice (win0_8.rect t)).emb (ix3 y0 y1 y2) 2 = y2 := Fin.ext (by blk_simp [idx_all t])
  have er : rowOf (tailOf t) (lower y2) = tailRow y2 := Fin.ext (by
    show 1024 * (min (tailOf t).val 15 % 8) + (512 + y2.val) = 7680 + y2.val
    rw [hl]; split <;> omega)
  rw [e0, e1, e2, ← er]
  obtain rfl : y0 = 0 := Subsingleton.elim _ _
  exact vTail_at y2 (x_at m c (tailOf t) _) (g_at m c _) (w_at m c _) y1

theorem final9 : (dats m 0 c).arrAt 9 cfg0.N = (fun i => proj ((argsOf m c).S (i 0)) (argsOf m c).G (argsOf m c).W (at_ 0 (by omega) (i 1)) * scale : Vec Ideal S256x1024 .bf16) := by
  refine (dats m 0 c).arrAt_eq_of_covers 9 _ (by decide +kernel) fun t hf y => ?_
  blk_simp
  rw [after_9]
  idx_vars y
  have ht := lt17 t
  have e0 : ((View.whole main_v1_5).slice (win0_9.rect t)).emb (ix2 y0 y1) 0 = y0 := Fin.ext (by blk_simp [idx_all t])
  have e1 : ((View.whole main_v1_5).slice (win0_9.rect t)).emb (ix2 y0 y1) 1 = y1 := Fin.ext (by blk_simp [idx_all t])
  rw [e0, e1]
  exact qRow_at y0 (s_at m c t y0) (g_at m c _) (w_at m c _) y1

theorem final10 : (dats m 0 c).arrAt 10 cfg0.N = (fun i => proj ((argsOf m c).S (i 0)) (argsOf m c).G (argsOf m c).W (at_ 1024 (by omega) (i 1)) : Vec Ideal S256x1024 .bf16) := by
  refine (dats m 0 c).arrAt_eq_of_covers 10 _ (by decide +kernel) fun t hf y => ?_
  blk_simp
  rw [after_10]
  idx_vars y
  have ht := lt17 t
  have e0 : ((View.whole main_v1_6).slice (win0_10.rect t)).emb (ix2 y0 y1) 0 = y0 := Fin.ext (by blk_simp [idx_all t])
  have e1 : ((View.whole main_v1_6).slice (win0_10.rect t)).emb (ix2 y0 y1) 1 = y1 := Fin.ext (by blk_simp [idx_all t])
  rw [e0, e1]
  exact kRow_at y0 (s_at m c t y0) (g_at m c _) (w_at m c _) y1

theorem final11 : (dats m 0 c).arrAt 11 cfg0.N = (fun i => proj ((argsOf m c).S (i 0)) (argsOf m c).G (argsOf m c).W (at_ 2048 (by omega) (i 1)) : Vec Ideal S256x1024 .bf16) := by
  refine (dats m 0 c).arrAt_eq_of_covers 11 _ (by decide +kernel) fun t hf y => ?_
  blk_simp
  rw [after_11]
  idx_vars y
  have ht := lt17 t
  have e0 : ((View.whole main_v1_7).slice (win0_11.rect t)).emb (ix2 y0 y1) 0 = y0 := Fin.ext (by blk_simp [idx_all t])
  have e1 : ((View.whole main_v1_7).slice (win0_11.rect t)).emb (ix2 y0 y1) 1 = y1 := Fin.ext (by blk_simp [idx_all t])
  rw [e0, e1]
  exact vRow_at y0 (s_at m c t y0) (g_at m c _) (w_at m c _) y1

theorem final12 : (dats m 0 c).arrAt 12 cfg0.N = (fun i => proj ((argsOf m c).S (i 0)) (argsOf m c).G (argsOf m c).W (at_ 1024 (by omega) (i 1)) : Vec Ideal S256x1024 .f32) := by
  refine (dats m 0 c).arrAt_eq_of_covers 12 _ (by decide +kernel) fun t hf y => ?_
  blk_simp
  rw [after_12]
  idx_vars y
  have ht := lt17 t
  have e0 : ((View.whole main_v1_8).slice (win0_12.rect t)).emb (ix2 y0 y1) 0 = y0 := Fin.ext (by blk_simp [idx_all t])
  have e1 : ((View.whole main_v1_8).slice (win0_12.rect t)).emb (ix2 y0 y1) 1 = y1 := Fin.ext (by blk_simp [idx_all t])
  rw [e0, e1]
  exact kRow32_at y0 (s_at m c t y0) (g_at m c _) (w_at m c _) y1

theorem final13 : (dats m 0 c).arrAt 13 cfg0.N = (fun i => proj ((argsOf m c).S (i 0)) (argsOf m c).G (argsOf m c).W (at_ 2048 (by omega) (i 1)) : Vec Ideal S256x1024 .f32) := by
  refine (dats m 0 c).arrAt_eq_of_covers 13 _ (by decide +kernel) fun t hf y => ?_
  blk_simp
  rw [after_13]
  idx_vars y
  have ht := lt17 t
  have e0 : ((View.whole main_v1_9).slice (win0_13.rect t)).emb (ix2 y0 y1) 0 = y0 := Fin.ext (by blk_simp [idx_all t])
  have e1 : ((View.whole main_v1_9).slice (win0_13.rect t)).emb (ix2 y0 y1) 1 = y1 := Fin.ext (by blk_simp [idx_all t])
  rw [e0, e1]
  exact vRow32_at y0 (s_at m c t y0) (g_at m c _) (w_at m c _) y1

end Cert.QkvIdeal.Body
end
-- ==== Proof.QkvClaims.lean ====
module

public import proofs.«01_k».proof.Defs
public import proofs.«01_k».proof.Proof.QkvArrays
public import proofs.«01_k».proof.Proof.QkvRefValue
public import proofs.«01_k».proof.Proof.Gen.Qkv.Frame
public import proofs.«01_k».proof.Proof.Gen.QkvRefIdeal.Run

@[expose] public section

set_option maxRecDepth 16384

noncomputable section

namespace Cert.QkvClaims

open Idealize.ShloMosaic Idealize.ShloMosaic.TcCoe Idealize.SL.Sem Cert.FfnMath Cert.QkvMath

/-- The two programs have one table of bodies. -/
theorem bodies_eq : Qkv.defs₀ (F := Bits) = QkvIdeal.defs₀ (F := Bits) := by
  unfold Qkv.defs₀ QkvIdeal.defs₀
  refine congrArg Defs.onTc ?_
  funext l a
  match l, a with
  | 0, (t, s) => rfl
  | ⟨_ + 1, h⟩, _ => exact absurd h (Nat.not_lt.2 (Nat.le_add_left _ _))

theorem defs_eq : Qkv.defs (F := Bits) = QkvIdeal.defs (F := Bits) := by
  unfold Qkv.defs QkvIdeal.defs
  exact congrArg (Pipeline.defs QkvIdeal.pcfgs) bodies_eq

/-- The bit-exact kernel runs, leaves its arguments and comes to rest: its text is the idealized one's. -/
theorem frame_p : Cert.quiescent_Qkv := fun m ρ _ => by
  rw [defs_eq]
  exact Cert.QkvIdeal.Body.frame (F := Bits) m ρ

/-- The idealized kernel runs, leaves its arguments and comes to rest. -/
theorem frame_pi : Cert.quiescent_QkvIdeal := fun m ρ _ => Cert.QkvIdeal.Body.frame m ρ

/-- The reference runs, leaves its arguments and comes to rest. -/
theorem frame_ri : Cert.quiescent_QkvRefIdeal := fun m ρ _ =>
  (θ_run Cert.QkvRefIdeal.defs _ _).mono (fun r h => ⟨fun c => (h c).2.2.2.2.2.2.2.2.2.2, Idealize.ShloMosaic.sem_eq_zero_of_no_sems (by decide) r.2⟩)
    (Cert.QkvRefIdeal.Value.run (F := Ideal) m ρ)

set_option maxHeartbeats 4000000 in
/-- The kernel's ten results are the reference's. -/
theorem algebraic : Cert.algebraic_QkvIdeal_QkvRefIdeal := by
  intro m ρ m' ρ' _ hag
  refine ⟨fun c => (QkvIdeal.Body.dats m 0 c).arrAt 4 QkvIdeal.cfg0.N, fun c => (QkvIdeal.Body.dats m 0 c).arrAt 5 QkvIdeal.cfg0.N, fun c => (QkvIdeal.Body.dats m 0 c).arrAt 6 QkvIdeal.cfg0.N, fun c => (QkvIdeal.Body.dats m 0 c).arrAt 7 QkvIdeal.cfg0.N, fun c => (QkvIdeal.Body.dats m 0 c).arrAt 8 QkvIdeal.cfg0.N, fun c => (QkvIdeal.Body.dats m 0 c).arrAt 9 QkvIdeal.cfg0.N, fun c => (QkvIdeal.Body.dats m 0 c).arrAt 10 QkvIdeal.cfg0.N, fun c => (QkvIdeal.Body.dats m 0 c).arrAt 11 QkvIdeal.cfg0.N, fun c => (QkvIdeal.Body.dats m 0 c).arrAt 12 QkvIdeal.cfg0.N, fun c => (QkvIdeal.Body.dats m 0 c).arrAt 13 QkvIdeal.cfg0.N, ?_, ?_⟩
  · run_from QkvIdeal.Body.run_main m ρ
  · refine (θ_run _ _ _).mono (fun r h c => ?_) (Cert.QkvRefIdeal.Value.run (F := Ideal) m' ρ')
    obtain ⟨h0, h1, h2, h3, h4, h5, h6, h7, h8, h9, ha⟩ := h c
    obtain ⟨a0, a1, a2, a3⟩ := hag c
    refine ⟨h0.trans ?_, h1.trans ?_, h2.trans ?_, h3.trans ?_, h4.trans ?_, h5.trans ?_, h6.trans ?_, h7.trans ?_, h8.trans ?_, h9.trans ?_, ha⟩
    · refine (Cert.QkvRefIdeal.Read.val_main_v40_eq _ _ _).trans (Eq.trans ?_ (QkvIdeal.Body.final4 m c).symm)
      rw [a0, a2, a3]
      funext i
      idx_vars i
      exact QkvRefIdeal.Body.q_at _ _ _ i0 i1 i2
    · refine (Cert.QkvRefIdeal.Read.val_main_v41_eq _ _ _).trans (Eq.trans ?_ (QkvIdeal.Body.final5 m c).symm)
      rw [a0, a2, a3]
      funext i
      idx_vars i
      exact QkvRefIdeal.Body.k_at _ _ _ i0 i1 i2
    · refine (Cert.QkvRefIdeal.Read.val_main_v42_eq _ _ _).trans (Eq.trans ?_ (QkvIdeal.Body.final6 m c).symm)
      rw [a0, a2, a3]
      funext i
      idx_vars i
      exact QkvRefIdeal.Body.v_at _ _ _ i0 i1 i2
    · refine (Cert.QkvRefIdeal.Read.val_main_v35_eq _ _ _).trans (Eq.trans ?_ (QkvIdeal.Body.final7 m c).symm)
      rw [a0, a2, a3]
      funext i
      idx_vars i
      exact QkvRefIdeal.Body.kTail_at _ _ _ i0 i1 i2
    · refine (Cert.QkvRefIdeal.Read.val_main_v37_eq _ _ _).trans (Eq.trans ?_ (QkvIdeal.Body.final8 m c).symm)
      rw [a0, a2, a3]
      funext i
      idx_vars i
      exact QkvRefIdeal.Body.vTail_at _ _ _ i0 i1 i2
    · refine (Cert.QkvRefIdeal.Read.val_main_v45_eq _ _ _).trans (Eq.trans ?_ (QkvIdeal.Body.final9 m c).symm)
      rw [a1, a2, a3]
      funext i
      idx_vars i
      exact QkvRefIdeal.Body.qRow_at _ _ _ i0 i1
    · refine (Cert.QkvRefIdeal.Read.val_main_v46_eq _ _ _).trans (Eq.trans ?_ (QkvIdeal.Body.final10 m c).symm)
      rw [a1, a2, a3]
      funext i
      idx_vars i
      exact QkvRefIdeal.Body.kRow_at _ _ _ i0 i1
    · refine (Cert.QkvRefIdeal.Read.val_main_v47_eq _ _ _).trans (Eq.trans ?_ (QkvIdeal.Body.final11 m c).symm)
      rw [a1, a2, a3]
      funext i
      idx_vars i
      exact QkvRefIdeal.Body.vRow_at _ _ _ i0 i1
    · refine (Cert.QkvRefIdeal.Read.val_main_v32_eq _ _ _).trans (Eq.trans ?_ (QkvIdeal.Body.final12 m c).symm)
      rw [a1, a2, a3]
      funext i
      idx_vars i
      exact QkvRefIdeal.Body.kRow32_at _ _ _ i0 i1
    · refine (Cert.QkvRefIdeal.Read.val_main_v33_eq _ _ _).trans (Eq.trans ?_ (QkvIdeal.Body.final13 m c).symm)
      rw [a1, a2, a3]
      funext i
      idx_vars i
      exact QkvRefIdeal.Body.vRow32_at _ _ _ i0 i1

end Cert.QkvClaims
end
-- ==== Proof.GmlpPieces.lean ====
module

public import proofs.«01_k».proof.Proof.Gen.GmlpIdeal.Frame
public import proofs.«01_k».proof.Proof.Gen.GmlpIdeal.Skeleton
public import Idealize.ShloMosaic.Lib.Pipeline.ValueKit
public import Idealize.ShloMosaic.Lib.Pipeline.ReadBack
public import Idealize.ShloMosaic.Lib.VecWindow

@[expose] public section

set_option maxRecDepth 16384

noncomputable section

namespace Cert.GmlpIdeal.Body

open Cert.GmlpIdeal Cert.GmlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- The columns from `o` of the input projection. -/
def wCol (o : ℕ) (h : o ≤ 1024) (w : Vec F S1024x2048 .f32) : Vec F S1024x1024 .f32 := fun y =>
  w (Fin.cons (y 0) (Fin.cons (⟨o + (y 1).val, by have h1 : (y 1).val < 1024 := (y 1).isLt; show o + (y 1).val < 2048; omega⟩ : Fin 2048) fun z => z.elim0))

/-- A load of a whole buffer reads what it holds, -/
theorem load_all {sh : Shape} {e : EltTy} (a : Memref sig .tc .vmem sh e) (ha : a.IsWhole) (v : Vec F sh e) {off : Fin sh.rank → ℕ}
    (inb : ∀ k, off k + sh.size k ≤ sh.size k) : a.view.readAt (Elt F) (Rect.unit off sh.size inb).toLoadRect (ha.unread v) = v :=
  (View.readAt_full _ _ inb).trans (ha.read_unread v)

/-- a load of the projection's columns from `o` on these columns, -/
theorem load_col (a : Memref sig .tc .vmem S1024x2048 .f32) (ha : a.IsWhole) (o : ℕ) (h : o ≤ 1024) (v : Vec F S1024x2048 .f32)
    (inb : ∀ k, ![0, o] k + S1024x1024.size k ≤ S1024x2048.size k) :
    a.view.readAt (Elt F) (Rect.unit (s := S1024x2048) ![0, o] S1024x1024.size inb).toLoadRect (ha.unread v) = wCol o h v := by
  funext y
  rw [View.readAt_apply, ha.read_unread]
  unfold wCol
  congr 1
  funext k; apply Fin.ext
  fin_cases k
  · show 0 + 1 * (y 0).val = (y 0).val; omega
  · show o + 1 * (y 1).val = o + (y 1).val; omega

/-- and a load of a block the block. -/
theorem load_ld {sh : Shape} {e : EltTy} (a : Memref sig .tc .vmem sh e) (ha : a.IsWhole) (v : Vec F sh e) (r : Rect sh) :
    a.view.readAt (Elt F) r.toLoadRect (ha.unread v) = View.ld v r := by
  funext y
  rw [View.readAt_apply, ha.read_unread]

/-! ## A tile of the prompt -/

theorem t_slices (r p : Fin 8) : S1024x1024.Slices ![128 * r.val, 128 * p.val] S128x128 :=
  ⟨rfl, fun a => by
    have hr := r.isLt
    have hp := p.isLt
    fin_cases a
    · show 128 * r.val + 128 ≤ 1024; omega
    · show 128 * p.val + 128 ≤ 1024; omega⟩

theorem t_cuts (r : Fin 8) : S128x1024.Slices ![0, 128 * r.val] S128x128 :=
  ⟨rfl, fun a => by
    have hr := r.isLt
    fin_cases a
    · show 0 + 128 ≤ 128; omega
    · show 128 * r.val + 128 ≤ 1024; omega⟩

theorem t_plane (p : Fin 8) : ∀ k, ![p.val, 0, 0] k + S1x128x256.size k ≤ S8x128x256.size k := fun k => by
  have hp := p.isLt
  fin_cases k
  · show p.val + 1 ≤ 8; omega
  · show 0 + 128 ≤ 128; omega
  · show 0 + 256 ≤ 256; omega

theorem t_bias (p : Fin 8) : ∀ k, ![0, 128 * p.val] k + S128x128.size k ≤ S128x1024.size k := fun k => by
  have hp := p.isLt
  fin_cases k
  · show 0 + 128 ≤ 128; omega
  · show 128 * p.val + 128 ≤ 1024; omega

/-- The gate's rows of pair `p` of groups, chunk beside chunk, -/
def tCat (v : FVec F S1024x1024 .f32) (p : Fin 8) : FVec F S128x1024 .f32 :=
  concatenate S128x1024 1 [⟨S128x128, extractStridedSlice S128x128 ![128 * 0, 128 * p.val] v (t_slices 0 p)⟩, ⟨S128x128, extractStridedSlice S128x128 ![128 * 1, 128 * p.val] v (t_slices 1 p)⟩, ⟨S128x128, extractStridedSlice S128x128 ![128 * 2, 128 * p.val] v (t_slices 2 p)⟩, ⟨S128x128, extractStridedSlice S128x128 ![128 * 3, 128 * p.val] v (t_slices 3 p)⟩, ⟨S128x128, extractStridedSlice S128x128 ![128 * 4, 128 * p.val] v (t_slices 4 p)⟩, ⟨S128x128, extractStridedSlice S128x128 ![128 * 5, 128 * p.val] v (t_slices 5 p)⟩, ⟨S128x128, extractStridedSlice S128x128 ![128 * 6, 128 * p.val] v (t_slices 6 p)⟩, ⟨S128x128, extractStridedSlice S128x128 ![128 * 7, 128 * p.val] v (t_slices 7 p)⟩] concatenates_S128x128_S128x128_S128x128_S128x128_S128x128_S128x128_S128x128_S128x128_S128x1024_d1

/-- its two groups one above the other, mixed along the chunk, -/
def tMix (v : FVec F S1024x1024 .f32) (ws : Vec F S8x128x256 .bf16) (p : Fin 8) : FVec F S128x1024 .f32 :=
  matmul dot_S128x256_S256x1024_S128x1024_1_0_0_1_n_n none (shapeCast S128x256 (View.ld ws (Rect.unit (s := S8x128x256) ![p.val, 0, 0] S1x128x256.size (t_plane p))) shapeCasts_S1x128x256_S128x256)
    (truncf .bf16 (concatenate S256x1024 0
      [⟨S128x1024, select (cmpi .slt k0_pay8 (broadcast S128x1024 64#32)) (tCat v p) (k0_pay9 (F := F))⟩,
        ⟨S128x1024, select (cmpi .sge k0_pay8 (broadcast S128x1024 64#32)) (tCat v p) (k0_pay9 (F := F))⟩] concatenates_S128x1024_S128x1024_S256x1024_d0) bitsLt_bf16_f32)
    (constant S128x1024 .f32 0x00000000#32)

/-- one chunk of it, with its bias, gated. -/
def tPiece (u v : FVec F S1024x1024 .f32) (ws : Vec F S8x128x256 .bf16) (bs : Vec F S128x1024 .f32) (r p : Fin 8) : FVec F S128x128 .bf16 :=
  shapeCast S128x128 (truncf .bf16 (mulf (extractStridedSlice S128x128 ![128 * r.val, 128 * p.val] u (t_slices r p))
    (addf (extractStridedSlice S128x128 ![0, 128 * r.val] (tMix v ws p) (t_cuts r))
      (shapeCast S128x128 (View.ld bs (Rect.unit (s := S128x1024) ![0, 128 * p.val] S128x128.size (t_bias p))) shapeCasts_S128x128_S128x128))) bitsLt_bf16_f32) shapeCasts_S128x128_S128x128

/-- The gated rows, chunk by chunk. -/
def tGated (u v : FVec F S1024x1024 .f32) (ws : Vec F S8x128x256 .bf16) (bs : Vec F S128x1024 .f32) : Vec F S1024x1024 .bf16 := fun y =>
  tPiece u v ws bs ⟨(y 0).val / 128, by have h : (y 0).val < 1024 := (y 0).isLt; omega⟩ ⟨(y 1).val / 128, by have h : (y 1).val < 1024 := (y 1).isLt; omega⟩
    (Fin.cons (⟨(y 0).val % 128, Nat.mod_lt _ (by omega)⟩ : Fin 128) (Fin.cons (⟨(y 1).val % 128, Nat.mod_lt _ (by omega)⟩ : Fin 128) fun z => z.elim0))

theorem tGated_at (u v : FVec F S1024x1024 .f32) (ws : Vec F S8x128x256 .bf16) (bs : Vec F S128x1024 .f32) (r p : Fin 8) (x : S128x128.Idx) (y : S1024x1024.Idx)
    (h0 : (y 0).val = 128 * r.val + (x 0).val) (h1 : (y 1).val = 128 * p.val + (x 1).val) : tGated u v ws bs y = tPiece u v ws bs r p x := by
  have hx0 : (x 0).val < 128 := (x 0).isLt
  have hx1 : (x 1).val < 128 := (x 1).isLt
  unfold tGated
  have e0 : (⟨(y 0).val / 128, by have h : (y 0).val < 1024 := (y 0).isLt; omega⟩ : Fin 8) = r := Fin.ext (by show (y 0).val / 128 = r.val; omega)
  have e1 : (⟨(y 1).val / 128, by have h : (y 1).val < 1024 := (y 1).isLt; omega⟩ : Fin 8) = p := Fin.ext (by show (y 1).val / 128 = p.val; omega)
  rw [e0, e1]
  congr 1
  funext k; apply Fin.ext
  fin_cases k
  · show (y 0).val % 128 = (x 0).val; omega
  · show (y 1).val % 128 = (x 1).val; omega

/-! ## The sample -/

theorem s_slices (r p : Fin 8) : S256x1024.Slices ![32 * r.val, 128 * p.val] S32x128 :=
  ⟨rfl, fun a => by
    have hr := r.isLt
    have hp := p.isLt
    fin_cases a
    · show 32 * r.val + 32 ≤ 256; omega
    · show 128 * p.val + 128 ≤ 1024; omega⟩

theorem s_cuts (r : Fin 8) : S32x1024.Slices ![0, 128 * r.val] S32x128 :=
  ⟨rfl, fun a => by
    have hr := r.isLt
    fin_cases a
    · show 0 + 32 ≤ 32; omega
    · show 128 * r.val + 128 ≤ 1024; omega⟩

theorem s_plane (p : Fin 8) : ∀ k, ![p.val, 0, 0] k + S1x32x64.size k ≤ S8x32x64.size k := fun k => by
  have hp := p.isLt
  fin_cases k
  · show p.val + 1 ≤ 8; omega
  · show 0 + 32 ≤ 32; omega
  · show 0 + 64 ≤ 64; omega

theorem s_bias (p : Fin 8) : ∀ k, ![0, 128 * p.val] k + S32x128.size k ≤ S32x1024.size k := fun k => by
  have hp := p.isLt
  fin_cases k
  · show 0 + 32 ≤ 32; omega
  · show 128 * p.val + 128 ≤ 1024; omega

/-- The gate's rows of pair `p` of groups, chunk beside chunk, -/
def sCat (v : FVec F S256x1024 .f32) (p : Fin 8) : FVec F S32x1024 .f32 :=
  concatenate S32x1024 1 [⟨S32x128, extractStridedSlice S32x128 ![32 * 0, 128 * p.val] v (s_slices 0 p)⟩, ⟨S32x128, extractStridedSlice S32x128 ![32 * 1, 128 * p.val] v (s_slices 1 p)⟩, ⟨S32x128, extractStridedSlice S32x128 ![32 * 2, 128 * p.val] v (s_slices 2 p)⟩, ⟨S32x128, extractStridedSlice S32x128 ![32 * 3, 128 * p.val] v (s_slices 3 p)⟩, ⟨S32x128, extractStridedSlice S32x128 ![32 * 4, 128 * p.val] v (s_slices 4 p)⟩, ⟨S32x128, extractStridedSlice S32x128 ![32 * 5, 128 * p.val] v (s_slices 5 p)⟩, ⟨S32x128, extractStridedSlice S32x128 ![32 * 6, 128 * p.val] v (s_slices 6 p)⟩, ⟨S32x128, extractStridedSlice S32x128 ![32 * 7, 128 * p.val] v (s_slices 7 p)⟩] concatenates_S32x128_S32x128_S32x128_S32x128_S32x128_S32x128_S32x128_S32x128_S32x1024_d1

/-- its two groups one above the other, mixed along the chunk, -/
def sMix (v : FVec F S256x1024 .f32) (ws : Vec F S8x32x64 .bf16) (p : Fin 8) : FVec F S32x1024 .f32 :=
  matmul dot_S32x64_S64x1024_S32x1024_1_0_0_1_n_n none (shapeCast S32x64 (View.ld ws (Rect.unit (s := S8x32x64) ![p.val, 0, 0] S1x32x64.size (s_plane p))) shapeCasts_S1x32x64_S32x64)
    (truncf .bf16 (concatenate S64x1024 0
      [⟨S32x1024, select (cmpi .slt k0_pay102 (broadcast S32x1024 64#32)) (sCat v p) (k0_pay103 (F := F))⟩,
        ⟨S32x1024, select (cmpi .sge k0_pay102 (broadcast S32x1024 64#32)) (sCat v p) (k0_pay103 (F := F))⟩] concatenates_S32x1024_S32x1024_S64x1024_d0) bitsLt_bf16_f32)
    (constant S32x1024 .f32 0x00000000#32)

/-- one chunk of it, with its bias, gated. -/
def sPiece (u v : FVec F S256x1024 .f32) (ws : Vec F S8x32x64 .bf16) (bs : Vec F S32x1024 .f32) (r p : Fin 8) : FVec F S32x128 .bf16 :=
  shapeCast S32x128 (truncf .bf16 (mulf (extractStridedSlice S32x128 ![32 * r.val, 128 * p.val] u (s_slices r p))
    (addf (extractStridedSlice S32x128 ![0, 128 * r.val] (sMix v ws p) (s_cuts r))
      (shapeCast S32x128 (View.ld bs (Rect.unit (s := S32x1024) ![0, 128 * p.val] S32x128.size (s_bias p))) shapeCasts_S32x128_S32x128))) bitsLt_bf16_f32) shapeCasts_S32x128_S32x128

/-- The gated rows, chunk by chunk. -/
def sGated (u v : FVec F S256x1024 .f32) (ws : Vec F S8x32x64 .bf16) (bs : Vec F S32x1024 .f32) : Vec F S256x1024 .bf16 := fun y =>
  sPiece u v ws bs ⟨(y 0).val / 32, by have h : (y 0).val < 256 := (y 0).isLt; omega⟩ ⟨(y 1).val / 128, by have h : (y 1).val < 1024 := (y 1).isLt; omega⟩
    (Fin.cons (⟨(y 0).val % 32, Nat.mod_lt _ (by omega)⟩ : Fin 32) (Fin.cons (⟨(y 1).val % 128, Nat.mod_lt _ (by omega)⟩ : Fin 128) fun z => z.elim0))

theorem sGated_at (u v : FVec F S256x1024 .f32) (ws : Vec F S8x32x64 .bf16) (bs : Vec F S32x1024 .f32) (r p : Fin 8) (x : S32x128.Idx) (y : S256x1024.Idx)
    (h0 : (y 0).val = 32 * r.val + (x 0).val) (h1 : (y 1).val = 128 * p.val + (x 1).val) : sGated u v ws bs y = sPiece u v ws bs r p x := by
  have hx0 : (x 0).val < 32 := (x 0).isLt
  have hx1 : (x 1).val < 128 := (x 1).isLt
  unfold sGated
  have e0 : (⟨(y 0).val / 32, by have h : (y 0).val < 256 := (y 0).isLt; omega⟩ : Fin 8) = r := Fin.ext (by show (y 0).val / 32 = r.val; omega)
  have e1 : (⟨(y 1).val / 128, by have h : (y 1).val < 1024 := (y 1).isLt; omega⟩ : Fin 8) = p := Fin.ext (by show (y 1).val / 128 = p.val; omega)
  rw [e0, e1]
  congr 1
  funext k; apply Fin.ext
  fin_cases k
  · show (y 0).val % 32 = (x 0).val; omega
  · show (y 1).val % 128 = (x 1).val; omega

/-- Stores that are the blocks of a grid of eight by eight hold every row they reach. -/
theorem cover_blocks (B : ℕ) {e : EltTy} (L : List (View.Piece (Elt F) S1024x1024 e)) (T : List (Fin 8 × Fin 8))
    (h : L.map (fun q => (q.1.off, q.1.size, q.1.stride))
      = T.map fun t => ((![B * t.1.val, 128 * t.2.val] : Fin 2 → ℕ), (![B, 128] : Fin 2 → ℕ), fun _ : Fin 2 => 1))
    (hT : ∀ r p : Fin 8, (r, p) ∈ T) (y : S1024x1024.Idx) (hy : (y 0).val < 8 * B) : ∃ q ∈ L, y ∈ q.1.set := by
  have h1 : (y 1).val < 1024 := (y 1).isLt
  have hB : 0 < B := by omega
  have hm := List.mem_map_of_mem (f := fun t : Fin 8 × Fin 8 => ((![B * t.1.val, 128 * t.2.val] : Fin 2 → ℕ), (![B, 128] : Fin 2 → ℕ), fun _ : Fin 2 => 1)) (hT ⟨(y 0).val / B, Nat.div_lt_of_lt_mul (by omega)⟩ ⟨(y 1).val / 128, by omega⟩)
  rw [← h] at hm
  obtain ⟨q, hq, hqe⟩ := List.mem_map.mp hm
  refine ⟨q, hq, q.1.mem_set.mpr fun a => ?_⟩
  have e1 := congrFun (congrArg Prod.fst hqe) a
  have e2 := congrFun (congrArg (fun t => t.2.1) hqe) a
  have e3 := congrFun (congrArg (fun t => t.2.2) hqe) a
  simp only at e1 e2 e3
  rw [e1, e2, e3]
  fin_cases a
  · exact ⟨(y 0).val % B, Nat.mod_lt _ hB, by show (y 0).val = B * ((y 0).val / B) + 1 * ((y 0).val % B); rw [Nat.one_mul, Nat.div_add_mod]⟩
  · exact ⟨(y 1).val % 128, Nat.mod_lt _ (by omega), by show (y 1).val = 128 * ((y 1).val / 128) + 1 * ((y 1).val % 128); omega⟩

/-- The sample's rows stand at the top of the buffer of the gated rows. -/
def sTop (y : S256x1024.Idx) : S1024x1024.Idx :=
  Fin.cons (⟨(y 0).val, by have h : (y 0).val < 256 := (y 0).isLt; omega⟩ : Fin 1024) (Fin.cons (⟨(y 1).val, (y 1).isLt⟩ : Fin 1024) fun z => z.elim0)

/-- Rows of that buffer, the sample's at its top. -/
def sTall (G : Vec F S256x1024 .bf16) : Vec F S1024x1024 .bf16 := fun y =>
  G (Fin.cons (⟨(y 0).val % 256, Nat.mod_lt _ (by omega)⟩ : Fin 256) (Fin.cons (⟨(y 1).val, (y 1).isLt⟩ : Fin 1024) fun z => z.elim0))

theorem sTall_top (G : Vec F S256x1024 .bf16) (y : S256x1024.Idx) : sTall G (sTop y) = G y := by
  unfold sTall
  congr 1
  funext k; apply Fin.ext
  have h : (y 0).val < 256 := (y 0).isLt
  fin_cases k
  · show (y 0).val % 256 = (y 0).val; omega
  · rfl

theorem sTall_at (u v : FVec F S256x1024 .f32) (ws : Vec F S8x32x64 .bf16) (bs : Vec F S32x1024 .f32) (r p : Fin 8) (x : S32x128.Idx) (y : S1024x1024.Idx)
    (h0 : (y 0).val = 32 * r.val + (x 0).val) (h1 : (y 1).val = 128 * p.val + (x 1).val) : sTall (sGated u v ws bs) y = sPiece u v ws bs r p x := by
  have hx0 : (x 0).val < 32 := (x 0).isLt
  have hr := r.isLt
  exact sGated_at u v ws bs r p x _ (show (y 0).val % 256 = 32 * r.val + (x 0).val by omega) h1

theorem tGated_box (u v : FVec F S1024x1024 .f32) (ws : Vec F S8x128x256 .bf16) (bs : Vec F S128x1024 .f32) (r p : Fin 8) (off : Fin 2 → ℕ)
    (inb : ∀ a, off a + S128x128.size a ≤ S1024x1024.size a) (hoff : off = ![128 * r.val, 128 * p.val]) (x : S128x128.Idx) :
    tGated u v ws bs ((Rect.unit (s := S1024x1024) off S128x128.size inb).emb x) = tPiece u v ws bs r p x := by
  subst hoff
  exact tGated_at u v ws bs r p x _ (by show 128 * r.val + 1 * (x 0).val = _; omega) (by show 128 * p.val + 1 * (x 1).val = _; omega)

theorem sTall_box (u v : FVec F S256x1024 .f32) (ws : Vec F S8x32x64 .bf16) (bs : Vec F S32x1024 .f32) (r p : Fin 8) (off : Fin 2 → ℕ)
    (inb : ∀ a, off a + S32x128.size a ≤ S1024x1024.size a) (hoff : off = ![32 * r.val, 128 * p.val]) (x : S32x128.Idx) :
    sTall (sGated u v ws bs) ((Rect.unit (s := S1024x1024) off S32x128.size inb).emb x) = sPiece u v ws bs r p x := by
  subst hoff
  exact sTall_at u v ws bs r p x _ (by show 32 * r.val + 1 * (x 0).val = _; omega) (by show 128 * p.val + 1 * (x 1).val = _; omega)

variable (x : Vec F S1x1024x1024 .f32) (s : Vec F S256x1024 .f32) (g : Vec F S1x1024 .f32) (w : Vec F S1024x2048 .f32) (vg : Vec F S1x1024 .f32)
  (ws : Vec F S8x128x256 .bf16) (bs : Vec F S128x1024 .f32) (wss : Vec F S8x32x64 .bf16) (bss : Vec F S32x1024 .f32) (wo : Vec F S1024x1024 .f32)

/-- The two halves of the input projection through the activation, the gate's normed: of a tile, -/
def tU : FVec F S1024x1024 .f32 := k0_pay7 (k0_pay3 x g) (wCol 0 (by omega) w)
def tV : FVec F S1024x1024 .f32 := k0_pay6 (k0_pay4 x g (wCol 1024 (by omega) w)) (k0_pay5 vg)
/-- of the sample. -/
def sU : FVec F S256x1024 .f32 := k0_pay101 (k0_pay99 s g) (wCol 0 (by omega) w)
def sV : FVec F S256x1024 .f32 := k0_pay100 s g (wCol 1024 (by omega) w) vg
/-- What is stored: a tile of the prompt; the sample's rows, and their gate. -/
def yBlk : Vec F S1x1024x1024 .f32 :=
  k0_pay1 (k0_pay2 x) (tGated (tU x g w) (tV x g w vg) ws bs) (k0_pay98 wo) (constant S1024x1024 .f32 0x00000000#32)
def yRow : Vec F S256x1024 .f32 := k0_pay199 s (sGated (sU s g w) (sV s g w vg) wss bss) wo

/-! ## The grid's cases -/

/-- A point of a tile of the prompt, -/
abbrev Tile (i : grid0.Coords) : Prop := k0_cond1 i = 1#1
/-- of the sample. -/
abbrev Sample (i : grid0.Coords) : Prop := k0_cond2 i = 1#1

end Cert.GmlpIdeal.Body

end
-- ==== Proof.GmlpRunA.lean ====
module

public import proofs.«01_k».proof.Proof.GmlpPieces
public import Idealize.ShloMosaic.Lib.Pipeline.ValueKit
public import Idealize.ShloMosaic.Lib.Pipeline.ReadBack
public import Idealize.ShloMosaic.Lib.VecWindow

@[expose] public section

set_option maxRecDepth 16384

noncomputable section

namespace Cert.GmlpIdeal.Body

open Cert.GmlpIdeal Cert.GmlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 16000000 in
/-- The body at a point of a tile of the prompt. -/
theorem run_A (c : Dev nD) (i : grid0.Coords) (a0 : Memref sig .tc .vmem S1x1024x1024 .f32) (ha0 : a0.IsWhole) (a1 : Memref sig .tc .vmem S256x1024 .f32) (ha1 : a1.IsWhole) (a2 : Memref sig .tc .vmem S1x1024 .f32) (ha2 : a2.IsWhole) (a3 : Memref sig .tc .vmem S1024x2048 .f32) (ha3 : a3.IsWhole) (a4 : Memref sig .tc .vmem S1x1024 .f32) (ha4 : a4.IsWhole) (a5 : Memref sig .tc .vmem S8x128x256 .bf16) (ha5 : a5.IsWhole) (a6 : Memref sig .tc .vmem S128x1024 .f32) (ha6 : a6.IsWhole) (a7 : Memref sig .tc .vmem S8x32x64 .bf16) (ha7 : a7.IsWhole) (a8 : Memref sig .tc .vmem S32x1024 .f32) (ha8 : a8.IsWhole) (a9 : Memref sig .tc .vmem S1024x1024 .f32) (ha9 : a9.IsWhole) (a10 : Memref sig .tc .vmem S1x1024x1024 .f32) (ha10 : a10.IsWhole) (a11 : Memref sig .tc .vmem S256x1024 .f32) (ha11 : a11.IsWhole) (a12 : Memref sig .tc .vmem S256x1024 .f32) (ha12 : a12.IsWhole) (a13 : Memref sig .tc .vmem S1024x1024 .bf16) (ha13 : a13.IsWhole) (h0 : Tile i) (h1 : ¬Sample i)
    (x0 : Vec F S1x1024x1024 .f32) (x1 : Vec F S256x1024 .f32) (x2 : Vec F S1x1024 .f32) (x3 : Vec F S1024x2048 .f32) (x4 : Vec F S1x1024 .f32) (x5 : Vec F S8x128x256 .bf16) (x6 : Vec F S128x1024 .f32) (x7 : Vec F S8x32x64 .bf16) (x8 : Vec F S32x1024 .f32) (x9 : Vec F S1024x1024 .f32) (y11 : Vec F S256x1024 .f32) (y12 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ owns (c : Thread nD τ) a11 fullShare y11 ∗ owns (c : Thread nD τ) a12 fullShare y12 ∗ (∃ d, owns (c : Thread nD τ) a13 fullShare d)
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (yBlk x0 x2 x3 x4 x5 x6 x9) ∗ owns (c : Thread nD τ) a11 fullShare y11 ∗ owns (c : Thread nD τ) a12 fullShare y12 ∗ (∃ d, owns (c : Thread nD τ) a13 fullShare d)) -∗ K ⟨⟩))
      ⊢ wp frame (wpE (defs₀ (F := F)) Variants.none c none) E (cc0_gmlp i a0 ha0 a1 ha1 a2 ha2 a3 ha3 a4 ha4 a5 ha5 a6 ha6 a7 ha7 a8 ha8 a9 ha9 a10 ha10 a11 ha11 a12 ha12 a13 ha13) K := by
  simp only [cc0_gmlp_eq_skeleton]; unfold cc0_gmlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, Hk⟩
  obtain rfl := ha0.eq_unread hf0
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha11.eq_unread hf11
  obtain rfl := ha12.eq_unread hf12
  sl_exec (disch := first | sl_exact h0 | sl_exact h1)
  sl_step
  iapply Hk
  isplitl [H0]
  · iexists _; isplitr; swap; · iexact H0
    ipureintro; exact ha0.read_unread _
  isplitl [H1]
  · iexists _; isplitr; swap; · iexact H1
    ipureintro; exact ha1.read_unread _
  isplitl [H2]
  · iexists _; isplitr; swap; · iexact H2
    ipureintro; exact ha2.read_unread _
  isplitl [H3]
  · iexists _; isplitr; swap; · iexact H3
    ipureintro; exact ha3.read_unread _
  isplitl [H4]
  · iexists _; isplitr; swap; · iexact H4
    ipureintro; exact ha4.read_unread _
  isplitl [H5]
  · iexists _; isplitr; swap; · iexact H5
    ipureintro; exact ha5.read_unread _
  isplitl [H6]
  · iexists _; isplitr; swap; · iexact H6
    ipureintro; exact ha6.read_unread _
  isplitl [H7]
  · iexists _; isplitr; swap; · iexact H7
    ipureintro; exact ha7.read_unread _
  isplitl [H8]
  · iexists _; isplitr; swap; · iexact H8
    ipureintro; exact ha8.read_unread _
  isplitl [H9]
  · iexists _; isplitr; swap; · iexact H9
    ipureintro; exact ha9.read_unread _
  isplitl [H10]
  · iexists _; isplitr; swap; · iexact H10
    ipureintro; refine (View.read_writes_full _ _ _ _ _).trans ?_
    have hu : k0_pay7 (k0_pay3 (a0.view.readAt (Elt F) (Rect.unit (s := S1x1024x1024) ![0, 0, 0] S1x1024x1024.size inb_S1x1024x1024_S1x1024x1024_0_0_0).toLoadRect (ha0.unread x0)) (a2.view.readAt (Elt F) (Rect.unit (s := S1x1024) ![0, 0] S1x1024.size inb_S1x1024_S1x1024_0_0).toLoadRect (ha2.unread x2))) (a3.view.readAt (Elt F) (Rect.unit (s := S1024x2048) ![0, 0] S1024x1024.size inb_S1024x2048_S1024x1024_0_0).toLoadRect (ha3.unread x3)) = tU x0 x2 x3 := by rw [load_all, load_all, load_col _ _ 0 (by omega)]; rfl
    have hv : k0_pay6 (k0_pay4 (a0.view.readAt (Elt F) (Rect.unit (s := S1x1024x1024) ![0, 0, 0] S1x1024x1024.size inb_S1x1024x1024_S1x1024x1024_0_0_0).toLoadRect (ha0.unread x0)) (a2.view.readAt (Elt F) (Rect.unit (s := S1x1024) ![0, 0] S1x1024.size inb_S1x1024_S1x1024_0_0).toLoadRect (ha2.unread x2)) (a3.view.readAt (Elt F) (Rect.unit (s := S1024x2048) ![0, 1024] S1024x1024.size inb_S1024x2048_S1024x1024_0_1024).toLoadRect (ha3.unread x3))) (k0_pay5 (a4.view.readAt (Elt F) (Rect.unit (s := S1x1024) ![0, 0] S1x1024.size inb_S1x1024_S1x1024_0_0).toLoadRect (ha4.unread x4))) = tV x0 x2 x3 x4 := by rw [load_all, load_all, load_all, load_col _ _ 1024 (by omega)]; rfl
    refine (congrArg (fun z => k0_pay1 _ z _ _) (?_ : _ = (tGated (k0_pay7 (k0_pay3 (a0.view.readAt (Elt F) (Rect.unit (s := S1x1024x1024) ![0, 0, 0] S1x1024x1024.size inb_S1x1024x1024_S1x1024x1024_0_0_0).toLoadRect (ha0.unread x0)) (a2.view.readAt (Elt F) (Rect.unit (s := S1x1024) ![0, 0] S1x1024.size inb_S1x1024_S1x1024_0_0).toLoadRect (ha2.unread x2))) (a3.view.readAt (Elt F) (Rect.unit (s := S1024x2048) ![0, 0] S1024x1024.size inb_S1024x2048_S1024x1024_0_0).toLoadRect (ha3.unread x3))) (k0_pay6 (k0_pay4 (a0.view.readAt (Elt F) (Rect.unit (s := S1x1024x1024) ![0, 0, 0] S1x1024x1024.size inb_S1x1024x1024_S1x1024x1024_0_0_0).toLoadRect (ha0.unread x0)) (a2.view.readAt (Elt F) (Rect.unit (s := S1x1024) ![0, 0] S1x1024.size inb_S1x1024_S1x1024_0_0).toLoadRect (ha2.unread x2)) (a3.view.readAt (Elt F) (Rect.unit (s := S1024x2048) ![0, 1024] S1024x1024.size inb_S1024x2048_S1024x1024_0_1024).toLoadRect (ha3.unread x3))) (k0_pay5 (a4.view.readAt (Elt F) (Rect.unit (s := S1x1024) ![0, 0] S1x1024.size inb_S1x1024_S1x1024_0_0).toLoadRect (ha4.unread x4)))) (View.read (Elt F) a5.view (ha5.unread x5)) (View.read (Elt F) a6.view (ha6.unread x6))))).trans ?_
    swap
    · rw [hu, hv, ha5.read_unread, ha6.read_unread]
      unfold run_A.sl.r run_A.sl.r_33
      rw [load_all, load_all]
      rfl
    clear hu hv
    unfold run_A.sl.v863
    refine (View.readCov_eq_canon' _ _ _).trans (funext fun j => ?_)
    have hj : (Rect.unit (s := S1024x1024) ![0, 0] S1024x1024.size inb_S1024x1024_S1024x1024_0_0).idx j = j := funext fun a => Fin.ext (by
      fin_cases a
      · show 0 + 1 * (j 0).val = (j 0).val; omega
      · show 0 + 1 * (j 1).val = (j 1).val; omega)
    show View.canon _ ((Rect.unit (s := S1024x1024) ![0, 0] S1024x1024.size inb_S1024x1024_S1024x1024_0_0).idx j) = _
    rw [hj]
    refine View.canon_apply_of_pieces (tGated (k0_pay7 (k0_pay3 (a0.view.readAt (Elt F) (Rect.unit (s := S1x1024x1024) ![0, 0, 0] S1x1024x1024.size inb_S1x1024x1024_S1x1024x1024_0_0_0).toLoadRect (ha0.unread x0)) (a2.view.readAt (Elt F) (Rect.unit (s := S1x1024) ![0, 0] S1x1024.size inb_S1x1024_S1x1024_0_0).toLoadRect (ha2.unread x2))) (a3.view.readAt (Elt F) (Rect.unit (s := S1024x2048) ![0, 0] S1024x1024.size inb_S1024x2048_S1024x1024_0_0).toLoadRect (ha3.unread x3))) (k0_pay6 (k0_pay4 (a0.view.readAt (Elt F) (Rect.unit (s := S1x1024x1024) ![0, 0, 0] S1x1024x1024.size inb_S1x1024x1024_S1x1024x1024_0_0_0).toLoadRect (ha0.unread x0)) (a2.view.readAt (Elt F) (Rect.unit (s := S1x1024) ![0, 0] S1x1024.size inb_S1x1024_S1x1024_0_0).toLoadRect (ha2.unread x2)) (a3.view.readAt (Elt F) (Rect.unit (s := S1024x2048) ![0, 1024] S1024x1024.size inb_S1024x2048_S1024x1024_0_1024).toLoadRect (ha3.unread x3))) (k0_pay5 (a4.view.readAt (Elt F) (Rect.unit (s := S1x1024) ![0, 0] S1x1024.size inb_S1x1024_S1x1024_0_0).toLoadRect (ha4.unread x4)))) (View.read (Elt F) a5.view (ha5.unread x5)) (View.read (Elt F) a6.view (ha6.unread x6))) _ (View.PiecesOf.mem ?_) j
      (cover_blocks 128 _ [(7, 7), (6, 7), (5, 7), (4, 7), (3, 7), (2, 7), (1, 7), (0, 7), (7, 6), (6, 6), (5, 6), (4, 6), (3, 6), (2, 6), (1, 6), (0, 6), (7, 5), (6, 5), (5, 5), (4, 5), (3, 5), (2, 5), (1, 5), (0, 5), (7, 4), (6, 4), (5, 4), (4, 4), (3, 4), (2, 4), (1, 4), (0, 4), (7, 3), (6, 3), (5, 3), (4, 3), (3, 3), (2, 3), (1, 3), (0, 3), (7, 2), (6, 2), (5, 2), (4, 2), (3, 2), (2, 2), (1, 2), (0, 2), (7, 1), (6, 1), (5, 1), (4, 1), (3, 1), (2, 1), (1, 1), (0, 1), (7, 0), (6, 0), (5, 0), (4, 0), (3, 0), (2, 0), (1, 0), (0, 0)] rfl (by decide) j (j 0).isLt)
    refine ⟨fun x => ?_, ?_⟩
    · exact Eq.symm (tGated_box _ _ _ _ ⟨7, by decide⟩ ⟨7, by decide⟩ ![896, 896] inb_S1024x1024_S128x128_896_896 rfl x)
    refine ⟨fun x => ?_, ?_⟩
    · exact Eq.symm (tGated_box _ _ _ _ ⟨6, by decide⟩ ⟨7, by decide⟩ ![768, 896] inb_S1024x1024_S128x128_768_896 rfl x)
    refine ⟨fun x => ?_, ?_⟩
    · exact Eq.symm (tGated_box _ _ _ _ ⟨5, by decide⟩ ⟨7, by decide⟩ ![640, 896] inb_S1024x1024_S128x128_640_896 rfl x)
    refine ⟨fun x => ?_, ?_⟩
    · exact Eq.symm (tGated_box _ _ _ _ ⟨4, by decide⟩ ⟨7, by decide⟩ ![512, 896] inb_S1024x1024_S128x128_512_896 rfl x)
    refine ⟨fun x => ?_, ?_⟩
    · exact Eq.symm (tGated_box _ _ _ _ ⟨3, by decide⟩ ⟨7, by decide⟩ ![384, 896] inb_S1024x1024_S128x128_384_896 rfl x)
    refine ⟨fun x => ?_, ?_⟩
    · exact Eq.symm (tGated_box _ _ _ _ ⟨2, by decide⟩ ⟨7, by decide⟩ ![256, 896] inb_S1024x1024_S128x128_256_896 rfl x)
    refine ⟨fun x => ?_, ?_⟩
    · exact Eq.symm (tGated_box _ _ _ _ ⟨1, by decide⟩ ⟨7, by decide⟩ ![128, 896] inb_S1024x1024_S128x128_128_896 rfl x)
    refine ⟨fun x => ?_, ?_⟩
    · exact Eq.symm (tGated_box _ _ _ _ ⟨0, by decide⟩ ⟨7, by decide⟩ ![0, 896] inb_S1024x1024_S128x128_0_896 rfl x)
    refine ⟨fun x => ?_, ?_⟩
    · exact Eq.symm (tGated_box _ _ _ _ ⟨7, by decide⟩ ⟨6, by decide⟩ ![896, 768] inb_S1024x1024_S128x128_896_768 rfl x)
    refine ⟨fun x => ?_, ?_⟩
    · exact Eq.symm (tGated_box _ _ _ _ ⟨6, by decide⟩ ⟨6, by decide⟩ ![768, 768] inb_S1024x1024_S128x128_768_768 rfl x)
    refine ⟨fun x => ?_, ?_⟩
    · exact Eq.symm (tGated_box _ _ _ _ ⟨5, by decide⟩ ⟨6, by decide⟩ ![640, 768] inb_S1024x1024_S128x128_640_768 rfl x)
    refine ⟨fun x => ?_, ?_⟩
    · exact Eq.symm (tGated_box _ _ _ _ ⟨4, by decide⟩ ⟨6, by decide⟩ ![512, 768] inb_S1024x1024_S128x128_512_768 rfl x)
    refine ⟨fun x => ?_, ?_⟩
    · exact Eq.symm (tGated_box _ _ _ _ ⟨3, by decide⟩ ⟨6, by decide⟩ ![384, 768] inb_S1024x1024_S128x128_384_768 rfl x)
    refine ⟨fun x => ?_, ?_⟩
    · exact Eq.symm (tGated_box _ _ _ _ ⟨2, by decide⟩ ⟨6, by decide⟩ ![256, 768] inb_S1024x1024_S128x128_256_768 rfl x)
    refine ⟨fun x => ?_, ?_⟩
    · exact Eq.symm (tGated_box _ _ _ _ ⟨1, by decide⟩ ⟨6, by decide⟩ ![128, 768] inb_S1024x1024_S128x128_128_768 rfl x)
    refine ⟨fun x => ?_, ?_⟩
    · exact Eq.symm (tGated_box _ _ _ _ ⟨0, by decide⟩ ⟨6, by decide⟩ ![0, 768] inb_S1024x1024_S128x128_0_768 rfl x)
    refine ⟨fun x => ?_, ?_⟩
    · exact Eq.symm (tGated_box _ _ _ _ ⟨7, by decide⟩ ⟨5, by decide⟩ ![896, 640] inb_S1024x1024_S128x128_896_640 rfl x)
    refine ⟨fun x => ?_, ?_⟩
    · exact Eq.symm (tGated_box _ _ _ _ ⟨6, by decide⟩ ⟨5, by decide⟩ ![768, 640] inb_S1024x1024_S128x128_768_640 rfl x)
    refine ⟨fun x => ?_, ?_⟩
    · exact Eq.symm (tGated_box _ _ _ _ ⟨5, by decide⟩ ⟨5, by decide⟩ ![640, 640] inb_S1024x1024_S128x128_640_640 rfl x)
    refine ⟨fun x => ?_, ?_⟩
    · exact Eq.symm (tGated_box _ _ _ _ ⟨4, by decide⟩ ⟨5, by decide⟩ ![512, 640] inb_S1024x1024_S128x128_512_640 rfl x)
    refine ⟨fun x => ?_, ?_⟩
    · exact Eq.symm (tGated_box _ _ _ _ ⟨3, by decide⟩ ⟨5, by decide⟩ ![384, 640] inb_S1024x1024_S128x128_384_640 rfl x)
    refine ⟨fun x => ?_, ?_⟩
    · exact Eq.symm (tGated_box _ _ _ _ ⟨2, by decide⟩ ⟨5, by decide⟩ ![256, 640] inb_S1024x1024_S128x128_256_640 rfl x)
    refine ⟨fun x => ?_, ?_⟩
    · exact Eq.symm (tGated_box _ _ _ _ ⟨1, by decide⟩ ⟨5, by decide⟩ ![128, 640] inb_S1024x1024_S128x128_128_640 rfl x)
    refine ⟨fun x => ?_, ?_⟩
    · exact Eq.symm (tGated_box _ _ _ _ ⟨0, by decide⟩ ⟨5, by decide⟩ ![0, 640] inb_S1024x1024_S128x128_0_640 rfl x)
    refine ⟨fun x => ?_, ?_⟩
    · exact Eq.symm (tGated_box _ _ _ _ ⟨7, by decide⟩ ⟨4, by decide⟩ ![896, 512] inb_S1024x1024_S128x128_896_512 rfl x)
    refine ⟨fun x => ?_, ?_⟩
    · exact Eq.symm (tGated_box _ _ _ _ ⟨6, by decide⟩ ⟨4, by decide⟩ ![768, 512] inb_S1024x1024_S128x128_768_512 rfl x)
    refine ⟨fun x => ?_, ?_⟩
    · exact Eq.symm (tGated_box _ _ _ _ ⟨5, by decide⟩ ⟨4, by decide⟩ ![640, 512] inb_S1024x1024_S128x128_640_512 rfl x)
    refine ⟨fun x => ?_, ?_⟩
    · exact Eq.symm (tGated_box _ _ _ _ ⟨4, by decide⟩ ⟨4, by decide⟩ ![512, 512] inb_S1024x1024_S128x128_512_512 rfl x)
    refine ⟨fun x => ?_, ?_⟩
    · exact Eq.symm (tGated_box _ _ _ _ ⟨3, by decide⟩ ⟨4, by decide⟩ ![384, 512] inb_S1024x1024_S128x128_384_512 rfl x)
    refine ⟨fun x => ?_, ?_⟩
    · exact Eq.symm (tGated_box _ _ _ _ ⟨2, by decide⟩ ⟨4, by decide⟩ ![256, 512] inb_S1024x1024_S128x128_256_512 rfl x)
    refine ⟨fun x => ?_, ?_⟩
    · exact Eq.symm (tGated_box _ _ _ _ ⟨1, by decide⟩ ⟨4, by decide⟩ ![128, 512] inb_S1024x1024_S128x128_128_512 rfl x)
    refine ⟨fun x => ?_, ?_⟩
    · exact Eq.symm (tGated_box _ _ _ _ ⟨0, by decide⟩ ⟨4, by decide⟩ ![0, 512] inb_S1024x1024_S128x128_0_512 rfl x)
    refine ⟨fun x => ?_, ?_⟩
    · exact Eq.symm (tGated_box _ _ _ _ ⟨7, by decide⟩ ⟨3, by decide⟩ ![896, 384] inb_S1024x1024_S128x128_896_384 rfl x)
    refine ⟨fun x => ?_, ?_⟩
    · exact Eq.symm (tGated_box _ _ _ _ ⟨6, by decide⟩ ⟨3, by decide⟩ ![768, 384] inb_S1024x1024_S128x128_768_384 rfl x)
    refine ⟨fun x => ?_, ?_⟩
    · exact Eq.symm (tGated_box _ _ _ _ ⟨5, by decide⟩ ⟨3, by decide⟩ ![640, 384] inb_S1024x1024_S128x128_640_384 rfl x)
    refine ⟨fun x => ?_, ?_⟩
    · exact Eq.symm (tGated_box _ _ _ _ ⟨4, by decide⟩ ⟨3, by decide⟩ ![512, 384] inb_S1024x1024_S128x128_512_384 rfl x)
    refine ⟨fun x => ?_, ?_⟩
    · exact Eq.symm (tGated_box _ _ _ _ ⟨3, by decide⟩ ⟨3, by decide⟩ ![384, 384] inb_S1024x1024_S128x128_384_384 rfl x)
    refine ⟨fun x => ?_, ?_⟩
    · exact Eq.symm (tGated_box _ _ _ _ ⟨2, by decide⟩ ⟨3, by decide⟩ ![256, 384] inb_S1024x1024_S128x128_256_384 rfl x)
    refine ⟨fun x => ?_, ?_⟩
    · exact Eq.symm (tGated_box _ _ _ _ ⟨1, by decide⟩ ⟨3, by decide⟩ ![128, 384] inb_S1024x1024_S128x128_128_384 rfl x)
    refine ⟨fun x => ?_, ?_⟩
    · exact Eq.symm (tGated_box _ _ _ _ ⟨0, by decide⟩ ⟨3, by decide⟩ ![0, 384] inb_S1024x1024_S128x128_0_384 rfl x)
    refine ⟨fun x => ?_, ?_⟩
    · exact Eq.symm (tGated_box _ _ _ _ ⟨7, by decide⟩ ⟨2, by decide⟩ ![896, 256] inb_S1024x1024_S128x128_896_256 rfl x)
    refine ⟨fun x => ?_, ?_⟩
    · exact Eq.symm (tGated_box _ _ _ _ ⟨6, by decide⟩ ⟨2, by decide⟩ ![768, 256] inb_S1024x1024_S128x128_768_256 rfl x)
    refine ⟨fun x => ?_, ?_⟩
    · exact Eq.symm (tGated_box _ _ _ _ ⟨5, by decide⟩ ⟨2, by decide⟩ ![640, 256] inb_S1024x1024_S128x128_640_256 rfl x)
    refine ⟨fun x => ?_, ?_⟩
    · exact Eq.symm (tGated_box _ _ _ _ ⟨4, by decide⟩ ⟨2, by decide⟩ ![512, 256] inb_S1024x1024_S128x128_512_256 rfl x)
    refine ⟨fun x => ?_, ?_⟩
    · exact Eq.symm (tGated_box _ _ _ _ ⟨3, by decide⟩ ⟨2, by decide⟩ ![384, 256] inb_S1024x1024_S128x128_384_256 rfl x)
    refine ⟨fun x => ?_, ?_⟩
    · exact Eq.symm (tGated_box _ _ _ _ ⟨2, by decide⟩ ⟨2, by decide⟩ ![256, 256] inb_S1024x1024_S128x128_256_256 rfl x)
    refine ⟨fun x => ?_, ?_⟩
    · exact Eq.symm (tGated_box _ _ _ _ ⟨1, by decide⟩ ⟨2, by decide⟩ ![128, 256] inb_S1024x1024_S128x128_128_256 rfl x)
    refine ⟨fun x => ?_, ?_⟩
    · exact Eq.symm (tGated_box _ _ _ _ ⟨0, by decide⟩ ⟨2, by decide⟩ ![0, 256] inb_S1024x1024_S128x128_0_256 rfl x)
    refine ⟨fun x => ?_, ?_⟩
    · exact Eq.symm (tGated_box _ _ _ _ ⟨7, by decide⟩ ⟨1, by decide⟩ ![896, 128] inb_S1024x1024_S128x128_896_128 rfl x)
    refine ⟨fun x => ?_, ?_⟩
    · exact Eq.symm (tGated_box _ _ _ _ ⟨6, by decide⟩ ⟨1, by decide⟩ ![768, 128] inb_S1024x1024_S128x128_768_128 rfl x)
    refine ⟨fun x => ?_, ?_⟩
    · exact Eq.symm (tGated_box _ _ _ _ ⟨5, by decide⟩ ⟨1, by decide⟩ ![640, 128] inb_S1024x1024_S128x128_640_128 rfl x)
    refine ⟨fun x => ?_, ?_⟩
    · exact Eq.symm (tGated_box _ _ _ _ ⟨4, by decide⟩ ⟨1, by decide⟩ ![512, 128] inb_S1024x1024_S128x128_512_128 rfl x)
    refine ⟨fun x => ?_, ?_⟩
    · exact Eq.symm (tGated_box _ _ _ _ ⟨3, by decide⟩ ⟨1, by decide⟩ ![384, 128] inb_S1024x1024_S128x128_384_128 rfl x)
    refine ⟨fun x => ?_, ?_⟩
    · exact Eq.symm (tGated_box _ _ _ _ ⟨2, by decide⟩ ⟨1, by decide⟩ ![256, 128] inb_S1024x1024_S128x128_256_128 rfl x)
    refine ⟨fun x => ?_, ?_⟩
    · exact Eq.symm (tGated_box _ _ _ _ ⟨1, by decide⟩ ⟨1, by decide⟩ ![128, 128] inb_S1024x1024_S128x128_128_128 rfl x)
    refine ⟨fun x => ?_, ?_⟩
    · exact Eq.symm (tGated_box _ _ _ _ ⟨0, by decide⟩ ⟨1, by decide⟩ ![0, 128] inb_S1024x1024_S128x128_0_128 rfl x)
    refine ⟨fun x => ?_, ?_⟩
    · exact Eq.symm (tGated_box _ _ _ _ ⟨7, by decide⟩ ⟨0, by decide⟩ ![896, 0] inb_S1024x1024_S128x128_896_0 rfl x)
    refine ⟨fun x => ?_, ?_⟩
    · exact Eq.symm (tGated_box _ _ _ _ ⟨6, by decide⟩ ⟨0, by decide⟩ ![768, 0] inb_S1024x1024_S128x128_768_0 rfl x)
    refine ⟨fun x => ?_, ?_⟩
    · exact Eq.symm (tGated_box _ _ _ _ ⟨5, by decide⟩ ⟨0, by decide⟩ ![640, 0] inb_S1024x1024_S128x128_640_0 rfl x)
    refine ⟨fun x => ?_, ?_⟩
    · exact Eq.symm (tGated_box _ _ _ _ ⟨4, by decide⟩ ⟨0, by decide⟩ ![512, 0] inb_S1024x1024_S128x128_512_0 rfl x)
    refine ⟨fun x => ?_, ?_⟩
    · exact Eq.symm (tGated_box _ _ _ _ ⟨3, by decide⟩ ⟨0, by decide⟩ ![384, 0] inb_S1024x1024_S128x128_384_0 rfl x)
    refine ⟨fun x => ?_, ?_⟩
    · exact Eq.symm (tGated_box _ _ _ _ ⟨2, by decide⟩ ⟨0, by decide⟩ ![256, 0] inb_S1024x1024_S128x128_256_0 rfl x)
    refine ⟨fun x => ?_, ?_⟩
    · exact Eq.symm (tGated_box _ _ _ _ ⟨1, by decide⟩ ⟨0, by decide⟩ ![128, 0] inb_S1024x1024_S128x128_128_0 rfl x)
    refine ⟨fun x => ?_, ?_⟩
    · exact Eq.symm (tGated_box _ _ _ _ ⟨0, by decide⟩ ⟨0, by decide⟩ ![0, 0] inb_S1024x1024_S128x128_0_0 rfl x)
    exact trivial
  isplitl [H11]
  · iexists _; isplitr; swap; · iexact H11
    ipureintro; exact ha11.read_unread _
  isplitl [H12]
  · iexists _; isplitr; swap; · iexact H12
    ipureintro; exact ha12.read_unread _
  iexists _; iexists _; isplitr; swap; · iexact H13
  ipureintro; rfl

end Cert.GmlpIdeal.Body

end
-- ==== Proof.GmlpRunB.lean ====
module

public import proofs.«01_k».proof.Proof.GmlpPieces
public import Idealize.ShloMosaic.Lib.Pipeline.ValueKit
public import Idealize.ShloMosaic.Lib.Pipeline.ReadBack
public import Idealize.ShloMosaic.Lib.VecWindow

@[expose] public section

set_option maxRecDepth 16384

noncomputable section

namespace Cert.GmlpIdeal.Body

open Cert.GmlpIdeal Cert.GmlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 16000000 in
/-- The body at a point of the sample. -/
theorem run_B (c : Dev nD) (i : grid0.Coords) (a0 : Memref sig .tc .vmem S1x1024x1024 .f32) (ha0 : a0.IsWhole) (a1 : Memref sig .tc .vmem S256x1024 .f32) (ha1 : a1.IsWhole) (a2 : Memref sig .tc .vmem S1x1024 .f32) (ha2 : a2.IsWhole) (a3 : Memref sig .tc .vmem S1024x2048 .f32) (ha3 : a3.IsWhole) (a4 : Memref sig .tc .vmem S1x1024 .f32) (ha4 : a4.IsWhole) (a5 : Memref sig .tc .vmem S8x128x256 .bf16) (ha5 : a5.IsWhole) (a6 : Memref sig .tc .vmem S128x1024 .f32) (ha6 : a6.IsWhole) (a7 : Memref sig .tc .vmem S8x32x64 .bf16) (ha7 : a7.IsWhole) (a8 : Memref sig .tc .vmem S32x1024 .f32) (ha8 : a8.IsWhole) (a9 : Memref sig .tc .vmem S1024x1024 .f32) (ha9 : a9.IsWhole) (a10 : Memref sig .tc .vmem S1x1024x1024 .f32) (ha10 : a10.IsWhole) (a11 : Memref sig .tc .vmem S256x1024 .f32) (ha11 : a11.IsWhole) (a12 : Memref sig .tc .vmem S256x1024 .f32) (ha12 : a12.IsWhole) (a13 : Memref sig .tc .vmem S1024x1024 .bf16) (ha13 : a13.IsWhole) (h0 : ¬Tile i) (h1 : Sample i)
    (x0 : Vec F S1x1024x1024 .f32) (x1 : Vec F S256x1024 .f32) (x2 : Vec F S1x1024 .f32) (x3 : Vec F S1024x2048 .f32) (x4 : Vec F S1x1024 .f32) (x5 : Vec F S8x128x256 .bf16) (x6 : Vec F S128x1024 .f32) (x7 : Vec F S8x32x64 .bf16) (x8 : Vec F S32x1024 .f32) (x9 : Vec F S1024x1024 .f32) (y10 : Vec F S1x1024x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare y10 ∗ (∃ d, owns (c : Thread nD τ) a11 fullShare d) ∗ (∃ d, owns (c : Thread nD τ) a12 fullShare d) ∗ (∃ d, owns (c : Thread nD τ) a13 fullShare d)
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare y10 ∗ owns (c : Thread nD τ) a11 fullShare (yRow x1 x2 x3 x4 x7 x8 x9) ∗ owns (c : Thread nD τ) a12 fullShare (sV x1 x2 x3 x4) ∗ (∃ d, owns (c : Thread nD τ) a13 fullShare d)) -∗ K ⟨⟩))
      ⊢ wp frame (wpE (defs₀ (F := F)) Variants.none c none) E (cc0_gmlp i a0 ha0 a1 ha1 a2 ha2 a3 ha3 a4 ha4 a5 ha5 a6 ha6 a7 ha7 a8 ha8 a9 ha9 a10 ha10 a11 ha11 a12 ha12 a13 ha13) K := by
  simp only [cc0_gmlp_eq_skeleton]; unfold cc0_gmlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  obtain rfl := ha0.eq_unread hf0
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  sl_exec (disch := first | sl_exact h0 | sl_exact h1)
  sl_step
  iapply Hk
  isplitl [H0]
  · iexists _; isplitr; swap; · iexact H0
    ipureintro; exact ha0.read_unread _
  isplitl [H1]
  · iexists _; isplitr; swap; · iexact H1
    ipureintro; exact ha1.read_unread _
  isplitl [H2]
  · iexists _; isplitr; swap; · iexact H2
    ipureintro; exact ha2.read_unread _
  isplitl [H3]
  · iexists _; isplitr; swap; · iexact H3
    ipureintro; exact ha3.read_unread _
  isplitl [H4]
  · iexists _; isplitr; swap; · iexact H4
    ipureintro; exact ha4.read_unread _
  isplitl [H5]
  · iexists _; isplitr; swap; · iexact H5
    ipureintro; exact ha5.read_unread _
  isplitl [H6]
  · iexists _; isplitr; swap; · iexact H6
    ipureintro; exact ha6.read_unread _
  isplitl [H7]
  · iexists _; isplitr; swap; · iexact H7
    ipureintro; exact ha7.read_unread _
  isplitl [H8]
  · iexists _; isplitr; swap; · iexact H8
    ipureintro; exact ha8.read_unread _
  isplitl [H9]
  · iexists _; isplitr; swap; · iexact H9
    ipureintro; exact ha9.read_unread _
  isplitl [H10]
  · iexists _; isplitr; swap; · iexact H10
    ipureintro; exact ha10.read_unread _
  isplitl [H11]
  · iexists _; isplitr; swap; · iexact H11
    ipureintro; refine (View.read_writes_full _ _ _ _ _).trans ?_
    unfold run_B.sl.r_35
    have hu : k0_pay101 (k0_pay99 (a1.view.readAt (Elt F) (Rect.unit (s := S256x1024) ![0, 0] S256x1024.size inb_S256x1024_S256x1024_0_0).toLoadRect (ha1.unread x1)) (a2.view.readAt (Elt F) (Rect.unit (s := S1x1024) ![0, 0] S1x1024.size inb_S1x1024_S1x1024_0_0).toLoadRect (ha2.unread x2))) (a3.view.readAt (Elt F) (Rect.unit (s := S1024x2048) ![0, 0] S1024x1024.size inb_S1024x2048_S1024x1024_0_0).toLoadRect (ha3.unread x3)) = sU x1 x2 x3 := by rw [load_all, load_all, load_col _ _ 0 (by omega)]; rfl
    have hv : k0_pay100 (a1.view.readAt (Elt F) (Rect.unit (s := S256x1024) ![0, 0] S256x1024.size inb_S256x1024_S256x1024_0_0).toLoadRect (ha1.unread x1)) (a2.view.readAt (Elt F) (Rect.unit (s := S1x1024) ![0, 0] S1x1024.size inb_S1x1024_S1x1024_0_0).toLoadRect (ha2.unread x2)) (a3.view.readAt (Elt F) (Rect.unit (s := S1024x2048) ![0, 1024] S1024x1024.size inb_S1024x2048_S1024x1024_0_1024).toLoadRect (ha3.unread x3)) (a4.view.readAt (Elt F) (Rect.unit (s := S1x1024) ![0, 0] S1x1024.size inb_S1x1024_S1x1024_0_0).toLoadRect (ha4.unread x4)) = sV x1 x2 x3 x4 := by rw [load_all, load_all, load_all, load_col _ _ 1024 (by omega)]; rfl
    refine (congrArg (fun z => k0_pay199 _ z _) (?_ : _ = fun y => (sGated (k0_pay101 (k0_pay99 (a1.view.readAt (Elt F) (Rect.unit (s := S256x1024) ![0, 0] S256x1024.size inb_S256x1024_S256x1024_0_0).toLoadRect (ha1.unread x1)) (a2.view.readAt (Elt F) (Rect.unit (s := S1x1024) ![0, 0] S1x1024.size inb_S1x1024_S1x1024_0_0).toLoadRect (ha2.unread x2))) (a3.view.readAt (Elt F) (Rect.unit (s := S1024x2048) ![0, 0] S1024x1024.size inb_S1024x2048_S1024x1024_0_0).toLoadRect (ha3.unread x3))) (k0_pay100 (a1.view.readAt (Elt F) (Rect.unit (s := S256x1024) ![0, 0] S256x1024.size inb_S256x1024_S256x1024_0_0).toLoadRect (ha1.unread x1)) (a2.view.readAt (Elt F) (Rect.unit (s := S1x1024) ![0, 0] S1x1024.size inb_S1x1024_S1x1024_0_0).toLoadRect (ha2.unread x2)) (a3.view.readAt (Elt F) (Rect.unit (s := S1024x2048) ![0, 1024] S1024x1024.size inb_S1024x2048_S1024x1024_0_1024).toLoadRect (ha3.unread x3)) (a4.view.readAt (Elt F) (Rect.unit (s := S1x1024) ![0, 0] S1x1024.size inb_S1x1024_S1x1024_0_0).toLoadRect (ha4.unread x4))) (View.read (Elt F) a7.view (ha7.unread x7)) (View.read (Elt F) a8.view (ha8.unread x8))) y)).trans ?_
    swap
    · rw [hu, hv, ha7.read_unread, ha8.read_unread]
      unfold run_B.sl.r
      rw [load_all, load_all]
      rfl
    clear hu hv
    unfold run_B.sl.v862
    refine (View.readCov_eq_canon' _ _ _).trans (funext fun j => ?_)
    have hj : (Rect.unit (s := S1024x1024) ![0, 0] S256x1024.size inb_S1024x1024_S256x1024_0_0).idx j = sTop j := funext fun a => Fin.ext (by
      fin_cases a
      · show 0 + 1 * (j 0).val = (j 0).val; omega
      · show 0 + 1 * (j 1).val = (j 1).val; omega)
    show View.canon _ ((Rect.unit (s := S1024x1024) ![0, 0] S256x1024.size inb_S1024x1024_S256x1024_0_0).idx j) = _
    rw [hj]
    refine (View.canon_apply_of_pieces (sTall (sGated (k0_pay101 (k0_pay99 (a1.view.readAt (Elt F) (Rect.unit (s := S256x1024) ![0, 0] S256x1024.size inb_S256x1024_S256x1024_0_0).toLoadRect (ha1.unread x1)) (a2.view.readAt (Elt F) (Rect.unit (s := S1x1024) ![0, 0] S1x1024.size inb_S1x1024_S1x1024_0_0).toLoadRect (ha2.unread x2))) (a3.view.readAt (Elt F) (Rect.unit (s := S1024x2048) ![0, 0] S1024x1024.size inb_S1024x2048_S1024x1024_0_0).toLoadRect (ha3.unread x3))) (k0_pay100 (a1.view.readAt (Elt F) (Rect.unit (s := S256x1024) ![0, 0] S256x1024.size inb_S256x1024_S256x1024_0_0).toLoadRect (ha1.unread x1)) (a2.view.readAt (Elt F) (Rect.unit (s := S1x1024) ![0, 0] S1x1024.size inb_S1x1024_S1x1024_0_0).toLoadRect (ha2.unread x2)) (a3.view.readAt (Elt F) (Rect.unit (s := S1024x2048) ![0, 1024] S1024x1024.size inb_S1024x2048_S1024x1024_0_1024).toLoadRect (ha3.unread x3)) (a4.view.readAt (Elt F) (Rect.unit (s := S1x1024) ![0, 0] S1x1024.size inb_S1x1024_S1x1024_0_0).toLoadRect (ha4.unread x4))) (View.read (Elt F) a7.view (ha7.unread x7)) (View.read (Elt F) a8.view (ha8.unread x8)))) _ (View.PiecesOf.mem ?_) (sTop j)
      (cover_blocks 32 _ [(7, 7), (6, 7), (5, 7), (4, 7), (3, 7), (2, 7), (1, 7), (0, 7), (7, 6), (6, 6), (5, 6), (4, 6), (3, 6), (2, 6), (1, 6), (0, 6), (7, 5), (6, 5), (5, 5), (4, 5), (3, 5), (2, 5), (1, 5), (0, 5), (7, 4), (6, 4), (5, 4), (4, 4), (3, 4), (2, 4), (1, 4), (0, 4), (7, 3), (6, 3), (5, 3), (4, 3), (3, 3), (2, 3), (1, 3), (0, 3), (7, 2), (6, 2), (5, 2), (4, 2), (3, 2), (2, 2), (1, 2), (0, 2), (7, 1), (6, 1), (5, 1), (4, 1), (3, 1), (2, 1), (1, 1), (0, 1), (7, 0), (6, 0), (5, 0), (4, 0), (3, 0), (2, 0), (1, 0), (0, 0)] rfl (by decide) (sTop j) (j 0).isLt)).trans (sTall_top _ j)
    refine ⟨fun x => ?_, ?_⟩
    · exact Eq.symm (sTall_box _ _ _ _ ⟨7, by decide⟩ ⟨7, by decide⟩ ![224, 896] inb_S1024x1024_S32x128_224_896 rfl x)
    refine ⟨fun x => ?_, ?_⟩
    · exact Eq.symm (sTall_box _ _ _ _ ⟨6, by decide⟩ ⟨7, by decide⟩ ![192, 896] inb_S1024x1024_S32x128_192_896 rfl x)
    refine ⟨fun x => ?_, ?_⟩
    · exact Eq.symm (sTall_box _ _ _ _ ⟨5, by decide⟩ ⟨7, by decide⟩ ![160, 896] inb_S1024x1024_S32x128_160_896 rfl x)
    refine ⟨fun x => ?_, ?_⟩
    · exact Eq.symm (sTall_box _ _ _ _ ⟨4, by decide⟩ ⟨7, by decide⟩ ![128, 896] inb_S1024x1024_S32x128_128_896 rfl x)
    refine ⟨fun x => ?_, ?_⟩
    · exact Eq.symm (sTall_box _ _ _ _ ⟨3, by decide⟩ ⟨7, by decide⟩ ![96, 896] inb_S1024x1024_S32x128_96_896 rfl x)
    refine ⟨fun x => ?_, ?_⟩
    · exact Eq.symm (sTall_box _ _ _ _ ⟨2, by decide⟩ ⟨7, by decide⟩ ![64, 896] inb_S1024x1024_S32x128_64_896 rfl x)
    refine ⟨fun x => ?_, ?_⟩
    · exact Eq.symm (sTall_box _ _ _ _ ⟨1, by decide⟩ ⟨7, by decide⟩ ![32, 896] inb_S1024x1024_S32x128_32_896 rfl x)
    refine ⟨fun x => ?_, ?_⟩
    · exact Eq.symm (sTall_box _ _ _ _ ⟨0, by decide⟩ ⟨7, by decide⟩ ![0, 896] inb_S1024x1024_S32x128_0_896 rfl x)
    refine ⟨fun x => ?_, ?_⟩
    · exact Eq.symm (sTall_box _ _ _ _ ⟨7, by decide⟩ ⟨6, by decide⟩ ![224, 768] inb_S1024x1024_S32x128_224_768 rfl x)
    refine ⟨fun x => ?_, ?_⟩
    · exact Eq.symm (sTall_box _ _ _ _ ⟨6, by decide⟩ ⟨6, by decide⟩ ![192, 768] inb_S1024x1024_S32x128_192_768 rfl x)
    refine ⟨fun x => ?_, ?_⟩
    · exact Eq.symm (sTall_box _ _ _ _ ⟨5, by decide⟩ ⟨6, by decide⟩ ![160, 768] inb_S1024x1024_S32x128_160_768 rfl x)
    refine ⟨fun x => ?_, ?_⟩
    · exact Eq.symm (sTall_box _ _ _ _ ⟨4, by decide⟩ ⟨6, by decide⟩ ![128, 768] inb_S1024x1024_S32x128_128_768 rfl x)
    refine ⟨fun x => ?_, ?_⟩
    · exact Eq.symm (sTall_box _ _ _ _ ⟨3, by decide⟩ ⟨6, by decide⟩ ![96, 768] inb_S1024x1024_S32x128_96_768 rfl x)
    refine ⟨fun x => ?_, ?_⟩
    · exact Eq.symm (sTall_box _ _ _ _ ⟨2, by decide⟩ ⟨6, by decide⟩ ![64, 768] inb_S1024x1024_S32x128_64_768 rfl x)
    refine ⟨fun x => ?_, ?_⟩
    · exact Eq.symm (sTall_box _ _ _ _ ⟨1, by decide⟩ ⟨6, by decide⟩ ![32, 768] inb_S1024x1024_S32x128_32_768 rfl x)
    refine ⟨fun x => ?_, ?_⟩
    · exact Eq.symm (sTall_box _ _ _ _ ⟨0, by decide⟩ ⟨6, by decide⟩ ![0, 768] inb_S1024x1024_S32x128_0_768 rfl x)
    refine ⟨fun x => ?_, ?_⟩
    · exact Eq.symm (sTall_box _ _ _ _ ⟨7, by decide⟩ ⟨5, by decide⟩ ![224, 640] inb_S1024x1024_S32x128_224_640 rfl x)
    refine ⟨fun x => ?_, ?_⟩
    · exact Eq.symm (sTall_box _ _ _ _ ⟨6, by decide⟩ ⟨5, by decide⟩ ![192, 640] inb_S1024x1024_S32x128_192_640 rfl x)
    refine ⟨fun x => ?_, ?_⟩
    · exact Eq.symm (sTall_box _ _ _ _ ⟨5, by decide⟩ ⟨5, by decide⟩ ![160, 640] inb_S1024x1024_S32x128_160_640 rfl x)
    refine ⟨fun x => ?_, ?_⟩
    · exact Eq.symm (sTall_box _ _ _ _ ⟨4, by decide⟩ ⟨5, by decide⟩ ![128, 640] inb_S1024x1024_S32x128_128_640 rfl x)
    refine ⟨fun x => ?_, ?_⟩
    · exact Eq.symm (sTall_box _ _ _ _ ⟨3, by decide⟩ ⟨5, by decide⟩ ![96, 640] inb_S1024x1024_S32x128_96_640 rfl x)
    refine ⟨fun x => ?_, ?_⟩
    · exact Eq.symm (sTall_box _ _ _ _ ⟨2, by decide⟩ ⟨5, by decide⟩ ![64, 640] inb_S1024x1024_S32x128_64_640 rfl x)
    refine ⟨fun x => ?_, ?_⟩
    · exact Eq.symm (sTall_box _ _ _ _ ⟨1, by decide⟩ ⟨5, by decide⟩ ![32, 640] inb_S1024x1024_S32x128_32_640 rfl x)
    refine ⟨fun x => ?_, ?_⟩
    · exact Eq.symm (sTall_box _ _ _ _ ⟨0, by decide⟩ ⟨5, by decide⟩ ![0, 640] inb_S1024x1024_S32x128_0_640 rfl x)
    refine ⟨fun x => ?_, ?_⟩
    · exact Eq.symm (sTall_box _ _ _ _ ⟨7, by decide⟩ ⟨4, by decide⟩ ![224, 512] inb_S1024x1024_S32x128_224_512 rfl x)
    refine ⟨fun x => ?_, ?_⟩
    · exact Eq.symm (sTall_box _ _ _ _ ⟨6, by decide⟩ ⟨4, by decide⟩ ![192, 512] inb_S1024x1024_S32x128_192_512 rfl x)
    refine ⟨fun x => ?_, ?_⟩
    · exact Eq.symm (sTall_box _ _ _ _ ⟨5, by decide⟩ ⟨4, by decide⟩ ![160, 512] inb_S1024x1024_S32x128_160_512 rfl x)
    refine ⟨fun x => ?_, ?_⟩
    · exact Eq.symm (sTall_box _ _ _ _ ⟨4, by decide⟩ ⟨4, by decide⟩ ![128, 512] inb_S1024x1024_S32x128_128_512 rfl x)
    refine ⟨fun x => ?_, ?_⟩
    · exact Eq.symm (sTall_box _ _ _ _ ⟨3, by decide⟩ ⟨4, by decide⟩ ![96, 512] inb_S1024x1024_S32x128_96_512 rfl x)
    refine ⟨fun x => ?_, ?_⟩
    · exact Eq.symm (sTall_box _ _ _ _ ⟨2, by decide⟩ ⟨4, by decide⟩ ![64, 512] inb_S1024x1024_S32x128_64_512 rfl x)
    refine ⟨fun x => ?_, ?_⟩
    · exact Eq.symm (sTall_box _ _ _ _ ⟨1, by decide⟩ ⟨4, by decide⟩ ![32, 512] inb_S1024x1024_S32x128_32_512 rfl x)
    refine ⟨fun x => ?_, ?_⟩
    · exact Eq.symm (sTall_box _ _ _ _ ⟨0, by decide⟩ ⟨4, by decide⟩ ![0, 512] inb_S1024x1024_S32x128_0_512 rfl x)
    refine ⟨fun x => ?_, ?_⟩
    · exact Eq.symm (sTall_box _ _ _ _ ⟨7, by decide⟩ ⟨3, by decide⟩ ![224, 384] inb_S1024x1024_S32x128_224_384 rfl x)
    refine ⟨fun x => ?_, ?_⟩
    · exact Eq.symm (sTall_box _ _ _ _ ⟨6, by decide⟩ ⟨3, by decide⟩ ![192, 384] inb_S1024x1024_S32x128_192_384 rfl x)
    refine ⟨fun x => ?_, ?_⟩
    · exact Eq.symm (sTall_box _ _ _ _ ⟨5, by decide⟩ ⟨3, by decide⟩ ![160, 384] inb_S1024x1024_S32x128_160_384 rfl x)
    refine ⟨fun x => ?_, ?_⟩
    · exact Eq.symm (sTall_box _ _ _ _ ⟨4, by decide⟩ ⟨3, by decide⟩ ![128, 384] inb_S1024x1024_S32x128_128_384 rfl x)
    refine ⟨fun x => ?_, ?_⟩
    · exact Eq.symm (sTall_box _ _ _ _ ⟨3, by decide⟩ ⟨3, by decide⟩ ![96, 384] inb_S1024x1024_S32x128_96_384 rfl x)
    refine ⟨fun x => ?_, ?_⟩
    · exact Eq.symm (sTall_box _ _ _ _ ⟨2, by decide⟩ ⟨3, by decide⟩ ![64, 384] inb_S1024x1024_S32x128_64_384 rfl x)
    refine ⟨fun x => ?_, ?_⟩
    · exact Eq.symm (sTall_box _ _ _ _ ⟨1, by decide⟩ ⟨3, by decide⟩ ![32, 384] inb_S1024x1024_S32x128_32_384 rfl x)
    refine ⟨fun x => ?_, ?_⟩
    · exact Eq.symm (sTall_box _ _ _ _ ⟨0, by decide⟩ ⟨3, by decide⟩ ![0, 384] inb_S1024x1024_S32x128_0_384 rfl x)
    refine ⟨fun x => ?_, ?_⟩
    · exact Eq.symm (sTall_box _ _ _ _ ⟨7, by decide⟩ ⟨2, by decide⟩ ![224, 256] inb_S1024x1024_S32x128_224_256 rfl x)
    refine ⟨fun x => ?_, ?_⟩
    · exact Eq.symm (sTall_box _ _ _ _ ⟨6, by decide⟩ ⟨2, by decide⟩ ![192, 256] inb_S1024x1024_S32x128_192_256 rfl x)
    refine ⟨fun x => ?_, ?_⟩
    · exact Eq.symm (sTall_box _ _ _ _ ⟨5, by decide⟩ ⟨2, by decide⟩ ![160, 256] inb_S1024x1024_S32x128_160_256 rfl x)
    refine ⟨fun x => ?_, ?_⟩
    · exact Eq.symm (sTall_box _ _ _ _ ⟨4, by decide⟩ ⟨2, by decide⟩ ![128, 256] inb_S1024x1024_S32x128_128_256 rfl x)
    refine ⟨fun x => ?_, ?_⟩
    · exact Eq.symm (sTall_box _ _ _ _ ⟨3, by decide⟩ ⟨2, by decide⟩ ![96, 256] inb_S1024x1024_S32x128_96_256 rfl x)
    refine ⟨fun x => ?_, ?_⟩
    · exact Eq.symm (sTall_box _ _ _ _ ⟨2, by decide⟩ ⟨2, by decide⟩ ![64, 256] inb_S1024x1024_S32x128_64_256 rfl x)
    refine ⟨fun x => ?_, ?_⟩
    · exact Eq.symm (sTall_box _ _ _ _ ⟨1, by decide⟩ ⟨2, by decide⟩ ![32, 256] inb_S1024x1024_S32x128_32_256 rfl x)
    refine ⟨fun x => ?_, ?_⟩
    · exact Eq.symm (sTall_box _ _ _ _ ⟨0, by decide⟩ ⟨2, by decide⟩ ![0, 256] inb_S1024x1024_S32x128_0_256 rfl x)
    refine ⟨fun x => ?_, ?_⟩
    · exact Eq.symm (sTall_box _ _ _ _ ⟨7, by decide⟩ ⟨1, by decide⟩ ![224, 128] inb_S1024x1024_S32x128_224_128 rfl x)
    refine ⟨fun x => ?_, ?_⟩
    · exact Eq.symm (sTall_box _ _ _ _ ⟨6, by decide⟩ ⟨1, by decide⟩ ![192, 128] inb_S1024x1024_S32x128_192_128 rfl x)
    refine ⟨fun x => ?_, ?_⟩
    · exact Eq.symm (sTall_box _ _ _ _ ⟨5, by decide⟩ ⟨1, by decide⟩ ![160, 128] inb_S1024x1024_S32x128_160_128 rfl x)
    refine ⟨fun x => ?_, ?_⟩
    · exact Eq.symm (sTall_box _ _ _ _ ⟨4, by decide⟩ ⟨1, by decide⟩ ![128, 128] inb_S1024x1024_S32x128_128_128 rfl x)
    refine ⟨fun x => ?_, ?_⟩
    · exact Eq.symm (sTall_box _ _ _ _ ⟨3, by decide⟩ ⟨1, by decide⟩ ![96, 128] inb_S1024x1024_S32x128_96_128 rfl x)
    refine ⟨fun x => ?_, ?_⟩
    · exact Eq.symm (sTall_box _ _ _ _ ⟨2, by decide⟩ ⟨1, by decide⟩ ![64, 128] inb_S1024x1024_S32x128_64_128 rfl x)
    refine ⟨fun x => ?_, ?_⟩
    · exact Eq.symm (sTall_box _ _ _ _ ⟨1, by decide⟩ ⟨1, by decide⟩ ![32, 128] inb_S1024x1024_S32x128_32_128 rfl x)
    refine ⟨fun x => ?_, ?_⟩
    · exact Eq.symm (sTall_box _ _ _ _ ⟨0, by decide⟩ ⟨1, by decide⟩ ![0, 128] inb_S1024x1024_S32x128_0_128 rfl x)
    refine ⟨fun x => ?_, ?_⟩
    · exact Eq.symm (sTall_box _ _ _ _ ⟨7, by decide⟩ ⟨0, by decide⟩ ![224, 0] inb_S1024x1024_S32x128_224_0 rfl x)
    refine ⟨fun x => ?_, ?_⟩
    · exact Eq.symm (sTall_box _ _ _ _ ⟨6, by decide⟩ ⟨0, by decide⟩ ![192, 0] inb_S1024x1024_S32x128_192_0 rfl x)
    refine ⟨fun x => ?_, ?_⟩
    · exact Eq.symm (sTall_box _ _ _ _ ⟨5, by decide⟩ ⟨0, by decide⟩ ![160, 0] inb_S1024x1024_S32x128_160_0 rfl x)
    refine ⟨fun x => ?_, ?_⟩
    · exact Eq.symm (sTall_box _ _ _ _ ⟨4, by decide⟩ ⟨0, by decide⟩ ![128, 0] inb_S1024x1024_S32x128_128_0 rfl x)
    refine ⟨fun x => ?_, ?_⟩
    · exact Eq.symm (sTall_box _ _ _ _ ⟨3, by decide⟩ ⟨0, by decide⟩ ![96, 0] inb_S1024x1024_S32x128_96_0 rfl x)
    refine ⟨fun x => ?_, ?_⟩
    · exact Eq.symm (sTall_box _ _ _ _ ⟨2, by decide⟩ ⟨0, by decide⟩ ![64, 0] inb_S1024x1024_S32x128_64_0 rfl x)
    refine ⟨fun x => ?_, ?_⟩
    · exact Eq.symm (sTall_box _ _ _ _ ⟨1, by decide⟩ ⟨0, by decide⟩ ![32, 0] inb_S1024x1024_S32x128_32_0 rfl x)
    refine ⟨fun x => ?_, ?_⟩
    · exact Eq.symm (sTall_box _ _ _ _ ⟨0, by decide⟩ ⟨0, by decide⟩ ![0, 0] inb_S1024x1024_S32x128_0_0 rfl x)
    exact trivial
  isplitl [H12]
  · iexists _; isplitr; swap; · iexact H12
    ipureintro; refine (View.read_writes_full _ _ _ _ _).trans ?_
    unfold run_B.sl.r_2; rw [load_all, load_all, load_all, load_col _ _ 1024 (by omega)]; rfl
  iexists _; iexists _; isplitr; swap; · iexact H13
  ipureintro; rfl

end Cert.GmlpIdeal.Body

end
-- ==== Proof.GmlpBody.lean ====
module

public import proofs.«01_k».proof.Proof.GmlpRunA
public import proofs.«01_k».proof.Proof.GmlpRunB
public import Idealize.ShloMosaic.Lib.Claim

@[expose] public section

set_option maxRecDepth 16384

noncomputable section

namespace Cert.GmlpIdeal.Body

open Cert.GmlpIdeal Cert.GmlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem tile_iff : ∀ t : Fin cfg0.N, Tile (grid0.coords t) ↔ t.val < 16 :=
  (by decide +kernel : ∀ t : Fin grid0.N, Tile (grid0.coords t) ↔ t.val < 16)
theorem sample_iff : ∀ t : Fin cfg0.N, Sample (grid0.coords t) ↔ t.val = 16 :=
  (by decide +kernel : ∀ t : Fin grid0.N, Sample (grid0.coords t) ↔ t.val = 16)

theorem idle_10 : ∀ t : Fin cfg0.N, cfg0.idle 10 (grid0.coords t) = !decide (t.val < 16) :=
  (by decide +kernel : ∀ t : Fin grid0.N, idle0 10 (grid0.coords t) = !decide (t.val < 16))
theorem flush_10 : ∀ t : Fin cfg0.N, (cfg0.win 10).flush t = decide (t.val ≠ 15) :=
  (by decide +kernel : ∀ t : Fin grid0.N, win0_10.flush t = decide (t.val ≠ 15))
theorem idle_11 : ∀ t : Fin cfg0.N, cfg0.idle 11 (grid0.coords t) = !decide (t.val = 16) :=
  (by decide +kernel : ∀ t : Fin grid0.N, idle0 11 (grid0.coords t) = !decide (t.val = 16))
theorem flush_11 : ∀ t : Fin cfg0.N, (cfg0.win 11).flush t = decide (t.val = 16) :=
  (by decide +kernel : ∀ t : Fin grid0.N, win0_11.flush t = decide (t.val = 16))
theorem idle_12 : ∀ t : Fin cfg0.N, cfg0.idle 12 (grid0.coords t) = !decide (t.val = 16) :=
  (by decide +kernel : ∀ t : Fin grid0.N, idle0 12 (grid0.coords t) = !decide (t.val = 16))
theorem flush_12 : ∀ t : Fin cfg0.N, (cfg0.win 12).flush t = decide (t.val = 16) :=
  (by decide +kernel : ∀ t : Fin grid0.N, win0_12.flush t = decide (t.val = 16))

/-- The point whose tile the prompt's buffers hold after point `t`: its own, and the last tile's after the sample's point. -/
def tileOf (t : Fin cfg0.N) : Fin cfg0.N := ⟨min t.val 15, lt_of_le_of_lt (Nat.min_le_left _ _) t.isLt⟩

theorem tileOf_tile (t : Fin cfg0.N) (h : t.val < 16) : tileOf t = t := Fin.ext (by show min t.val 15 = t.val; omega)

/-! ## The proof data -/

/-- What each window's buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yBlk (iblk m c 0 (tileOf t)) (iblk m c 2 (tileOf t)) (iblk m c 3 (tileOf t)) (iblk m c 4 (tileOf t)) (iblk m c 5 (tileOf t)) (iblk m c 6 (tileOf t)) (iblk m c 9 (tileOf t))
    | ⟨11, _⟩ => yRow (iblk m c 1 t) (iblk m c 2 t) (iblk m c 3 t) (iblk m c 4 t) (iblk m c 7 t) (iblk m c 8 t) (iblk m c 9 t)
    | ⟨12, _⟩ => sV (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = yBlk (iblk m c 0 (tileOf t)) (iblk m c 2 (tileOf t)) (iblk m c 3 (tileOf t)) (iblk m c 4 (tileOf t)) (iblk m c 5 (tileOf t)) (iblk m c 6 (tileOf t)) (iblk m c 9 (tileOf t)) := by dsimp only [dats]
theorem after_11 (c : Dev nD) (t : Fin cfg0.N) : (dats m 0 c).after 11 t = yRow (iblk m c 1 t) (iblk m c 2 t) (iblk m c 3 t) (iblk m c 4 t) (iblk m c 7 t) (iblk m c 8 t) (iblk m c 9 t) := by dsimp only [dats]
theorem after_12 (c : Dev nD) (t : Fin cfg0.N) : (dats m 0 c).after 12 t = sV (iblk m c 1 t) (iblk m c 2 t) (iblk m c 3 t) (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- At the sample's point a buffer of the prompt holds what the point before left, for a window whose blocks are whole. -/
theorem before_sample (c : Dev nD) (w : Fin cfg0.W) (hw : (cfg0.win w).isOut = true) (t : Fin cfg0.N) (ht : t.val = 16)
    (hi : cfg0.idle w (grid0.coords ⟨t.val - 1, Nat.lt_of_le_of_lt (Nat.sub_le _ _) t.isLt⟩) = false)
    (hf : (cfg0.win w).flush ⟨t.val - 1, Nat.lt_of_le_of_lt (Nat.sub_le _ _) t.isLt⟩ = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t (by omega) ((cfg0.win w).fetch_out hw t), hf, if_neg Bool.false_ne_true]
  unfold Dat.left; rw [hi]; dsimp only
  unfold Dat.kept
  rw [Pipeline.fill_of_clip_none w _ (hclip _) d ((dats m 0 c).after w _), Window.fill_cut]

theorem before_10_C (c : Dev nD) (t : Fin cfg0.N) (ht : t.val = 16) (d) : (dats m 0 c).before 10 t d = (dats m 0 c).after 10 t := by
  refine (before_sample m c 10 rfl t ht (by rw [idle_10]; simp [ht]) (by rw [flush_10]; simp [ht]) (fun _ _ => rfl) d).trans ?_
  rw [after_10, after_10, show tileOf ⟨t.val - 1, Nat.lt_of_le_of_lt (Nat.sub_le _ _) t.isLt⟩ = tileOf t from by unfold tileOf; refine Fin.ext ?_; dsimp only; omega]

/-- A live point, or one that writes back, leaves `after` in the buffer. -/
theorem leaves_after (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-- The scratch, at some contents, beside the generator's register. -/
theorem scratch_owned (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-! ## The body at a point -/

def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
theorem sound_A (c : Dev nD) (t : Fin cfg0.N) (h0 : t.val < 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, scratch_owned]
  rw [leaves_after m c 0 t (.inl rfl), after_0]
  rw [leaves_after m c 1 t (.inl rfl), after_1]
  rw [leaves_after m c 2 t (.inl rfl), after_2]
  rw [leaves_after m c 3 t (.inl rfl), after_3]
  rw [leaves_after m c 4 t (.inl rfl), after_4]
  rw [leaves_after m c 5 t (.inl rfl), after_5]
  rw [leaves_after m c 6 t (.inl rfl), after_6]
  rw [leaves_after m c 7 t (.inl rfl), after_7]
  rw [leaves_after m c 8 t (.inl rfl), after_8]
  rw [leaves_after m c 9 t (.inl rfl), after_9]
  rw [leaves_after m c 10 t (.inl (by rw [idle_10]; simp; omega)), after_10]
  rw [Dat.leavesExact_idle _ 11 t (show cfg0.idle 11 (grid0.coords t) = true by rw [idle_11]; simp; omega) (by rw [flush_11]; simp; omega)]
  rw [Dat.leavesExact_idle _ 12 t (show cfg0.idle 12 (grid0.coords t) = true by rw [idle_12]; simp; omega) (by rw [flush_12]; simp; omega)]
  rw [tileOf_tile t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_A c (grid0.coords t) _ _ _ _ _ _ _ _ _ _ _ _ _ _ _ _ _ _ _ _ _ _ _ _ _ _ _ _ ((tile_iff t).mpr h0) (fun h => absurd ((sample_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

set_option maxHeartbeats 4000000 in
theorem sound_C (c : Dev nD) (t : Fin cfg0.N) (h2 : t.val = 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, scratch_owned]
  rw [leaves_after m c 0 t (.inl rfl), after_0]
  rw [leaves_after m c 1 t (.inl rfl), after_1]
  rw [leaves_after m c 2 t (.inl rfl), after_2]
  rw [leaves_after m c 3 t (.inl rfl), after_3]
  rw [leaves_after m c 4 t (.inl rfl), after_4]
  rw [leaves_after m c 5 t (.inl rfl), after_5]
  rw [leaves_after m c 6 t (.inl rfl), after_6]
  rw [leaves_after m c 7 t (.inl rfl), after_7]
  rw [leaves_after m c 8 t (.inl rfl), after_8]
  rw [leaves_after m c 9 t (.inl rfl), after_9]
  rw [leaves_after m c 10 t (.inr (by rw [flush_10]; simp; omega))]; simp only [before_10_C m c t h2]
  rw [leaves_after m c 11 t (.inl (by rw [idle_11]; simp; omega)), after_11]
  rw [leaves_after m c 12 t (.inl (by rw [idle_12]; simp; omega)), after_12]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_B c (grid0.coords t) _ _ _ _ _ _ _ _ _ _ _ _ _ _ _ _ _ _ _ _ _ _ _ _ _ _ _ _ (fun h => absurd ((tile_iff t).mp h) (by omega)) ((sample_iff t).mpr h2) (iblk m c 0 t) (iblk m c 1 t) (iblk m c 2 t) (iblk m c 3 t) (iblk m c 4 t) (iblk m c 5 t) (iblk m c 6 t) (iblk m c 7 t) (iblk m c 8 t) (iblk m c 9 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  have hN : t.val < 17 := lt_of_lt_of_eq t.isLt (show cfg0.N = 17 from N_0)
  by_cases h0 : t.val < 16
  · exact sound_A m c t h0
  · exact sound_C m c t (by omega)

theorem row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every run ends with the arrays at what the proof data says and with every semaphore's counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they were launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.GmlpIdeal.Body

end
-- ==== Proof.GmlpMath.lean ====
module

public import proofs.«01_k».proof.Proof.FfnMath

@[expose] public section

noncomputable section

namespace Cert.GmlpMath

open Idealize.ShloMosaic Cert.FfnMath

/-- The arguments of the mixer, each read by its coordinates: the prompt, the sample, the two gains, the input projection, the mixing
    weights with their mask applied, the bias and the output projection. -/
structure Args where
  X : Fin 2 → Fin 8192 → Fin 1024 → EReal
  S : Fin 256 → Fin 1024 → EReal
  G : Fin 1024 → EReal
  W : Fin 1024 → Fin 2048 → EReal
  VG : Fin 1024 → EReal
  M : Fin 16 → Fin 128 → Fin 128 → EReal
  B : Fin 16 → Fin 128 → EReal
  WO : Fin 1024 → Fin 1024 → EReal

/-- The activation. -/
def gelu (z : EReal) : EReal :=
  Ideal.ofBits FTy.f32 0x3F000000#32 * z * (1 + Ideal.erf (z * Ideal.ofBits FTy.f32 0x3F3504F3#32))

/-- The input projection's columns from `o`. -/
abbrev at_ (o : ℕ) (ho : o ≤ 1024) (k : Fin 1024) : Fin 2048 := ⟨o + k.val, by omega⟩

/-- The half from column `o` of a row's input projection through the activation, -/
def half (x g : Fin 1024 → EReal) (w : Fin 1024 → Fin 2048 → EReal) (o : ℕ) (ho : o ≤ 1024) (k : Fin 1024) : EReal := gelu (∑ i, rms x g i * w i (at_ o ho k))

/-- and its second half normed. -/
def gate (x g : Fin 1024 → EReal) (w : Fin 1024 → Fin 2048 → EReal) (vg : Fin 1024 → EReal) (k : Fin 1024) : EReal := rms (half x g w 1024 (by omega)) vg k

/-- The group of a column. -/
abbrev grp (c : Fin 1024) : Fin 16 := ⟨c.val / 64, by omega⟩

/-- The gate of a chunk of `n` rows mixed along the rows. -/
def mixed {n : ℕ} (V : Fin n → Fin 1024 → EReal) (M : Fin 16 → Fin n → Fin n → EReal) (B : Fin 16 → Fin n → EReal) (i : Fin n) (c : Fin 1024) : EReal :=
  (∑ q, M (grp c) i q * V q c) + B (grp c) i

/-- The result at a row. -/
def out (x u mx : Fin 1024 → EReal) (wo : Fin 1024 → Fin 1024 → EReal) (k : Fin 1024) : EReal := x k + ∑ c, u c * mx c * wo c k

/-- A pair of groups and the side of it. -/
abbrev pairOf (g : Fin 16) : Fin 8 := ⟨g.val / 2, by omega⟩

/-- Two stacked operands of which the second's rows are zero outside one side of a pair: the sum is the side's. -/
theorem sum_side {n : ℕ} (f g : Fin n → EReal) (a b : Fin n → EReal) (P : Prop) [Decidable P] :
    (∑ q, f q * (if P then a q else 0)) + (∑ q, g q * (if P then 0 else b q)) = if P then ∑ q, f q * a q else ∑ q, g q * b q := by
  by_cases h : P
  · simp only [if_pos h, mul_zero, Finset.sum_const_zero, add_zero]
  · simp only [if_neg h, mul_zero, Finset.sum_const_zero, zero_add]

/-- A row of the chunk that row `r` lies in, and the place of `r` in it: in a tile, -/
def tChunk (r : Fin 1024) (q : Fin 128) : Fin 1024 := ⟨128 * (r.val / 128) + q.val, by omega⟩
def tPlace (r : Fin 1024) : Fin 128 := ⟨r.val % 128, by omega⟩
/-- in the sample, -/
def sChunk (r : Fin 256) (q : Fin 32) : Fin 256 := ⟨32 * (r.val / 32) + q.val, by omega⟩
def sPlace (r : Fin 256) : Fin 32 := ⟨r.val % 32, by omega⟩
/-- and in the prompt. -/
def chunk (t : Fin 8192) (q : Fin 128) : Fin 8192 := ⟨128 * (t.val / 128) + q.val, by omega⟩
def place (t : Fin 8192) : Fin 128 := ⟨t.val % 128, by omega⟩

variable (P : Args)

/-- The mixing weights and the bias of a chunk of the sample. -/
def sM (g : Fin 16) (i q : Fin 32) : EReal := P.M g ⟨i.val, by omega⟩ ⟨q.val, by omega⟩
def sB (g : Fin 16) (i : Fin 32) : EReal := P.B g ⟨i.val, by omega⟩

/-- The results: the prompt's rows, -/
def yp (b : Fin 2) (t : Fin 8192) (k : Fin 1024) : EReal :=
  out (P.X b t) (half (P.X b t) P.G P.W 0 (by omega)) (mixed (fun q => gate (P.X b (chunk t q)) P.G P.W P.VG) P.M P.B (place t)) P.WO k
/-- the sample's rows, -/
def ys (r : Fin 256) (k : Fin 1024) : EReal :=
  out (P.S r) (half (P.S r) P.G P.W 0 (by omega)) (mixed (fun q => gate (P.S (sChunk r q)) P.G P.W P.VG) (sM P) (sB P) (sPlace r)) P.WO k
/-- and the sample's gate. -/
def vs (r : Fin 256) (k : Fin 1024) : EReal := gate (P.S r) P.G P.W P.VG k

end Cert.GmlpMath
end
-- ==== Proof.GmlpTile.lean ====
module

public import proofs.«01_k».proof.Proof.GmlpBody
public import proofs.«01_k».proof.Proof.GmlpMath

@[expose] public section

set_option maxRecDepth 16384

noncomputable section

namespace Cert.GmlpIdeal.Body

open Cert.GmlpIdeal Cert.GmlpIdeal.Gen Idealize.ShloMosaic Idealize.ShloMosaic.TcCoe Idealize.SL.Sem Cert.FfnMath Cert.GmlpMath

variable {x : Vec Ideal S1x1024x1024 .f32} {s : Vec Ideal S256x1024 .f32} {g vg : Vec Ideal S1x1024 .f32} {w : Vec Ideal S1024x2048 .f32}
  {X G VG : Fin 1024 → EReal} {W : Fin 1024 → Fin 2048 → EReal}

theorem at_eq {n m : ℕ} {α : Type} (v : (⟨2, ![n, m]⟩ : Shape).Idx → α) {a c : Fin n} {b d : Fin m} (h0 : a.val = c.val) (h1 : b.val = d.val) : v (ix2 a b) = v (ix2 c d) := by
  obtain rfl := Fin.ext h0
  obtain rfl := Fin.ext h1
  rfl

theorem at_eq3 {n m l : ℕ} {α : Type} (v : (⟨3, ![n, m, l]⟩ : Shape).Idx → α) {a c : Fin n} {i : Fin m} {b d : Fin l} (h0 : a.val = c.val) (h1 : b.val = d.val) : v (ix3 a i b) = v (ix3 c i d) := by
  obtain rfl := Fin.ext h0
  obtain rfl := Fin.ext h1
  rfl

theorem wCol_at (o : ℕ) (ho : o ≤ 1024) (hw : ∀ i c, w (ix2 i c) = W i c) (i k : Fin 1024) : wCol o ho w (ix2 i k) = W i (at_ o ho k) := by
  rw [← hw]
  exact congrArg w (funext fun a => by fin_cases a <;> rfl)

theorem normed_at (r : Fin 1024) (hx : ∀ k, x (ix3 0 r k) = X k) (hg : ∀ k, g (ix2 0 k) = G k) (k : Fin 1024) : k0_pay3 x g (ix2 r k) = rms X G k := by
  pointwise [k0_pay3, k0_pay2]
  simp only [hx, hg, rms]

theorem row_normed_at (r : Fin 256) (hs : ∀ k, s (ix2 r k) = X k) (hg : ∀ k, g (ix2 0 k) = G k) (k : Fin 1024) : k0_pay99 s g (ix2 r k) = rms X G k := by
  pointwise [k0_pay99]
  simp only [hs, hg, rms]

theorem tU_at (r : Fin 1024) (hx : ∀ k, x (ix3 0 r k) = X k) (hg : ∀ k, g (ix2 0 k) = G k) (hw : ∀ i c, w (ix2 i c) = W i c) (k : Fin 1024) :
    tU x g w (ix2 r k) = half X G W 0 (by omega) k := by
  unfold tU
  pointwise [k0_pay7]
  simp only [normed_at r hx hg, wCol_at _ _ hw]
  rfl

theorem tV_at (r : Fin 1024) (hx : ∀ k, x (ix3 0 r k) = X k) (hg : ∀ k, g (ix2 0 k) = G k) (hw : ∀ i c, w (ix2 i c) = W i c) (hv : ∀ k, vg (ix2 0 k) = VG k)
    (k : Fin 1024) : tV x g w vg (ix2 r k) = gate X G W VG k := by
  unfold tV
  pointwise [k0_pay6, k0_pay4, k0_pay5]
  simp only [normed_at r hx hg, wCol_at _ _ hw, hv]
  rfl

theorem sU_at (r : Fin 256) (hs : ∀ k, s (ix2 r k) = X k) (hg : ∀ k, g (ix2 0 k) = G k) (hw : ∀ i c, w (ix2 i c) = W i c) (k : Fin 1024) :
    sU s g w (ix2 r k) = half X G W 0 (by omega) k := by
  unfold sU
  pointwise [k0_pay101]
  simp only [row_normed_at r hs hg, wCol_at _ _ hw]
  rfl

theorem sV_at (r : Fin 256) (hs : ∀ k, s (ix2 r k) = X k) (hg : ∀ k, g (ix2 0 k) = G k) (hw : ∀ i c, w (ix2 i c) = W i c) (hv : ∀ k, vg (ix2 0 k) = VG k)
    (k : Fin 1024) : sV s g w vg (ix2 r k) = gate X G W VG k := by
  unfold sV
  pointwise [k0_pay100]
  simp only [row_normed_at r hs hg, wCol_at _ _ hw, hv]
  rfl

/-! ## A tile -/

theorem t_lane_lt (i : Fin 128) (n : Fin 1024) : cmpi .slt k0_pay8 (broadcast S128x1024 64#32) (ix2 i n) = if n.val % 128 < 64 then 1#1 else 0#1 := by
  pointwise [k0_pay8]
  revert n
  decide +kernel

theorem t_lane_ge (i : Fin 128) (n : Fin 1024) : cmpi .sge k0_pay8 (broadcast S128x1024 64#32) (ix2 i n) = if n.val % 128 < 64 then 0#1 else 1#1 := by
  pointwise [k0_pay8]
  revert n
  decide +kernel

/-- The row and the column of the gate that a laid-out pair of groups holds. -/
def tRow (q : Fin 128) (n : Fin 1024) : Fin 1024 := ⟨128 * (n.val / 128) + q.val, by omega⟩
def tCl (p : Fin 8) (n : Fin 1024) : Fin 1024 := ⟨128 * p.val + n.val % 128, by omega⟩

theorem tCat_at (v : FVec Ideal S1024x1024 .f32) (p : Fin 8) (q : Fin 128) (n : Fin 1024) : tCat v p (ix2 q n) = v (ix2 (tRow q n) (tCl p n)) := by
  pointwise [tCat]
  split_ifs <;> exact at_eq v (by simp only [tRow]; omega) (by simp only [tCl]; omega)

/-- The operands of the mixing: the weights of a pair of groups, -/
def tWs (ws : Vec Ideal S8x128x256 .bf16) (p : Fin 8) : FVec Ideal S128x256 .bf16 :=
  shapeCast S128x256 (View.ld ws (Rect.unit (s := S8x128x256) ![p.val, 0, 0] S1x128x256.size (t_plane p))) shapeCasts_S1x128x256_S128x256

/-- and its two groups one above the other. -/
def tStack (C : FVec Ideal S128x1024 .f32) : FVec Ideal S256x1024 .bf16 :=
  truncf .bf16 (concatenate S256x1024 0
      [⟨S128x1024, select (cmpi .slt k0_pay8 (broadcast S128x1024 64#32)) C (k0_pay9 (F := Ideal))⟩,
        ⟨S128x1024, select (cmpi .sge k0_pay8 (broadcast S128x1024 64#32)) C (k0_pay9 (F := Ideal))⟩] concatenates_S128x1024_S128x1024_S256x1024_d0) bitsLt_bf16_f32

theorem t_flat_at (A : Vec Ideal S1x128x256 .bf16) (i : Fin 128) (k : Fin 256) : shapeCast S128x256 A shapeCasts_S1x128x256_S128x256 (ix2 i k) = A (ix3 0 i k) := by
  pointwise

theorem t_plane_at (ws : Vec Ideal S8x128x256 .bf16) (p : Fin 8) (i : Fin 128) (k : Fin 256) :
    View.ld ws (Rect.unit (s := S8x128x256) ![p.val, 0, 0] S1x128x256.size (t_plane p)) (ix3 0 i k) = ws (ix3 p i k) := by
  refine congrArg ws (funext fun a => Fin.ext ?_)
  fin_cases a
  · show p.val + 1 * 0 = p.val; omega
  · show 0 + 1 * i.val = i.val; omega
  · show 0 + 1 * k.val = k.val; omega

theorem tWs_at (ws : Vec Ideal S8x128x256 .bf16) (p : Fin 8) (i : Fin 128) (k : Fin 256) : tWs ws p (ix2 i k) = ws (ix3 p i k) := by
  unfold tWs
  exact (t_flat_at _ i k).trans (t_plane_at ws p i k)

theorem tStack_top (C : FVec Ideal S128x1024 .f32) (q : Fin 128) (n : Fin 1024) :
    tStack C (ix2 (⟨q.val, by omega⟩ : Fin 256) n) = if n.val % 128 < 64 then C (ix2 q n) else 0 := by
  unfold tStack
  generalize hc : cmpi .slt k0_pay8 (broadcast S128x1024 64#32) = a
  generalize cmpi .sge k0_pay8 (broadcast S128x1024 64#32) = b
  pointwise [k0_pay9]
  rw [← hc, t_lane_lt]
  by_cases h : n.val % 128 < 64
  · rw [if_pos h, if_pos h]; rfl
  · rw [if_neg h, if_neg h]; rfl

theorem tStack_low (C : FVec Ideal S128x1024 .f32) (q : Fin 128) (n : Fin 1024) :
    tStack C (ix2 (⟨128 + q.val, by omega⟩ : Fin 256) n) = if n.val % 128 < 64 then 0 else C (ix2 q n) := by
  unfold tStack
  generalize cmpi .slt k0_pay8 (broadcast S128x1024 64#32) = a
  generalize hc : cmpi .sge k0_pay8 (broadcast S128x1024 64#32) = b
  pointwise [k0_pay9]
  rw [← hc, t_lane_ge]
  by_cases h : n.val % 128 < 64
  · rw [if_pos h, if_pos h]; rfl
  · rw [if_neg h, if_neg h]; rfl

theorem tMix_sum (v : FVec Ideal S1024x1024 .f32) (ws : Vec Ideal S8x128x256 .bf16) (p : Fin 8) (i : Fin 128) (n : Fin 1024) :
    tMix v ws p (ix2 i n) = ∑ k : Fin 256, tWs ws p (ix2 i k) * tStack (tCat v p) (ix2 k n) := by
  show matmul dot_S128x256_S256x1024_S128x1024_1_0_0_1_n_n none (tWs ws p) (tStack (tCat v p)) (constant S128x1024 .f32 0x00000000#32) (ix2 i n) = _
  generalize tWs ws p = A
  generalize tStack (tCat v p) = C
  pointwise

theorem tMix_at (v : FVec Ideal S1024x1024 .f32) (ws : Vec Ideal S8x128x256 .bf16) (p : Fin 8) (i : Fin 128) (n : Fin 1024) :
    tMix v ws p (ix2 i n) = if n.val % 128 < 64 then ∑ q : Fin 128, ws (ix3 p i (⟨q.val, by omega⟩ : Fin 256)) * v (ix2 (tRow q n) (tCl p n))
      else ∑ q : Fin 128, ws (ix3 p i (⟨128 + q.val, by omega⟩ : Fin 256)) * v (ix2 (tRow q n) (tCl p n)) := by
  rw [tMix_sum, ← sum_side]
  refine (Fin.sum_univ_add (a := 128) (b := 128) _).trans ?_
  refine congrArg₂ (· + ·) (Finset.sum_congr rfl fun q _ => ?_) (Finset.sum_congr rfl fun q _ => ?_)
  · exact congrArg₂ (· * ·) (tWs_at ws p i _) ((tStack_top _ q n).trans (by rw [tCat_at]))
  · exact congrArg₂ (· * ·) (tWs_at ws p i _) ((tStack_low _ q n).trans (by rw [tCat_at]))

/-- A gated entry: the entry of `u` times the mixed gate and its bias. -/
theorem tPiece_sum (u v : FVec Ideal S1024x1024 .f32) (ws : Vec Ideal S8x128x256 .bf16) (bs : Vec Ideal S128x1024 .f32) (r p : Fin 8) (i : Fin 128) (j : Fin 128) :
    tPiece u v ws bs r p (ix2 i j) = u (ix2 (⟨128 * r.val + i.val, by omega⟩ : Fin 1024) (⟨128 * p.val + j.val, by omega⟩ : Fin 1024))
      * (tMix v ws p (ix2 i (⟨128 * r.val + j.val, by omega⟩ : Fin 1024)) + bs (ix2 i (⟨128 * p.val + j.val, by omega⟩ : Fin 1024))) := by
  unfold tPiece
  generalize tMix v ws p = A
  generalize hC : (View.ld bs (Rect.unit (s := S128x1024) ![0, 128 * p.val] S128x128.size (t_bias p)) : Vec Ideal S128x128 .f32) = C
  have hc : C (ix2 i j) = bs (ix2 i (⟨128 * p.val + j.val, by omega⟩ : Fin 1024)) := by
    subst hC
    refine congrArg bs (funext fun a => Fin.ext ?_)
    fin_cases a
    · show 0 + 1 * i.val = i.val; omega
    · show 128 * p.val + 1 * j.val = 128 * p.val + j.val; omega
  pointwise
  rw [hc]

theorem tGated_val {u v : FVec Ideal S1024x1024 .f32} {ws : Vec Ideal S8x128x256 .bf16} {bs : Vec Ideal S128x1024 .f32} {U V : Fin 1024 → Fin 1024 → EReal}
    {M : Fin 16 → Fin 128 → Fin 128 → EReal} {Bf : Fin 16 → Fin 128 → EReal}
    (hu : ∀ r k, u (ix2 r k) = U r k) (hv : ∀ r k, v (ix2 r k) = V r k)
    (hw : ∀ (g : Fin 16) (i q : Fin 128), ws (ix3 (pairOf g) i (⟨128 * (g.val % 2) + q.val, by omega⟩ : Fin 256)) = M g i q)
    (hb : ∀ i c, bs (ix2 i c) = Bf (grp c) i) (r : Fin 1024) (c : Fin 1024) :
    tGated u v ws bs (ix2 r c) = U r c * mixed (fun q => V (tChunk r q)) M Bf (tPlace r) c := by
  have hr := r.isLt
  have hc := c.isLt
  have e : tGated u v ws bs (ix2 r c) = tPiece u v ws bs (⟨r.val / 128, by omega⟩ : Fin 8) (⟨c.val / 128, by omega⟩ : Fin 8) (ix2 (tPlace r) (⟨c.val % 128, by omega⟩ : Fin 128)) :=
    tGated_at u v ws bs _ _ _ _ (show r.val = 128 * (r.val / 128) + r.val % 128 by omega) (show c.val = 128 * (c.val / 128) + c.val % 128 by omega)
  rw [e, tPiece_sum, tMix_at, ← hu]
  have hm : (128 * (r.val / 128) + c.val % 128) % 128 = c.val % 128 := by omega
  have hB : bs (ix2 (tPlace r) (⟨128 * (c.val / 128) + c.val % 128, by omega⟩ : Fin 1024)) = Bf (grp c) (tPlace r) :=
    (at_eq bs rfl (show 128 * (c.val / 128) + c.val % 128 = c.val by omega)).trans (hb _ _)
  have hV : ∀ q : Fin 128, v (ix2 (tRow q (⟨128 * (r.val / 128) + c.val % 128, by omega⟩ : Fin 1024)) (tCl (⟨c.val / 128, by omega⟩ : Fin 8) (⟨128 * (r.val / 128) + c.val % 128, by omega⟩ : Fin 1024))) = V (tChunk r q) c := fun q =>
    (at_eq v (by simp only [tRow, tChunk]; omega) (by simp only [tCl]; omega)).trans (hv _ _)
  refine congrArg₂ (· * ·) (at_eq u (by simp only [tPlace]; omega) (by show 128 * (c.val / 128) + c.val % 128 = c.val; omega)) ?_
  unfold mixed
  rw [hB]
  refine congrArg (· + _) ?_
  by_cases h : c.val % 128 < 64
  · rw [if_pos (by show (128 * (r.val / 128) + c.val % 128) % 128 < 64; omega)]
    refine Finset.sum_congr rfl fun q _ => ?_
    rw [hV]
    refine congrArg (· * _) ?_
    exact (at_eq3 ws (show c.val / 128 = c.val / 64 / 2 by omega) (show q.val = 128 * (c.val / 64 % 2) + q.val by omega)).trans (hw (grp c) (tPlace r) q)
  · rw [if_neg (by show ¬ (128 * (r.val / 128) + c.val % 128) % 128 < 64; omega)]
    refine Finset.sum_congr rfl fun q _ => ?_
    rw [hV]
    refine congrArg (· * _) ?_
    exact (at_eq3 ws (show c.val / 128 = c.val / 64 / 2 by omega) (show 128 + q.val = 128 * (c.val / 64 % 2) + q.val by omega)).trans (hw (grp c) (tPlace r) q)

/-! ## The sample -/

theorem s_lane_lt (i : Fin 32) (n : Fin 1024) : cmpi .slt k0_pay102 (broadcast S32x1024 64#32) (ix2 i n) = if n.val % 128 < 64 then 1#1 else 0#1 := by
  pointwise [k0_pay102]
  revert n
  decide +kernel

theorem s_lane_ge (i : Fin 32) (n : Fin 1024) : cmpi .sge k0_pay102 (broadcast S32x1024 64#32) (ix2 i n) = if n.val % 128 < 64 then 0#1 else 1#1 := by
  pointwise [k0_pay102]
  revert n
  decide +kernel

/-- The row and the column of the gate that a laid-out pair of groups holds. -/
def sRow (q : Fin 32) (n : Fin 1024) : Fin 256 := ⟨32 * (n.val / 128) + q.val, by omega⟩
def sCl (p : Fin 8) (n : Fin 1024) : Fin 1024 := ⟨128 * p.val + n.val % 128, by omega⟩

theorem sCat_at (v : FVec Ideal S256x1024 .f32) (p : Fin 8) (q : Fin 32) (n : Fin 1024) : sCat v p (ix2 q n) = v (ix2 (sRow q n) (sCl p n)) := by
  pointwise [sCat]
  split_ifs <;> exact at_eq v (by simp only [sRow]; omega) (by simp only [sCl]; omega)

/-- The operands of the mixing: the weights of a pair of groups, -/
def sWs (ws : Vec Ideal S8x32x64 .bf16) (p : Fin 8) : FVec Ideal S32x64 .bf16 :=
  shapeCast S32x64 (View.ld ws (Rect.unit (s := S8x32x64) ![p.val, 0, 0] S1x32x64.size (s_plane p))) shapeCasts_S1x32x64_S32x64

/-- and its two groups one above the other. -/
def sStack (C : FVec Ideal S32x1024 .f32) : FVec Ideal S64x1024 .bf16 :=
  truncf .bf16 (concatenate S64x1024 0
      [⟨S32x1024, select (cmpi .slt k0_pay102 (broadcast S32x1024 64#32)) C (k0_pay103 (F := Ideal))⟩,
        ⟨S32x1024, select (cmpi .sge k0_pay102 (broadcast S32x1024 64#32)) C (k0_pay103 (F := Ideal))⟩] concatenates_S32x1024_S32x1024_S64x1024_d0) bitsLt_bf16_f32

theorem s_flat_at (A : Vec Ideal S1x32x64 .bf16) (i : Fin 32) (k : Fin 64) : shapeCast S32x64 A shapeCasts_S1x32x64_S32x64 (ix2 i k) = A (ix3 0 i k) := by
  pointwise

theorem s_plane_at (ws : Vec Ideal S8x32x64 .bf16) (p : Fin 8) (i : Fin 32) (k : Fin 64) :
    View.ld ws (Rect.unit (s := S8x32x64) ![p.val, 0, 0] S1x32x64.size (s_plane p)) (ix3 0 i k) = ws (ix3 p i k) := by
  refine congrArg ws (funext fun a => Fin.ext ?_)
  fin_cases a
  · show p.val + 1 * 0 = p.val; omega
  · show 0 + 1 * i.val = i.val; omega
  · show 0 + 1 * k.val = k.val; omega

theorem sWs_at (ws : Vec Ideal S8x32x64 .bf16) (p : Fin 8) (i : Fin 32) (k : Fin 64) : sWs ws p (ix2 i k) = ws (ix3 p i k) := by
  unfold sWs
  exact (s_flat_at _ i k).trans (s_plane_at ws p i k)

theorem sStack_top (C : FVec Ideal S32x1024 .f32) (q : Fin 32) (n : Fin 1024) :
    sStack C (ix2 (⟨q.val, by omega⟩ : Fin 64) n) = if n.val % 128 < 64 then C (ix2 q n) else 0 := by
  unfold sStack
  generalize hc : cmpi .slt k0_pay102 (broadcast S32x1024 64#32) = a
  generalize cmpi .sge k0_pay102 (broadcast S32x1024 64#32) = b
  pointwise [k0_pay103]
  rw [← hc, s_lane_lt]
  by_cases h : n.val % 128 < 64
  · rw [if_pos h, if_pos h]; rfl
  · rw [if_neg h, if_neg h]; rfl

theorem sStack_low (C : FVec Ideal S32x1024 .f32) (q : Fin 32) (n : Fin 1024) :
    sStack C (ix2 (⟨32 + q.val, by omega⟩ : Fin 64) n) = if n.val % 128 < 64 then 0 else C (ix2 q n) := by
  unfold sStack
  generalize cmpi .slt k0_pay102 (broadcast S32x1024 64#32) = a
  generalize hc : cmpi .sge k0_pay102 (broadcast S32x1024 64#32) = b
  pointwise [k0_pay103]
  rw [← hc, s_lane_ge]
  by_cases h : n.val % 128 < 64
  · rw [if_pos h, if_pos h]; rfl
  · rw [if_neg h, if_neg h]; rfl

theorem sMix_sum (v : FVec Ideal S256x1024 .f32) (ws : Vec Ideal S8x32x64 .bf16) (p : Fin 8) (i : Fin 32) (n : Fin 1024) :
    sMix v ws p (ix2 i n) = ∑ k : Fin 64, sWs ws p (ix2 i k) * sStack (sCat v p) (ix2 k n) := by
  show matmul dot_S32x64_S64x1024_S32x1024_1_0_0_1_n_n none (sWs ws p) (sStack (sCat v p)) (constant S32x1024 .f32 0x00000000#32) (ix2 i n) = _
  generalize sWs ws p = A
  generalize sStack (sCat v p) = C
  pointwise

theorem sMix_at (v : FVec Ideal S256x1024 .f32) (ws : Vec Ideal S8x32x64 .bf16) (p : Fin 8) (i : Fin 32) (n : Fin 1024) :
    sMix v ws p (ix2 i n) = if n.val % 128 < 64 then ∑ q : Fin 32, ws (ix3 p i (⟨q.val, by omega⟩ : Fin 64)) * v (ix2 (sRow q n) (sCl p n))
      else ∑ q : Fin 32, ws (ix3 p i (⟨32 + q.val, by omega⟩ : Fin 64)) * v (ix2 (sRow q n) (sCl p n)) := by
  rw [sMix_sum, ← sum_side]
  refine (Fin.sum_univ_add (a := 32) (b := 32) _).trans ?_
  refine congrArg₂ (· + ·) (Finset.sum_congr rfl fun q _ => ?_) (Finset.sum_congr rfl fun q _ => ?_)
  · exact congrArg₂ (· * ·) (sWs_at ws p i _) ((sStack_top _ q n).trans (by rw [sCat_at]))
  · exact congrArg₂ (· * ·) (sWs_at ws p i _) ((sStack_low _ q n).trans (by rw [sCat_at]))

/-- A gated entry: the entry of `u` times the mixed gate and its bias. -/
theorem sPiece_sum (u v : FVec Ideal S256x1024 .f32) (ws : Vec Ideal S8x32x64 .bf16) (bs : Vec Ideal S32x1024 .f32) (r p : Fin 8) (i : Fin 32) (j : Fin 128) :
    sPiece u v ws bs r p (ix2 i j) = u (ix2 (⟨32 * r.val + i.val, by omega⟩ : Fin 256) (⟨128 * p.val + j.val, by omega⟩ : Fin 1024))
      * (sMix v ws p (ix2 i (⟨128 * r.val + j.val, by omega⟩ : Fin 1024)) + bs (ix2 i (⟨128 * p.val + j.val, by omega⟩ : Fin 1024))) := by
  unfold sPiece
  generalize sMix v ws p = A
  generalize hC : (View.ld bs (Rect.unit (s := S32x1024) ![0, 128 * p.val] S32x128.size (s_bias p)) : Vec Ideal S32x128 .f32) = C
  have hc : C (ix2 i j) = bs (ix2 i (⟨128 * p.val + j.val, by omega⟩ : Fin 1024)) := by
    subst hC
    refine congrArg bs (funext fun a => Fin.ext ?_)
    fin_cases a
    · show 0 + 1 * i.val = i.val; omega
    · show 128 * p.val + 1 * j.val = 128 * p.val + j.val; omega
  pointwise
  rw [hc]

theorem sGated_val {u v : FVec Ideal S256x1024 .f32} {ws : Vec Ideal S8x32x64 .bf16} {bs : Vec Ideal S32x1024 .f32} {U V : Fin 256 → Fin 1024 → EReal}
    {M : Fin 16 → Fin 32 → Fin 32 → EReal} {Bf : Fin 16 → Fin 32 → EReal}
    (hu : ∀ r k, u (ix2 r k) = U r k) (hv : ∀ r k, v (ix2 r k) = V r k)
    (hw : ∀ (g : Fin 16) (i q : Fin 32), ws (ix3 (pairOf g) i (⟨32 * (g.val % 2) + q.val, by omega⟩ : Fin 64)) = M g i q)
    (hb : ∀ i c, bs (ix2 i c) = Bf (grp c) i) (r : Fin 256) (c : Fin 1024) :
    sGated u v ws bs (ix2 r c) = U r c * mixed (fun q => V (sChunk r q)) M Bf (sPlace r) c := by
  have hr := r.isLt
  have hc := c.isLt
  have e : sGated u v ws bs (ix2 r c) = sPiece u v ws bs (⟨r.val / 32, by omega⟩ : Fin 8) (⟨c.val / 128, by omega⟩ : Fin 8) (ix2 (sPlace r) (⟨c.val % 128, by omega⟩ : Fin 128)) :=
    sGated_at u v ws bs _ _ _ _ (show r.val = 32 * (r.val / 32) + r.val % 32 by omega) (show c.val = 128 * (c.val / 128) + c.val % 128 by omega)
  rw [e, sPiece_sum, sMix_at, ← hu]
  have hm : (128 * (r.val / 32) + c.val % 128) % 128 = c.val % 128 := by omega
  have hB : bs (ix2 (sPlace r) (⟨128 * (c.val / 128) + c.val % 128, by omega⟩ : Fin 1024)) = Bf (grp c) (sPlace r) :=
    (at_eq bs rfl (show 128 * (c.val / 128) + c.val % 128 = c.val by omega)).trans (hb _ _)
  have hV : ∀ q : Fin 32, v (ix2 (sRow q (⟨128 * (r.val / 32) + c.val % 128, by omega⟩ : Fin 1024)) (sCl (⟨c.val / 128, by omega⟩ : Fin 8) (⟨128 * (r.val / 32) + c.val % 128, by omega⟩ : Fin 1024))) = V (sChunk r q) c := fun q =>
    (at_eq v (by simp only [sRow, sChunk]; omega) (by simp only [sCl]; omega)).trans (hv _ _)
  refine congrArg₂ (· * ·) (at_eq u (by simp only [sPlace]; omega) (by show 128 * (c.val / 128) + c.val % 128 = c.val; omega)) ?_
  unfold mixed
  rw [hB]
  refine congrArg (· + _) ?_
  by_cases h : c.val % 128 < 64
  · rw [if_pos (by show (128 * (r.val / 32) + c.val % 128) % 128 < 64; omega)]
    refine Finset.sum_congr rfl fun q _ => ?_
    rw [hV]
    refine congrArg (· * _) ?_
    exact (at_eq3 ws (show c.val / 128 = c.val / 64 / 2 by omega) (show q.val = 32 * (c.val / 64 % 2) + q.val by omega)).trans (hw (grp c) (sPlace r) q)
  · rw [if_neg (by show ¬ (128 * (r.val / 32) + c.val % 128) % 128 < 64; omega)]
    refine Finset.sum_congr rfl fun q _ => ?_
    rw [hV]
    refine congrArg (· * _) ?_
    exact (at_eq3 ws (show c.val / 128 = c.val / 64 / 2 by omega) (show 32 + q.val = 32 * (c.val / 64 % 2) + q.val by omega)).trans (hw (grp c) (sPlace r) q)

theorem yBlk_at {ws : Vec Ideal S8x128x256 .bf16} {bs : Vec Ideal S128x1024 .f32} {wo : Vec Ideal S1024x1024 .f32} {XX : Fin 1024 → Fin 1024 → EReal}
    {M : Fin 16 → Fin 128 → Fin 128 → EReal} {Bf : Fin 16 → Fin 128 → EReal} {WO : Fin 1024 → Fin 1024 → EReal}
    (hx : ∀ r k, x (ix3 0 r k) = XX r k) (hg : ∀ k, g (ix2 0 k) = G k) (hw : ∀ i c, w (ix2 i c) = W i c) (hv : ∀ k, vg (ix2 0 k) = VG k)
    (hm : ∀ (g : Fin 16) (i q : Fin 128), ws (ix3 (pairOf g) i (⟨128 * (g.val % 2) + q.val, by omega⟩ : Fin 256)) = M g i q)
    (hb : ∀ i c, bs (ix2 i c) = Bf (grp c) i) (ho : ∀ i k, wo (ix2 i k) = WO i k) (r k : Fin 1024) :
    yBlk x g w vg ws bs wo (ix3 0 r k) = out (XX r) (half (XX r) G W 0 (by omega)) (mixed (fun q => gate (XX (tChunk r q)) G W VG) M Bf (tPlace r)) WO k := by
  unfold yBlk
  have hG := tGated_val (u := tU x g w) (v := tV x g w vg) (U := fun r => half (XX r) G W 0 (by omega)) (V := fun r => gate (XX r) G W VG)
    (fun r k => tU_at r (hx r) hg hw k) (fun r k => tV_at r (hx r) hg hw hv k) hm hb r
  generalize tGated (tU x g w) (tV x g w vg) ws bs = Gt at hG ⊢
  pointwise [k0_pay1, k0_pay2, k0_pay98]
  simp only [hG, hx, ho]
  rfl

theorem yRow_at {ws : Vec Ideal S8x32x64 .bf16} {bs : Vec Ideal S32x1024 .f32} {wo : Vec Ideal S1024x1024 .f32} {XX : Fin 256 → Fin 1024 → EReal}
    {M : Fin 16 → Fin 32 → Fin 32 → EReal} {Bf : Fin 16 → Fin 32 → EReal} {WO : Fin 1024 → Fin 1024 → EReal}
    (hs : ∀ r k, s (ix2 r k) = XX r k) (hg : ∀ k, g (ix2 0 k) = G k) (hw : ∀ i c, w (ix2 i c) = W i c) (hv : ∀ k, vg (ix2 0 k) = VG k)
    (hm : ∀ (g : Fin 16) (i q : Fin 32), ws (ix3 (pairOf g) i (⟨32 * (g.val % 2) + q.val, by omega⟩ : Fin 64)) = M g i q)
    (hb : ∀ i c, bs (ix2 i c) = Bf (grp c) i) (ho : ∀ i k, wo (ix2 i k) = WO i k) (r : Fin 256) (k : Fin 1024) :
    yRow s g w vg ws bs wo (ix2 r k) = out (XX r) (half (XX r) G W 0 (by omega)) (mixed (fun q => gate (XX (sChunk r q)) G W VG) M Bf (sPlace r)) WO k := by
  unfold yRow
  have hG := sGated_val (u := sU s g w) (v := sV s g w vg) (U := fun r => half (XX r) G W 0 (by omega)) (V := fun r => gate (XX r) G W VG)
    (fun r k => sU_at r (hs r) hg hw k) (fun r k => sV_at r (hs r) hg hw hv k) hm hb r
  generalize sGated (sU s g w) (sV s g w vg) ws bs = Gt at hG ⊢
  pointwise [k0_pay199]
  simp only [hG, hs, ho]
  rfl

end Cert.GmlpIdeal.Body
end
-- ==== Proof.GmlpRefValue.lean ====
module

public import proofs.«01_k».proof.Proof.Gen.GmlpRefIdeal.Read
public import proofs.«01_k».proof.Proof.GmlpTile

@[expose] public section

set_option maxRecDepth 16384

noncomputable section

namespace Cert.GmlpRefIdeal.Body

open Cert.GmlpRefIdeal Cert.GmlpRefIdeal.Gen Cert.GmlpRefIdeal.Read Idealize.ShloMosaic Idealize.ShloMosaic.TcCoe Idealize.SL.Sem Cert.FfnMath Cert.GmlpMath

variable (x0 : Vec Ideal S2x8192x1024 .f32) (x1 : Vec Ideal S256x1024 .f32) (x2 : Vec Ideal S1024 .f32) (x3 : Vec Ideal S1024x2048 .f32)
  (x4 : Vec Ideal S1024 .f32) (x5 : Vec Ideal S16x128x128 .f32) (x6 : Vec Ideal S16x128 .f32) (x7 : Vec Ideal S1024x1024 .f32)

/-- The mixer's arguments, read off eight arrays. -/
def argsOf : GmlpMath.Args where
  X b t k := x0 (ix3 b t k)
  S r k := x1 (ix2 r k)
  G k := x2 (ix1 k)
  W i c := x3 (ix2 i c)
  VG k := x4 (ix1 k)
  M g i q := val_main_v8 x5 (ix3 g i q)
  B g i := x6 (ix2 g i)
  WO i k := x7 (ix2 i k)

/-- The activation by the complementary error function of the negated argument. -/
theorem gelu_neg (z : EReal) : Ideal.ofBits FTy.f32 0x3F000000#32 * z * Ideal.erfc (-z * Ideal.ofBits FTy.f32 0x3F3504F3#32) = gelu z := by
  rw [neg_mul, Ideal.erfc_neg]; rfl

/-! ## The prompt -/

theorem t_normed_at (b : Fin 2) (t : Fin 8192) (k : Fin 1024) : val_main_v21 x0 x2 (ix3 b t k) = rms (fun k => x0 (ix3 b t k)) (fun k => x2 (ix1 k)) k := by
  pointwise [val_main_v21, val_main_v20, val_main_v19, val_main_v18, val_main_v17, val_main_v16, val_main_v15, val_main_v14, val_main_v13, val_main_v12, val_main_v11, val_main_v10, val_main_v9, val_main_cst_1, val_main_cst_2, val_main_cst_3]
  rfl

theorem t_act_at (b : Fin 2) (t : Fin 8192) (c : Fin 2048) : val_main_v29 x0 x2 x3 (ix3 b t c) = gelu (∑ i, rms (fun k => x0 (ix3 b t k)) (fun k => x2 (ix1 k)) i * x3 (ix2 i c)) := by
  pointwise [val_main_v29, val_main_v28, val_main_v27, val_main_v26, val_main_v25, val_main_v24, val_main_v23, val_main_v22, val_main_cst_4, val_main_cst_5]
  simp only [t_normed_at]
  exact gelu_neg _

theorem t_u_at (b : Fin 2) (t : Fin 8192) (k : Fin 1024) : val_main_v30 x0 x2 x3 (ix3 b t k) = half (fun k => x0 (ix3 b t k)) (fun k => x2 (ix1 k)) (fun i c => x3 (ix2 i c)) 0 (by omega) k := by
  pointwise [val_main_v30]
  rw [t_act_at]
  unfold half
  have e : at_ 0 (by omega) k = ⟨k.val, by omega⟩ := Fin.ext (show 0 + k.val = k.val by omega)
  rw [e]

theorem t_v_at (b : Fin 2) (t : Fin 8192) (k : Fin 1024) : val_main_v31 x0 x2 x3 (ix3 b t k) = half (fun k => x0 (ix3 b t k)) (fun k => x2 (ix1 k)) (fun i c => x3 (ix2 i c)) 1024 (by omega) k := by
  pointwise [val_main_v31]
  rw [t_act_at]
  rfl

theorem t_gate_at (b : Fin 2) (t : Fin 8192) (k : Fin 1024) : val_main_v44 x0 x2 x3 x4 (ix3 b t k) = gate (fun k => x0 (ix3 b t k)) (fun k => x2 (ix1 k)) (fun i c => x3 (ix2 i c)) (fun k => x4 (ix1 k)) k := by
  pointwise [val_main_v44, val_main_v43, val_main_v42, val_main_v41, val_main_v40, val_main_v39, val_main_v38, val_main_v37, val_main_v36, val_main_v35, val_main_v34, val_main_v33, val_main_v32, val_main_cst_6, val_main_cst_7, val_main_cst_8]
  simp only [t_v_at]
  rfl

/-! ## The sample -/

theorem s_normed_at (r : Fin 256) (k : Fin 1024) : val_main_v70 x1 x2 (ix2 r k) = rms (fun k => x1 (ix2 r k)) (fun k => x2 (ix1 k)) k := by
  pointwise [val_main_v70, val_main_v69, val_main_v68, val_main_v67, val_main_v66, val_main_v65, val_main_v64, val_main_v63, val_main_v62, val_main_v61, val_main_v60, val_main_v59, val_main_v58, val_main_cst_9, val_main_cst_10, val_main_cst_11]
  rfl

theorem s_act_at (r : Fin 256) (c : Fin 2048) : val_main_v78 x1 x2 x3 (ix2 r c) = gelu (∑ i, rms (fun k => x1 (ix2 r k)) (fun k => x2 (ix1 k)) i * x3 (ix2 i c)) := by
  pointwise [val_main_v78, val_main_v77, val_main_v76, val_main_v75, val_main_v74, val_main_v73, val_main_v72, val_main_v71, val_main_cst_12, val_main_cst_13]
  simp only [s_normed_at]
  exact gelu_neg _

theorem s_u_at (r : Fin 256) (k : Fin 1024) : val_main_v79 x1 x2 x3 (ix2 r k) = half (fun k => x1 (ix2 r k)) (fun k => x2 (ix1 k)) (fun i c => x3 (ix2 i c)) 0 (by omega) k := by
  pointwise [val_main_v79]
  rw [s_act_at]
  unfold half
  have e : at_ 0 (by omega) k = ⟨k.val, by omega⟩ := Fin.ext (show 0 + k.val = k.val by omega)
  rw [e]

theorem s_v_at (r : Fin 256) (k : Fin 1024) : val_main_v80 x1 x2 x3 (ix2 r k) = half (fun k => x1 (ix2 r k)) (fun k => x2 (ix1 k)) (fun i c => x3 (ix2 i c)) 1024 (by omega) k := by
  pointwise [val_main_v80]
  rw [s_act_at]
  rfl

theorem s_gate_at (r : Fin 256) (k : Fin 1024) : val_main_v93 x1 x2 x3 x4 (ix2 r k) = gate (fun k => x1 (ix2 r k)) (fun k => x2 (ix1 k)) (fun i c => x3 (ix2 i c)) (fun k => x4 (ix1 k)) k := by
  pointwise [val_main_v93, val_main_v92, val_main_v91, val_main_v90, val_main_v89, val_main_v88, val_main_v87, val_main_v86, val_main_v85, val_main_v84, val_main_v83, val_main_v82, val_main_v81, val_main_cst_14, val_main_cst_15, val_main_cst_16]
  simp only [s_v_at]
  rfl

/-! ## The mixing and the results -/

theorem t_mix_at (b : Fin 2) (t : Fin 8192) (c : Fin 1024) : val_main_v52 x0 x2 x3 x4 x5 x6 (ix3 b t c)
    = mixed (fun q => gate (fun k => x0 (ix3 b (chunk t q) k)) (fun k => x2 (ix1 k)) (fun i c => x3 (ix2 i c)) (fun k => x4 (ix1 k))) (fun g i q => val_main_v8 x5 (ix3 g i q)) (fun g i => x6 (ix2 g i)) (place t) c := by
  pointwise [val_main_v52, val_main_v51, val_main_v50, val_main_v49, val_main_v48, val_main_v47, val_main_v46, val_main_v45]
  unfold mixed
  refine congrArg (· + _) (Finset.sum_congr rfl fun q _ => ?_)
  have hb := b.isLt
  have ht := t.isLt
  have e : (⟨(b.val * 64 + t.val / 128) % 64 * 128 + q.val, by omega⟩ : Fin 8192) = chunk t q := Fin.ext (by show (b.val * 64 + t.val / 128) % 64 * 128 + q.val = 128 * (t.val / 128) + q.val; omega)
  rw [e, t_gate_at, mul_comm]
  rfl

theorem s_mix_at (r : Fin 256) (c : Fin 1024) : val_main_v101 x1 x2 x3 x4 x5 x6 (ix2 r c)
    = mixed (fun q => gate (fun k => x1 (ix2 (sChunk r q) k)) (fun k => x2 (ix1 k)) (fun i c => x3 (ix2 i c)) (fun k => x4 (ix1 k))) (fun g (i q : Fin 32) => val_main_v8 x5 (ix3 g (⟨i.val, by omega⟩ : Fin 128) (⟨q.val, by omega⟩ : Fin 128))) (fun g (i : Fin 32) => x6 (ix2 g (⟨i.val, by omega⟩ : Fin 128))) (sPlace r) c := by
  pointwise [val_main_v101, val_main_v100, val_main_v99, val_main_v98, val_main_v97, val_main_v96, val_main_v95, val_main_v94, val_main_v56, val_main_v57]
  unfold mixed
  refine congrArg (· + _) (Finset.sum_congr rfl fun q _ => ?_)
  have e : (⟨r.val / 32 * 32 + q.val, by omega⟩ : Fin 256) = sChunk r q := Fin.ext (by show r.val / 32 * 32 + q.val = 32 * (r.val / 32) + q.val; omega)
  rw [e, s_gate_at, mul_comm]
  rfl

theorem yp_at (b : Fin 2) (t : Fin 8192) (k : Fin 1024) : val_main_v55 x0 x2 x3 x4 x5 x6 x7 (ix3 b t k) = yp (argsOf x0 x1 x2 x3 x4 x5 x6 x7) b t k := by
  pointwise [val_main_v55, val_main_v54, val_main_v53]
  simp only [t_u_at, t_mix_at]
  rfl

theorem ys_at (r : Fin 256) (k : Fin 1024) : val_main_v104 x1 x2 x3 x4 x5 x6 x7 (ix2 r k) = ys (argsOf x0 x1 x2 x3 x4 x5 x6 x7) r k := by
  pointwise [val_main_v104, val_main_v103, val_main_v102]
  simp only [s_u_at, s_mix_at]
  rfl

theorem vs_at (r : Fin 256) (k : Fin 1024) : val_main_v93 x1 x2 x3 x4 (ix2 r k) = vs (argsOf x0 x1 x2 x3 x4 x5 x6 x7) r k := s_gate_at x1 x2 x3 x4 r k

end Cert.GmlpRefIdeal.Body
end
-- ==== Proof.GmlpArrays.lean ====
module

public import proofs.«01_k».proof.Proof.GmlpTile
public import proofs.«01_k».proof.Proof.GmlpRefValue
public import Idealize.ShloMosaic.Lib.StableHlo.RunRead

@[expose] public section

set_option maxRecDepth 65536

noncomputable section

namespace Cert.GmlpIdeal.Body

open Cert.GmlpIdeal Cert.GmlpIdeal.Gen Idealize.ShloMosaic Idealize.ShloMosaic.TcCoe Idealize.SL.Sem Cert.FfnMath Cert.GmlpMath
open Cert.GmlpRefIdeal.Read (val_main_v8)

variable (m : (ℓ : Loc nD τ sig) → Buf (Elt Ideal) ℓ) (c : Dev nD)

/-- The mixer's arguments, read off the argument buffers. -/
def argsOf : GmlpMath.Args :=
  GmlpRefIdeal.Body.argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem idx_all : ∀ t : Fin cfg0.N, win0_0.index t = ![min t.val 15 / 8, min t.val 15 % 8, 0] ∧ win0_1.index t = ![0, 0] ∧ win0_2.index t = ![0, 0] ∧ win0_3.index t = ![0, 0]
    ∧ win0_4.index t = ![0, 0] ∧ win0_5.index t = ![0, 0, 0] ∧ win0_6.index t = ![0, 0] ∧ win0_7.index t = ![0, 0, 0] ∧ win0_8.index t = ![0, 0]
    ∧ win0_9.index t = ![0, 0] ∧ win0_10.index t = ![min t.val 15 / 8, min t.val 15 % 8, 0] ∧ win0_11.index t = ![0, 0] ∧ win0_12.index t = ![0, 0] :=
  (by decide +kernel : ∀ t : Fin grid0.N, _)

theorem lt17 (t : Fin cfg0.N) : t.val < 17 := t.isLt
/-- The batch of a grid point. -/
abbrev batch (t : Fin cfg0.N) : Fin 2 := ⟨min t.val 15 / 8, by omega⟩
/-- A row of a grid point's tile. -/
abbrev rowOf (t : Fin cfg0.N) (r : Fin 1024) : Fin 8192 := ⟨1024 * (min t.val 15 % 8) + r.val, by omega⟩

/-! ## The blocks -/

theorem x_at (t : Fin cfg0.N) (r k : Fin 1024) : iblk m c 0 t (ix3 0 r k) = (argsOf m c).X (batch t) (rowOf t r) k := by
  show iblk m c 0 t (ix3 0 r k) = (m ((c.tc : Thread nD τ).loc main_arg0) : Vec Ideal S2x8192x1024 .f32) (ix3 (batch t) (rowOf t r) k)
  blk_ext [iblk, V, idx_all t]
theorem s_at (t : Fin cfg0.N) (r : Fin 256) (k : Fin 1024) : iblk m c 1 t (ix2 r k) = (argsOf m c).S r k := by
  show iblk m c 1 t (ix2 r k) = (m ((c.tc : Thread nD τ).loc main_arg1) : Vec Ideal S256x1024 .f32) (ix2 r k)
  blk_ext [iblk, V, idx_all t]
theorem w_at (t : Fin cfg0.N) (i : Fin 1024) (k : Fin 2048) : iblk m c 3 t (ix2 i k) = (argsOf m c).W i k := by
  show iblk m c 3 t (ix2 i k) = (m ((c.tc : Thread nD τ).loc main_arg3) : Vec Ideal S1024x2048 .f32) (ix2 i k)
  blk_ext [iblk, V, idx_all t]
theorem wo_at (t : Fin cfg0.N) (i : Fin 1024) (k : Fin 1024) : iblk m c 9 t (ix2 i k) = (argsOf m c).WO i k := by
  show iblk m c 9 t (ix2 i k) = (m ((c.tc : Thread nD τ).loc main_arg7) : Vec Ideal S1024x1024 .f32) (ix2 i k)
  blk_ext [iblk, V, idx_all t]

/-! The blocks of the host's arrays. -/

set_option maxHeartbeats 4000000

theorem gain_host : (V m c main_v24 : Vec Ideal S1x1024 .f32) = shapeCast S1x1024 (m ((c.tc : Thread nD τ).loc main_arg2) : Vec Ideal S1024 .f32) shapeCasts_S1024_S1x1024 := by
  unfold V
  after_reads_simp
  rfl
theorem vgain_host : (V m c main_v25 : Vec Ideal S1x1024 .f32) = shapeCast S1x1024 (m ((c.tc : Thread nD τ).loc main_arg4) : Vec Ideal S1024 .f32) shapeCasts_S1024_S1x1024 := by
  unfold V
  after_reads_simp
  rfl
theorem weights_host : (V m c main_v12 : Vec Ideal S8x128x256 .bf16) = shapeCast S8x128x256 (transpose S8x128x2x128 [0, 2, 1, 3] (shapeCast S8x2x128x128
    (truncf .bf16 (val_main_v8 (m ((c.tc : Thread nD τ).loc main_arg5) : Vec Ideal S16x128x128 .f32)) bitsLt_bf16_f32 : Vec Ideal S16x128x128 .bf16) shapeCasts_S16x128x128_S8x2x128x128)
    transposes_S8x2x128x128_S8x128x2x128_0_2_1_3) shapeCasts_S8x128x2x128_S8x128x256 := by
  unfold V
  after_reads_simp
  rfl
theorem bias_host : (V m c main_v15 : Vec Ideal S128x1024 .f32) = shapeCast S128x1024 (broadcastInDim S128x16x64 ![0, 1] bcast_S128x16_S128x16x64_0_1
    (transpose S128x16 [1, 0] (m ((c.tc : Thread nD τ).loc main_arg6) : Vec Ideal S16x128 .f32) transposes_S16x128_S128x16_1_0)) shapeCasts_S128x16x64_S128x1024 := by
  unfold V
  after_reads_simp
  rfl
theorem row_weights_host : (V m c main_v19 : Vec Ideal S8x32x64 .bf16) = shapeCast S8x32x64 (transpose S8x32x2x32 [0, 2, 1, 3] (shapeCast S8x2x32x32
    (extractStridedSlice S16x32x32 ![0, 0, 0] (truncf .bf16 (val_main_v8 (m ((c.tc : Thread nD τ).loc main_arg5) : Vec Ideal S16x128x128 .f32)) bitsLt_bf16_f32 : Vec Ideal S16x128x128 .bf16) slices_S16x128x128_S16x32x32_0_0_0)
    shapeCasts_S16x32x32_S8x2x32x32) transposes_S8x2x32x32_S8x32x2x32_0_2_1_3) shapeCasts_S8x32x2x32_S8x32x64 := by
  unfold V
  after_reads_simp
  rfl
theorem row_bias_host : (V m c main_v23 : Vec Ideal S32x1024 .f32) = shapeCast S32x1024 (broadcastInDim S32x16x64 ![0, 1] bcast_S32x16_S32x16x64_0_1
    (transpose S32x16 [1, 0] (extractStridedSlice S16x32 ![0, 0] (m ((c.tc : Thread nD τ).loc main_arg6) : Vec Ideal S16x128 .f32) slices_S16x128_S16x32_0_0) transposes_S16x32_S32x16_1_0)) shapeCasts_S32x16x64_S32x1024 := by
  unfold V
  after_reads_simp
  rfl

theorem g_at (t : Fin cfg0.N) (k : Fin 1024) : iblk m c 2 t (ix2 0 k) = (argsOf m c).G k := by
  have e : iblk m c 2 t (ix2 0 k) = (V m c main_v24 : Vec Ideal S1x1024 .f32) (ix2 0 k) := by blk_ext [iblk, idx_all t]
  rw [e, gain_host]
  show _ = (m ((c.tc : Thread nD τ).loc main_arg2) : Vec Ideal S1024 .f32) (ix1 k)
  generalize (m ((c.tc : Thread nD τ).loc main_arg2) : Vec Ideal S1024 .f32) = A
  pointwise
theorem vg_at (t : Fin cfg0.N) (k : Fin 1024) : iblk m c 4 t (ix2 0 k) = (argsOf m c).VG k := by
  have e : iblk m c 4 t (ix2 0 k) = (V m c main_v25 : Vec Ideal S1x1024 .f32) (ix2 0 k) := by blk_ext [iblk, idx_all t]
  rw [e, vgain_host]
  show _ = (m ((c.tc : Thread nD τ).loc main_arg4) : Vec Ideal S1024 .f32) (ix1 k)
  generalize (m ((c.tc : Thread nD τ).loc main_arg4) : Vec Ideal S1024 .f32) = A
  pointwise
theorem ws_at (t : Fin cfg0.N) (g : Fin 16) (i q : Fin 128) : iblk m c 5 t (ix3 (pairOf g) i (⟨128 * (g.val % 2) + q.val, by omega⟩ : Fin 256)) = (argsOf m c).M g i q := by
  have e : ∀ p i (k : Fin 256), iblk m c 5 t (ix3 p i k) = (V m c main_v12 : Vec Ideal S8x128x256 .bf16) (ix3 p i k) := fun p i k => by blk_ext [iblk, idx_all t]
  rw [e, weights_host]
  show _ = val_main_v8 (m ((c.tc : Thread nD τ).loc main_arg5) : Vec Ideal S16x128x128 .f32) (ix3 g i q)
  generalize val_main_v8 (m ((c.tc : Thread nD τ).loc main_arg5) : Vec Ideal S16x128x128 .f32) = A
  pointwise
theorem bs_at (t : Fin cfg0.N) (i : Fin 128) (k : Fin 1024) : iblk m c 6 t (ix2 i k) = (argsOf m c).B (grp k) i := by
  have e : iblk m c 6 t (ix2 i k) = (V m c main_v15 : Vec Ideal S128x1024 .f32) (ix2 i k) := by blk_ext [iblk, idx_all t]
  rw [e, bias_host]
  show _ = (m ((c.tc : Thread nD τ).loc main_arg6) : Vec Ideal S16x128 .f32) (ix2 (grp k) i)
  generalize (m ((c.tc : Thread nD τ).loc main_arg6) : Vec Ideal S16x128 .f32) = A
  pointwise
theorem wss_at (t : Fin cfg0.N) (g : Fin 16) (i q : Fin 32) : iblk m c 7 t (ix3 (pairOf g) i (⟨32 * (g.val % 2) + q.val, by omega⟩ : Fin 64)) = sM (argsOf m c) g i q := by
  have e : ∀ p i (k : Fin 64), iblk m c 7 t (ix3 p i k) = (V m c main_v19 : Vec Ideal S8x32x64 .bf16) (ix3 p i k) := fun p i k => by blk_ext [iblk, idx_all t]
  rw [e, row_weights_host]
  show _ = val_main_v8 (m ((c.tc : Thread nD τ).loc main_arg5) : Vec Ideal S16x128x128 .f32) (ix3 g (⟨i.val, by omega⟩ : Fin 128) (⟨q.val, by omega⟩ : Fin 128))
  generalize val_main_v8 (m ((c.tc : Thread nD τ).loc main_arg5) : Vec Ideal S16x128x128 .f32) = A
  pointwise
theorem bss_at (t : Fin cfg0.N) (i : Fin 32) (k : Fin 1024) : iblk m c 8 t (ix2 i k) = sB (argsOf m c) (grp k) i := by
  have e : iblk m c 8 t (ix2 i k) = (V m c main_v23 : Vec Ideal S32x1024 .f32) (ix2 i k) := by blk_ext [iblk, idx_all t]
  rw [e, row_bias_host]
  show _ = (m ((c.tc : Thread nD τ).loc main_arg6) : Vec Ideal S16x128 .f32) (ix2 (grp k) (⟨i.val, by omega⟩ : Fin 128))
  generalize (m ((c.tc : Thread nD τ).loc main_arg6) : Vec Ideal S16x128 .f32) = A
  pointwise

/-! ## The results -/

/-- After the run each array of results holds the mixer's. -/
theorem final10 : (dats m 0 c).arrAt 10 cfg0.N = (fun i => yp (argsOf m c) (i 0) (i 1) (i 2) : Vec Ideal S2x8192x1024 .f32) := by
  refine (dats m 0 c).arrAt_eq_of_covers 10 _ (by decide +kernel) fun t hf y => ?_
  blk_simp
  rw [after_10]
  idx_vars y
  have ht := lt17 t
  have e0 : ((View.whole main_v26_0).slice (win0_10.rect t)).emb (ix3 y0 y1 y2) 0 = batch (tileOf t) := Fin.ext (by refine Eq.trans (b := min (min t.val 15) 15 / 8) ?_ rfl; blk_simp [idx_all t]; omega)
  have e1 : ((View.whole main_v26_0).slice (win0_10.rect t)).emb (ix3 y0 y1 y2) 1 = rowOf (tileOf t) y1 := Fin.ext (by refine Eq.trans (b := 1024 * (min (min t.val 15) 15 % 8) + y1.val) ?_ rfl; blk_simp [idx_all t]; omega)
  have e2 : ((View.whole main_v26_0).slice (win0_10.rect t)).emb (ix3 y0 y1 y2) 2 = y2 := Fin.ext (by blk_simp [idx_all t])
  have eq : ∀ q, rowOf (tileOf t) (tChunk y1 q) = chunk (rowOf (tileOf t) y1) q := fun q => Fin.ext (by simp only [tChunk, chunk]; omega)
  have ep : tPlace y1 = place (rowOf (tileOf t) y1) := Fin.ext (by simp only [tPlace, place]; omega)
  rw [e0, e1, e2]
  obtain rfl : y0 = 0 := Subsingleton.elim _ _
  refine (yBlk_at (x_at m c (tileOf t)) (g_at m c _) (w_at m c _) (vg_at m c _) (ws_at m c _) (bs_at m c _) (wo_at m c _) y1 y2).trans ?_
  unfold yp
  simp only [eq, ep]

theorem final11 : (dats m 0 c).arrAt 11 cfg0.N = (fun i => ys (argsOf m c) (i 0) (i 1) : Vec Ideal S256x1024 .f32) := by
  refine (dats m 0 c).arrAt_eq_of_covers 11 _ (by decide +kernel) fun t hf y => ?_
  blk_simp
  rw [after_11]
  idx_vars y
  have ht := lt17 t
  have e0 : ((View.whole main_v26_1).slice (win0_11.rect t)).emb (ix2 y0 y1) 0 = y0 := Fin.ext (by blk_simp [idx_all t])
  have e1 : ((View.whole main_v26_1).slice (win0_11.rect t)).emb (ix2 y0 y1) 1 = y1 := Fin.ext (by blk_simp [idx_all t])
  rw [e0, e1]
  exact yRow_at (s_at m c t) (g_at m c _) (w_at m c _) (vg_at m c _) (wss_at m c _) (bss_at m c _) (wo_at m c _) y0 y1

theorem final12 : (dats m 0 c).arrAt 12 cfg0.N = (fun i => vs (argsOf m c) (i 0) (i 1) : Vec Ideal S256x1024 .f32) := by
  refine (dats m 0 c).arrAt_eq_of_covers 12 _ (by decide +kernel) fun t hf y => ?_
  blk_simp
  rw [after_12]
  idx_vars y
  have ht := lt17 t
  have e0 : ((View.whole main_v26_2).slice (win0_12.rect t)).emb (ix2 y0 y1) 0 = y0 := Fin.ext (by blk_simp [idx_all t])
  have e1 : ((View.whole main_v26_2).slice (win0_12.rect t)).emb (ix2 y0 y1) 1 = y1 := Fin.ext (by blk_simp [idx_all t])
  rw [e0, e1]
  exact sV_at y0 (s_at m c t y0) (g_at m c _) (w_at m c _) (vg_at m c _) y1

end Cert.GmlpIdeal.Body
end
-- ==== Proof.GmlpClaims.lean ====
module

public import proofs.«01_k».proof.Defs
public import proofs.«01_k».proof.Proof.GmlpArrays
public import proofs.«01_k».proof.Proof.Gen.Gmlp.Frame
public import proofs.«01_k».proof.Proof.Gen.GmlpRefIdeal.Run

@[expose] public section

set_option maxRecDepth 16384
set_option maxHeartbeats 4000000

noncomputable section

namespace Cert.GmlpClaims

open Idealize.ShloMosaic Idealize.ShloMosaic.TcCoe Idealize.SL.Sem Cert.FfnMath Cert.GmlpMath

/-- The two programs have one table of bodies. -/
theorem bodies_eq : Gmlp.defs₀ (F := Bits) = GmlpIdeal.defs₀ (F := Bits) := by
  unfold Gmlp.defs₀ GmlpIdeal.defs₀
  refine congrArg Defs.onTc ?_
  funext l a
  match l, a with
  | 0, (t, s) => rfl
  | ⟨_ + 1, h⟩, _ => exact absurd h (Nat.not_lt.2 (Nat.le_add_left _ _))

theorem defs_eq : Gmlp.defs (F := Bits) = GmlpIdeal.defs (F := Bits) := by
  unfold Gmlp.defs GmlpIdeal.defs
  exact congrArg (Pipeline.defs GmlpIdeal.pcfgs) bodies_eq

/-- The bit-exact kernel runs, leaves its arguments and comes to rest: its text is the idealized one's. -/
theorem frame_p : Cert.quiescent_Gmlp := fun m ρ _ => by
  rw [defs_eq]
  exact Cert.GmlpIdeal.Body.frame (F := Bits) m ρ

/-- The idealized kernel runs, leaves its arguments and comes to rest. -/
theorem frame_pi : Cert.quiescent_GmlpIdeal := fun m ρ _ => Cert.GmlpIdeal.Body.frame m ρ

/-- The reference runs, leaves its arguments and comes to rest. -/
theorem frame_ri : Cert.quiescent_GmlpRefIdeal := fun m ρ _ =>
  (θ_run Cert.GmlpRefIdeal.defs _ _).mono (fun r h => ⟨fun c => (h c).2.2.2, Idealize.ShloMosaic.sem_eq_zero_of_no_sems (by decide) r.2⟩)
    (Cert.GmlpRefIdeal.Value.run (F := Ideal) m ρ)

/-- The kernel's three results are the reference's. -/
theorem algebraic : Cert.algebraic_GmlpIdeal_GmlpRefIdeal := by
  intro m ρ m' ρ' _ hag
  refine ⟨fun c => (GmlpIdeal.Body.dats m 0 c).arrAt 10 GmlpIdeal.cfg0.N, fun c => (GmlpIdeal.Body.dats m 0 c).arrAt 11 GmlpIdeal.cfg0.N, fun c => (GmlpIdeal.Body.dats m 0 c).arrAt 12 GmlpIdeal.cfg0.N, ?_, ?_⟩
  · run_from GmlpIdeal.Body.run_main m ρ
    exacts [GmlpIdeal.Gen.V_main_arg2 m c, GmlpIdeal.Gen.V_main_arg4 m c, GmlpIdeal.Gen.V_main_arg5 m c, GmlpIdeal.Gen.V_main_arg6 m c]
  · refine (θ_run _ _ _).mono (fun r h c => ?_) (Cert.GmlpRefIdeal.Value.run (F := Ideal) m' ρ')
    obtain ⟨h0, h1, h2, ha⟩ := h c
    obtain ⟨a0, a1, a2, a3, a4, a5, a6, a7⟩ := hag c
    refine ⟨h0.trans ?_, h1.trans ?_, h2.trans ?_, ha⟩
    · refine (Cert.GmlpRefIdeal.Read.val_main_v55_eq _ _).trans (Eq.trans ?_ (GmlpIdeal.Body.final10 m c).symm)
      rw [a0, a2, a3, a4, a5, a6, a7]
      funext i
      idx_vars i
      exact GmlpRefIdeal.Body.yp_at _ _ _ _ _ _ _ _ i0 i1 i2
    · refine (Cert.GmlpRefIdeal.Read.val_main_v104_eq _ _).trans (Eq.trans ?_ (GmlpIdeal.Body.final11 m c).symm)
      rw [a1, a2, a3, a4, a5, a6, a7]
      funext i
      idx_vars i
      exact GmlpRefIdeal.Body.ys_at _ _ _ _ _ _ _ _ i0 i1
    · refine (Cert.GmlpRefIdeal.Read.val_main_v93_eq _ _).trans (Eq.trans ?_ (GmlpIdeal.Body.final12 m c).symm)
      rw [a1, a2, a3, a4]
      funext i
      idx_vars i
      exact GmlpRefIdeal.Body.vs_at _ _ _ _ _ _ _ _ i0 i1

end Cert.GmlpClaims
end
-- ==== Proof.StreamStage.lean ====
module

public import proofs.«01_k».proof.Proof.Gen.StreamIdeal.Frame
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.StreamIdeal.Body

open Cert.StreamIdeal Cert.StreamIdeal.Gen Idealize.ShloMosaic Idealize.ShloMosaic.TcCoe Idealize.SL.Sem

/-- What a load of 32 rows at row `d` of a staging plane reads, when the plane's first 8 rows hold `hist` and the others hold `a`. -/
def tap {α : Type} (d : ℕ) (hd : d ≤ 8) (hist : S8x256.Idx → α) (a : S32x256.Idx → α) : S32x256.Idx → α := fun i =>
  if h : 8 ≤ d + (i 0).val then
    a (ix2 (⟨d + (i 0).val - 8, by have : (i 0).val < 32 := (i 0).isLt; omega⟩ : Fin 32) (i 1 : Fin 256))
  else hist (ix2 (⟨d + (i 0).val, by omega⟩ : Fin 8) (i 1 : Fin 256))

variable {F : FTy → Type} [FloatOps F]

/-- A value carried back from a box lifted over two leading unit axes, at an index: the value at that index behind two coordinates `0`. -/
theorem valAlong_lift2 {n : ℕ} {d : Fin n → ℕ} (lr : LoadRect ⟨n, d⟩) (sz : Fin (n + 1) → ℕ) (h0 : sz 0 = 1) (hs : ∀ i, sz i.succ = d i)
    (sz' : Fin (n + 1 + 1) → ℕ) (h0' : sz' 0 = 1) (hs' : ∀ i, sz' i.succ = sz i)
    (q : lr.shape.numel = ((lr.consLift sz h0 hs).consLift sz' h0' hs').shape.numel) {V : Type} (w : ((lr.consLift sz h0 hs).consLift sz' h0' hs').shape.Idx → V) (i : lr.shape.Idx) :
    LoadRect.valAlong q w i = w (Fin.cons ⟨0, Nat.one_pos⟩ (Fin.cons ⟨0, Nat.one_pos⟩ i)) := by
  refine congrArg w ?_
  rw [← Shape.reshapeEquiv_reshapeEquiv ((lr.consLift sz h0 hs).numel_consLift sz' h0' hs') (lr.numel_consLift sz h0 hs)]
  exact (congrArg (Shape.reshapeEquiv ((lr.consLift sz h0 hs).numel_consLift sz' h0' hs')) (Shape.reshapeEquiv_cons_one (d := lr.size) (lr.numel_consLift sz h0 hs) i)).trans
    (Shape.reshapeEquiv_cons_one (d := (lr.consLift sz h0 hs).size) _ _)

/-- A payload carried to a rectangle lifted over two leading unit axes, at an index: the payload at the index without its first two coordinates. -/
theorem payAlong_lift2 {n : ℕ} {d : Fin n → ℕ} (r : Rect ⟨n, d⟩) (sz : Fin (n + 1) → ℕ) (h0 : sz 0 = 1) (hs : ∀ i, sz i.succ = d i)
    (sz' : Fin (n + 1 + 1) → ℕ) (h0' : sz' 0 = 1) (hs' : ∀ i, sz' i.succ = sz i) {V : Type} (w₀ : r.shape.Idx → V)
    (hR : ((r.consLift sz h0 hs).consLift sz' h0' hs').shape.numel = r.shape.numel)
    (x : ((r.consLift sz h0 hs).consLift sz' h0' hs').shape.Idx) (z : r.shape.Idx) (hz : ∀ i : Fin n, (z i).val = (x i.succ.succ).val) : Rect.payAlong hR w₀ x = w₀ z := by
  refine congrArg w₀ ?_
  rw [← Shape.reshapeEquiv_reshapeEquiv (r.numel_consLift sz h0 hs) ((r.consLift sz h0 hs).numel_consLift sz' h0' hs')]
  refine funext fun i => Fin.ext ?_
  refine (r.reshapeEquiv_consLift_succ sz h0 hs _ i).symm.trans ?_
  exact ((r.consLift sz h0 hs).reshapeEquiv_consLift_succ sz' h0' hs' x i.succ).symm.trans (hz i).symm

set_option maxHeartbeats 4000000 in
theorem tap_read {sig : RefSig} {κ : Kind} {sp : Space} (v : View sig κ sp S2x8x40x256 .f32) (g s d : ℕ) (hd : d ≤ 8)
    (hs : ∀ a, ![g, s, 0, 0] a + S1x1x40x256.size a ≤ S2x8x40x256.size a)
    (h8 : ∀ a, ![8, 0] a + S32x256.size a ≤ S40x256.size a) (h0 : ∀ a, ![0, 0] a + S8x256.size a ≤ S40x256.size a)
    (hl : ∀ a, ![d, 0] a + S32x256.size a ≤ S40x256.size a) (p1 : (![1, 40, 256] : Fin (2 + 1) → ℕ) 0 = 1)
    (p2 : ∀ i : Fin 2, (![1, 40, 256] : Fin (2 + 1) → ℕ) i.succ = (![40, 256] : Fin 2 → ℕ) i) (p4 : (![1, 1, 40, 256] : Fin (3 + 1) → ℕ) 0 = 1)
    (p5 : ∀ i : Fin 3, (![1, 1, 40, 256] : Fin (3 + 1) → ℕ) i.succ = (![1, 40, 256] : Fin 3 → ℕ) i)
    (p3 : ∀ a, (Rect.unit (s := S2x8x40x256) ![g, s, 0, 0] S1x1x40x256.size hs).stride a = 1)
    (q8 : (Rect.consLift (n := 3) (d := ![1, 40, 256]) (Rect.consLift (n := 2) (d := ![40, 256]) (Rect.unit (s := S40x256) ![8, 0] S32x256.size h8) ![1, 40, 256] p1 p2) ![1, 1, 40, 256] p4 p5).shape.numel = (Rect.unit (s := S40x256) ![8, 0] S32x256.size h8).shape.numel)
    (q0 : (Rect.consLift (n := 3) (d := ![1, 40, 256]) (Rect.consLift (n := 2) (d := ![40, 256]) (Rect.unit (s := S40x256) ![0, 0] S8x256.size h0) ![1, 40, 256] p1 p2) ![1, 1, 40, 256] p4 p5).shape.numel = (Rect.unit (s := S40x256) ![0, 0] S8x256.size h0).shape.numel)
    (ql : (Rect.unit (s := S40x256) ![d, 0] S32x256.size hl).toLoadRect.shape.numel = (LoadRect.consLift (n := 3) (d := ![1, 40, 256]) (LoadRect.consLift (n := 2) (d := ![40, 256]) (Rect.unit (s := S40x256) ![d, 0] S32x256.size hl).toLoadRect ![1, 40, 256] p1 p2) ![1, 1, 40, 256] p4 p5).shape.numel)
    (a : S32x256.Idx → Elt F .f32) (hist : S8x256.Idx → Elt F .f32) (L : List (View.Piece (Elt F) S2x8x40x256 .f32)) :
    LoadRect.valAlong (s₀ := (Rect.unit (s := S2x8x40x256) ![g, s, 0, 0] S1x1x40x256.size hs).shape) (LR := (LoadRect.consLift (n := 3) (d := ![1, 40, 256]) (LoadRect.consLift (n := 2) (d := ![40, 256]) (Rect.unit (s := S40x256) ![d, 0] S32x256.size hl).toLoadRect ![1, 40, 256] p1 p2) ![1, 1, 40, 256] p4 p5)) ql (v.readCov (Val := Elt F)
        (⟨(Rect.unit (s := S2x8x40x256) ![g, s, 0, 0] S1x1x40x256.size hs).within (Rect.consLift (n := 3) (d := ![1, 40, 256]) (Rect.consLift (n := 2) (d := ![40, 256]) (Rect.unit (s := S40x256) ![8, 0] S32x256.size h8) ![1, 40, 256] p1 p2) ![1, 1, 40, 256] p4 p5) p3,
            Rect.payAlong (s₀ := (Rect.unit (s := S2x8x40x256) ![g, s, 0, 0] S1x1x40x256.size hs).shape) (R := (Rect.consLift (n := 3) (d := ![1, 40, 256]) (Rect.consLift (n := 2) (d := ![40, 256]) (Rect.unit (s := S40x256) ![8, 0] S32x256.size h8) ![1, 40, 256] p1 p2) ![1, 1, 40, 256] p4 p5)) q8 a⟩
          :: ⟨(Rect.unit (s := S2x8x40x256) ![g, s, 0, 0] S1x1x40x256.size hs).within (Rect.consLift (n := 3) (d := ![1, 40, 256]) (Rect.consLift (n := 2) (d := ![40, 256]) (Rect.unit (s := S40x256) ![0, 0] S8x256.size h0) ![1, 40, 256] p1 p2) ![1, 1, 40, 256] p4 p5) p3,
            Rect.payAlong (s₀ := (Rect.unit (s := S2x8x40x256) ![g, s, 0, 0] S1x1x40x256.size hs).shape) (R := (Rect.consLift (n := 3) (d := ![1, 40, 256]) (Rect.consLift (n := 2) (d := ![40, 256]) (Rect.unit (s := S40x256) ![0, 0] S8x256.size h0) ![1, 40, 256] p1 p2) ![1, 1, 40, 256] p4 p5)) q0 hist⟩ :: L)
        ((Rect.unit (s := S2x8x40x256) ![g, s, 0, 0] S1x1x40x256.size hs).withinL (LoadRect.consLift (n := 3) (d := ![1, 40, 256]) (LoadRect.consLift (n := 2) (d := ![40, 256]) (Rect.unit (s := S40x256) ![d, 0] S32x256.size hl).toLoadRect ![1, 40, 256] p1 p2) ![1, 1, 40, 256] p4 p5) p3))
      = tap d hd hist a := by
  rw [View.readCov_eq_canon']
  funext i
  have hi0 : (i 0).val < 32 := (i 0).isLt
  refine (valAlong_lift2 _ _ _ _ _ _ _ _ _ _).trans ?_
  unfold tap
  split
  · rename_i h
    have e := View.canon_cons_emb (Val := Elt F) ((Rect.unit (s := S2x8x40x256) ![g, s, 0, 0] S1x1x40x256.size hs).within (Rect.consLift (n := 3) (d := ![1, 40, 256]) (Rect.consLift (n := 2) (d := ![40, 256]) (Rect.unit (s := S40x256) ![8, 0] S32x256.size h8) ![1, 40, 256] p1 p2) ![1, 1, 40, 256] p4 p5) p3)
      (Rect.payAlong (s₀ := (Rect.unit (s := S2x8x40x256) ![g, s, 0, 0] S1x1x40x256.size hs).shape) (R := (Rect.consLift (n := 3) (d := ![1, 40, 256]) (Rect.consLift (n := 2) (d := ![40, 256]) (Rect.unit (s := S40x256) ![8, 0] S32x256.size h8) ![1, 40, 256] p1 p2) ![1, 1, 40, 256] p4 p5)) q8 a)
      (⟨(Rect.unit (s := S2x8x40x256) ![g, s, 0, 0] S1x1x40x256.size hs).within (Rect.consLift (n := 3) (d := ![1, 40, 256]) (Rect.consLift (n := 2) (d := ![40, 256]) (Rect.unit (s := S40x256) ![0, 0] S8x256.size h0) ![1, 40, 256] p1 p2) ![1, 1, 40, 256] p4 p5) p3, Rect.payAlong (s₀ := (Rect.unit (s := S2x8x40x256) ![g, s, 0, 0] S1x1x40x256.size hs).shape) (R := (Rect.consLift (n := 3) (d := ![1, 40, 256]) (Rect.consLift (n := 2) (d := ![40, 256]) (Rect.unit (s := S40x256) ![0, 0] S8x256.size h0) ![1, 40, 256] p1 p2) ![1, 1, 40, 256] p4 p5)) q0 hist⟩ :: L)
      (Fin.cons ⟨0, Nat.one_pos⟩ (Fin.cons ⟨0, Nat.one_pos⟩ (ix2 (⟨d + (i 0).val - 8, by omega⟩ : Fin 32) (i 1 : Fin 256))))
    refine Eq.trans ?_ (e.trans (payAlong_lift2 _ _ _ _ _ _ _ _ _ _ _ (fun _ => rfl)))
    congr 1
    funext b; apply Fin.ext
    fin_cases b
    · rfl
    · rfl
    · show 0 + d + 1 * (i 0).val = 0 + 8 + 1 * (d + (i 0).val - 8); omega
    · rfl
  · rename_i h
    have e := View.canon_cons_emb (Val := Elt F) ((Rect.unit (s := S2x8x40x256) ![g, s, 0, 0] S1x1x40x256.size hs).within (Rect.consLift (n := 3) (d := ![1, 40, 256]) (Rect.consLift (n := 2) (d := ![40, 256]) (Rect.unit (s := S40x256) ![0, 0] S8x256.size h0) ![1, 40, 256] p1 p2) ![1, 1, 40, 256] p4 p5) p3)
      (Rect.payAlong (s₀ := (Rect.unit (s := S2x8x40x256) ![g, s, 0, 0] S1x1x40x256.size hs).shape) (R := (Rect.consLift (n := 3) (d := ![1, 40, 256]) (Rect.consLift (n := 2) (d := ![40, 256]) (Rect.unit (s := S40x256) ![0, 0] S8x256.size h0) ![1, 40, 256] p1 p2) ![1, 1, 40, 256] p4 p5)) q0 hist) L
      (Fin.cons ⟨0, Nat.one_pos⟩ (Fin.cons ⟨0, Nat.one_pos⟩ (ix2 (⟨d + (i 0).val, by omega⟩ : Fin 8) (i 1 : Fin 256))))
    rw [View.canon_cons_of_not_mem]
    · refine Eq.trans ?_ (e.trans (payAlong_lift2 _ _ _ _ _ _ _ _ _ _ _ (fun _ => rfl)))
      congr 1
      funext b; apply Fin.ext
      fin_cases b
      · rfl
      · rfl
      · show 0 + d + 1 * (i 0).val = 0 + 0 + 1 * (d + (i 0).val); omega
      · rfl
    · rw [LoadRect.mem_set]
      intro hm
      obtain ⟨k, hk, e⟩ := hm 2
      have e' : 0 + d + 1 * (i 0).val = 0 + 8 + 1 * k := e
      omega

/-- `tap_read` with the sizes written out. -/
theorem tap_read_lit {sig : RefSig} {κ : Kind} {sp : Space} (v : View sig κ sp S2x8x40x256 .f32) (g s d : ℕ) (hd : d ≤ 8)
    (hs : ∀ a, ![g, s, 0, 0] a + (![1, 1, 40, 256] : Fin 4 → ℕ) a ≤ S2x8x40x256.size a)
    (h8 : ∀ a, ![8, 0] a + (![32, 256] : Fin 2 → ℕ) a ≤ S40x256.size a) (h0 : ∀ a, ![0, 0] a + (![8, 256] : Fin 2 → ℕ) a ≤ S40x256.size a)
    (hl : ∀ a, ![d, 0] a + (![32, 256] : Fin 2 → ℕ) a ≤ S40x256.size a) (p1 : (![1, 40, 256] : Fin (2 + 1) → ℕ) 0 = 1)
    (p2 : ∀ i : Fin 2, (![1, 40, 256] : Fin (2 + 1) → ℕ) i.succ = (![40, 256] : Fin 2 → ℕ) i) (p4 : (![1, 1, 40, 256] : Fin (3 + 1) → ℕ) 0 = 1)
    (p5 : ∀ i : Fin 3, (![1, 1, 40, 256] : Fin (3 + 1) → ℕ) i.succ = (![1, 40, 256] : Fin 3 → ℕ) i)
    (p3 : ∀ a, (Rect.unit (s := S2x8x40x256) ![g, s, 0, 0] ![1, 1, 40, 256] hs).stride a = 1)
    (q8 : (Rect.consLift (n := 3) (d := ![1, 40, 256]) (Rect.consLift (n := 2) (d := ![40, 256]) (Rect.unit (s := S40x256) ![8, 0] ![32, 256] h8) ![1, 40, 256] p1 p2) ![1, 1, 40, 256] p4 p5).shape.numel = (Rect.unit (s := S40x256) ![8, 0] ![32, 256] h8).shape.numel)
    (q0 : (Rect.consLift (n := 3) (d := ![1, 40, 256]) (Rect.consLift (n := 2) (d := ![40, 256]) (Rect.unit (s := S40x256) ![0, 0] ![8, 256] h0) ![1, 40, 256] p1 p2) ![1, 1, 40, 256] p4 p5).shape.numel = (Rect.unit (s := S40x256) ![0, 0] ![8, 256] h0).shape.numel)
    (ql : (Rect.unit (s := S40x256) ![d, 0] ![32, 256] hl).toLoadRect.shape.numel = (LoadRect.consLift (n := 3) (d := ![1, 40, 256]) (LoadRect.consLift (n := 2) (d := ![40, 256]) (Rect.unit (s := S40x256) ![d, 0] ![32, 256] hl).toLoadRect ![1, 40, 256] p1 p2) ![1, 1, 40, 256] p4 p5).shape.numel)
    (a : S32x256.Idx → Elt F .f32) (hist : S8x256.Idx → Elt F .f32) (L : List (View.Piece (Elt F) S2x8x40x256 .f32)) :
    LoadRect.valAlong (s₀ := (Rect.unit (s := S2x8x40x256) ![g, s, 0, 0] ![1, 1, 40, 256] hs).shape) (LR := (LoadRect.consLift (n := 3) (d := ![1, 40, 256]) (LoadRect.consLift (n := 2) (d := ![40, 256]) (Rect.unit (s := S40x256) ![d, 0] ![32, 256] hl).toLoadRect ![1, 40, 256] p1 p2) ![1, 1, 40, 256] p4 p5)) ql (v.readCov (Val := Elt F)
        (⟨(Rect.unit (s := S2x8x40x256) ![g, s, 0, 0] ![1, 1, 40, 256] hs).within (Rect.consLift (n := 3) (d := ![1, 40, 256]) (Rect.consLift (n := 2) (d := ![40, 256]) (Rect.unit (s := S40x256) ![8, 0] ![32, 256] h8) ![1, 40, 256] p1 p2) ![1, 1, 40, 256] p4 p5) p3,
            Rect.payAlong (s₀ := (Rect.unit (s := S2x8x40x256) ![g, s, 0, 0] ![1, 1, 40, 256] hs).shape) (R := (Rect.consLift (n := 3) (d := ![1, 40, 256]) (Rect.consLift (n := 2) (d := ![40, 256]) (Rect.unit (s := S40x256) ![8, 0] ![32, 256] h8) ![1, 40, 256] p1 p2) ![1, 1, 40, 256] p4 p5)) q8 a⟩
          :: ⟨(Rect.unit (s := S2x8x40x256) ![g, s, 0, 0] ![1, 1, 40, 256] hs).within (Rect.consLift (n := 3) (d := ![1, 40, 256]) (Rect.consLift (n := 2) (d := ![40, 256]) (Rect.unit (s := S40x256) ![0, 0] ![8, 256] h0) ![1, 40, 256] p1 p2) ![1, 1, 40, 256] p4 p5) p3,
            Rect.payAlong (s₀ := (Rect.unit (s := S2x8x40x256) ![g, s, 0, 0] ![1, 1, 40, 256] hs).shape) (R := (Rect.consLift (n := 3) (d := ![1, 40, 256]) (Rect.consLift (n := 2) (d := ![40, 256]) (Rect.unit (s := S40x256) ![0, 0] ![8, 256] h0) ![1, 40, 256] p1 p2) ![1, 1, 40, 256] p4 p5)) q0 hist⟩ :: L)
        ((Rect.unit (s := S2x8x40x256) ![g, s, 0, 0] ![1, 1, 40, 256] hs).withinL (LoadRect.consLift (n := 3) (d := ![1, 40, 256]) (LoadRect.consLift (n := 2) (d := ![40, 256]) (Rect.unit (s := S40x256) ![d, 0] ![32, 256] hl).toLoadRect ![1, 40, 256] p1 p2) ![1, 1, 40, 256] p4 p5) p3))
      = tap d hd hist a := tap_read v g s d hd hs h8 h0 hl p1 p2 p4 p5 p3 q8 q0 ql a hist L

end Cert.StreamIdeal.Body

end
-- ==== Proof.StreamParts.lean ====
module

public import proofs.«01_k».proof.Proof.StreamStage
public import Idealize.ShloMosaic.Lib.Pipeline.ValueKit
public import Idealize.ShloMosaic.Lib.Pipeline.ReadBack

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

theorem own_slices (s : Fin 8) : S256x256.Slices ![32 * s.val, 0] S32x256 :=
  ⟨rfl, fun a => by
    have hs := s.isLt
    fin_cases a
    · show 32 * s.val + 32 ≤ 256; omega
    · show 0 + 256 ≤ 256; omega⟩

theorem end_slices (s : Fin 8) : S256x256.Slices ![32 * s.val + 24, 0] S8x256 :=
  ⟨rfl, fun a => by
    have hs := s.isLt
    fin_cases a
    · show 32 * s.val + 24 + 8 ≤ 256; omega
    · show 0 + 256 ≤ 256; omega⟩

theorem hist_in (s : Fin 8) : ∀ a, ![s.val, 0, 0] a + (![1, 8, 256] : Fin 3 → ℕ) a ≤ S8x8x256.size a := by
  intro a; have := s.isLt; fin_cases a
  · show s.val + 1 ≤ 8; omega
  · show 0 + 8 ≤ 8; omega
  · show 0 + 256 ≤ 256; omega

/-- The rows of sequence `s` among all rows of a column block. -/
def own (a : FVec F S256x256 .f32) (s : Fin 8) : FVec F S32x256 .f32 :=
  shapeCast S32x256 (extractStridedSlice S32x256 ![32 * s.val, 0] a (own_slices s)) shapeCasts_S32x256_S32x256

/-- The eight rows staged before sequence `s`. -/
def hist (x : Vec F S8x8x256 .f32) (s : Fin 8) : FVec F S8x256 .f32 :=
  shapeCast S8x256 (shapeCast S8x256 (View.ld x (Rect.unit (s := S8x8x256) ![s.val, 0, 0] ![1, 8, 256] (hist_in s))) shapeCasts_S1x8x256_S8x256) shapeCasts_S8x256_S8x256

/-- The convolution of one sequence: bias and three taps over its rows staged behind the earlier ones. -/
def conv (cw : Vec F S1x3x256 .f32) (cb : Vec F S1x1x256 .f32) (x : Vec F S8x8x256 .f32) (a : FVec F S256x256 .f32) (s : Fin 8) : FVec F S32x256 .f32 :=
  k0_pay12 cw cb (tap 8 (by decide) (hist x s) (own a s)) (tap 7 (by decide) (hist x s) (own a s)) (tap 6 (by decide) (hist x s) (own a s))

/-- The convolution of all sequences, one above the other. -/
def half (cw : Vec F S1x3x256 .f32) (cb : Vec F S1x1x256 .f32) (x : Vec F S8x8x256 .f32) (a : FVec F S256x256 .f32) : FVec F S256x256 .f32 :=
  concatenate S256x256 0 [⟨S32x256, conv cw cb x a 0⟩, ⟨S32x256, conv cw cb x a 1⟩, ⟨S32x256, conv cw cb x a 2⟩, ⟨S32x256, conv cw cb x a 3⟩, ⟨S32x256, conv cw cb x a 4⟩, ⟨S32x256, conv cw cb x a 5⟩, ⟨S32x256, conv cw cb x a 6⟩, ⟨S32x256, conv cw cb x a 7⟩] concatenates_S32x256_S32x256_S32x256_S32x256_S32x256_S32x256_S32x256_S32x256_S256x256_d0

/-- The sum kept so far and this block's product added to it. -/
def addOn (g v : FVec F S256x256 .f32) (w : Vec F S1x256x1024 .f32) (acc : Vec F S256x1024 .f32) : FVec F S256x1024 .f32 :=
  k0_pay1 (addf acc (matmul dot_S256x256_S256x1024_S256x1024_1_0_0_1_n_n none (truncf .bf16 (mulf (mulf g (logistic g)) v) bitsLt_bf16_f32) (k0_pay103 w) (constant S256x1024 .f32 0x00000000#32)))

/-- The sum a grid point leaves. -/
def accBlk (x2 x3 : Vec F S8x8x256 .f32) (x4 x5 : Vec F S1x1024x256 .f32) (x6 x7 : Vec F S1x3x256 .f32) (x8 x9 : Vec F S1x1x256 .f32) (x10 : Vec F S1x256x1024 .f32)
    (h : Vec F S256x1024 .bf16) (acc : Vec F S256x1024 .f32) : FVec F S256x1024 .f32 :=
  addOn (half x6 x8 x2 (k0_pay7 x4 h)) (half x7 x9 x3 (k0_pay7 x5 h)) x10 acc

/-- The last eight rows of sequence `s` of a column block. -/
def endS (a : FVec F S256x256 .f32) (s : Fin 8) : FVec F S1x8x256 .f32 :=
  shapeCast S1x8x256 (extractStridedSlice S8x256 ![32 * s.val + 24, 0] a (end_slices s)) shapeCasts_S8x256_S1x8x256

/-- The last eight rows of every sequence of a column block. -/
def endBlk (a : FVec F S256x256 .f32) : Vec F S8x8x256 .f32 := fun y => endS a (y 0 : Fin 8) (ix3 (0 : Fin 1) (y 1 : Fin 8) (y 2 : Fin 256))

theorem end_at (a : FVec F S256x256 .f32) (s : Fin 8) (x : S1x8x256.Idx) (y : S8x8x256.Idx) (h0 : (y 0).val = s.val) (h1 : (y 1).val = (x 1).val) (h2 : (y 2).val = (x 2).val) :
    endS a s x = endBlk a y := by
  have hx0 : (x 0).val < 1 := (x 0).isLt
  unfold endBlk
  have e : (y 0 : Fin 8) = s := Fin.ext h0
  rw [e]
  congr 1
  funext a; apply Fin.ext; fin_cases a
  · show (x 0).val = 0; omega
  · exact h1.symm
  · exact h2.symm

end Cert.StreamIdeal.Body

end
-- ==== Proof.StreamOutsA.lean ====
module

public import proofs.«01_k».proof.Proof.StreamParts

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

set_option maxHeartbeats 4000000 in
/-- What a point of case A leaves in the gate's last rows. -/
theorem out_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = endBlk (k0_pay7 x4 (k0_pay3 x0 x1)) := by
  frame_open
  frame_out
  funext y
  canon_tiles x h
  · exact end_at (k0_pay7 x4 (k0_pay3 x0 x1)) 7 x y (by have hx : (x 0).val < 1 := (x 0).isLt; show _ = 7; omega) (by omega) (by omega)
  · exact end_at (k0_pay7 x4 (k0_pay3 x0 x1)) 6 x y (by have hx : (x 0).val < 1 := (x 0).isLt; show _ = 6; omega) (by omega) (by omega)
  · exact end_at (k0_pay7 x4 (k0_pay3 x0 x1)) 5 x y (by have hx : (x 0).val < 1 := (x 0).isLt; show _ = 5; omega) (by omega) (by omega)
  · exact end_at (k0_pay7 x4 (k0_pay3 x0 x1)) 4 x y (by have hx : (x 0).val < 1 := (x 0).isLt; show _ = 4; omega) (by omega) (by omega)
  · exact end_at (k0_pay7 x4 (k0_pay3 x0 x1)) 3 x y (by have hx : (x 0).val < 1 := (x 0).isLt; show _ = 3; omega) (by omega) (by omega)
  · exact end_at (k0_pay7 x4 (k0_pay3 x0 x1)) 2 x y (by have hx : (x 0).val < 1 := (x 0).isLt; show _ = 2; omega) (by omega) (by omega)
  · exact end_at (k0_pay7 x4 (k0_pay3 x0 x1)) 1 x y (by have hx : (x 0).val < 1 := (x 0).isLt; show _ = 1; omega) (by omega) (by omega)
  · exact end_at (k0_pay7 x4 (k0_pay3 x0 x1)) 0 x y (by have hx : (x 0).val < 1 := (x 0).isLt; show _ = 0; omega) (by omega) (by omega)

set_option maxHeartbeats 4000000 in
/-- What a point of case A leaves in the value's last rows. -/
theorem out_A_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = endBlk (k0_pay7 x5 (k0_pay3 x0 x1)) := by
  frame_open
  frame_out
  funext y
  canon_tiles x h
  · exact end_at (k0_pay7 x5 (k0_pay3 x0 x1)) 7 x y (by have hx : (x 0).val < 1 := (x 0).isLt; show _ = 7; omega) (by omega) (by omega)
  · exact end_at (k0_pay7 x5 (k0_pay3 x0 x1)) 6 x y (by have hx : (x 0).val < 1 := (x 0).isLt; show _ = 6; omega) (by omega) (by omega)
  · exact end_at (k0_pay7 x5 (k0_pay3 x0 x1)) 5 x y (by have hx : (x 0).val < 1 := (x 0).isLt; show _ = 5; omega) (by omega) (by omega)
  · exact end_at (k0_pay7 x5 (k0_pay3 x0 x1)) 4 x y (by have hx : (x 0).val < 1 := (x 0).isLt; show _ = 4; omega) (by omega) (by omega)
  · exact end_at (k0_pay7 x5 (k0_pay3 x0 x1)) 3 x y (by have hx : (x 0).val < 1 := (x 0).isLt; show _ = 3; omega) (by omega) (by omega)
  · exact end_at (k0_pay7 x5 (k0_pay3 x0 x1)) 2 x y (by have hx : (x 0).val < 1 := (x 0).isLt; show _ = 2; omega) (by omega) (by omega)
  · exact end_at (k0_pay7 x5 (k0_pay3 x0 x1)) 1 x y (by have hx : (x 0).val < 1 := (x 0).isLt; show _ = 1; omega) (by omega) (by omega)
  · exact end_at (k0_pay7 x5 (k0_pay3 x0 x1)) 0 x y (by have hx : (x 0).val < 1 := (x 0).isLt; show _ = 0; omega) (by omega) (by omega)

set_option maxHeartbeats 4000000 in
/-- What a point of case A leaves in the gate's packed weights. -/
theorem out_A_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = k0_pay6 x4 := by
  frame_open
  frame_out

set_option maxHeartbeats 4000000 in
/-- What a point of case A leaves in the value's packed weights. -/
theorem out_A_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = k0_pay56 x5 := by
  frame_open
  frame_out

set_option maxHeartbeats 4000000 in
/-- What a point of case A leaves in the packed down-projection. -/
theorem out_A_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = k0_pay103 x10 := by
  frame_open
  frame_out

set_option maxHeartbeats 4000000 in
/-- What a point of case A leaves in the normed rows. -/
theorem sout_A_0 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = k0_pay3 x0 x1 := by
  frame_open
  frame_out

end Cert.StreamIdeal.Body

end
-- ==== Proof.StreamOutsB.lean ====
module

public import proofs.«01_k».proof.Proof.StreamParts

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

set_option maxHeartbeats 4000000 in
/-- What a point of case B leaves in the gate's last rows. -/
theorem out_B_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = endBlk (k0_pay7 x4 xs0) := by
  frame_open
  frame_out
  funext y
  canon_tiles x h
  · exact end_at (k0_pay7 x4 xs0) 7 x y (by have hx : (x 0).val < 1 := (x 0).isLt; show _ = 7; omega) (by omega) (by omega)
  · exact end_at (k0_pay7 x4 xs0) 6 x y (by have hx : (x 0).val < 1 := (x 0).isLt; show _ = 6; omega) (by omega) (by omega)
  · exact end_at (k0_pay7 x4 xs0) 5 x y (by have hx : (x 0).val < 1 := (x 0).isLt; show _ = 5; omega) (by omega) (by omega)
  · exact end_at (k0_pay7 x4 xs0) 4 x y (by have hx : (x 0).val < 1 := (x 0).isLt; show _ = 4; omega) (by omega) (by omega)
  · exact end_at (k0_pay7 x4 xs0) 3 x y (by have hx : (x 0).val < 1 := (x 0).isLt; show _ = 3; omega) (by omega) (by omega)
  · exact end_at (k0_pay7 x4 xs0) 2 x y (by have hx : (x 0).val < 1 := (x 0).isLt; show _ = 2; omega) (by omega) (by omega)
  · exact end_at (k0_pay7 x4 xs0) 1 x y (by have hx : (x 0).val < 1 := (x 0).isLt; show _ = 1; omega) (by omega) (by omega)
  · exact end_at (k0_pay7 x4 xs0) 0 x y (by have hx : (x 0).val < 1 := (x 0).isLt; show _ = 0; omega) (by omega) (by omega)

set_option maxHeartbeats 4000000 in
/-- What a point of case B leaves in the value's last rows. -/
theorem out_B_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = endBlk (k0_pay7 x5 xs0) := by
  frame_open
  frame_out
  funext y
  canon_tiles x h
  · exact end_at (k0_pay7 x5 xs0) 7 x y (by have hx : (x 0).val < 1 := (x 0).isLt; show _ = 7; omega) (by omega) (by omega)
  · exact end_at (k0_pay7 x5 xs0) 6 x y (by have hx : (x 0).val < 1 := (x 0).isLt; show _ = 6; omega) (by omega) (by omega)
  · exact end_at (k0_pay7 x5 xs0) 5 x y (by have hx : (x 0).val < 1 := (x 0).isLt; show _ = 5; omega) (by omega) (by omega)
  · exact end_at (k0_pay7 x5 xs0) 4 x y (by have hx : (x 0).val < 1 := (x 0).isLt; show _ = 4; omega) (by omega) (by omega)
  · exact end_at (k0_pay7 x5 xs0) 3 x y (by have hx : (x 0).val < 1 := (x 0).isLt; show _ = 3; omega) (by omega) (by omega)
  · exact end_at (k0_pay7 x5 xs0) 2 x y (by have hx : (x 0).val < 1 := (x 0).isLt; show _ = 2; omega) (by omega) (by omega)
  · exact end_at (k0_pay7 x5 xs0) 1 x y (by have hx : (x 0).val < 1 := (x 0).isLt; show _ = 1; omega) (by omega) (by omega)
  · exact end_at (k0_pay7 x5 xs0) 0 x y (by have hx : (x 0).val < 1 := (x 0).isLt; show _ = 0; omega) (by omega) (by omega)

set_option maxHeartbeats 4000000 in
/-- What a point of case B leaves in the gate's packed weights. -/
theorem out_B_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay6 x4 := by
  frame_open
  frame_out

set_option maxHeartbeats 4000000 in
/-- What a point of case B leaves in the value's packed weights. -/
theorem out_B_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay56 x5 := by
  frame_open
  frame_out

set_option maxHeartbeats 4000000 in
/-- What a point of case B leaves in the packed down-projection. -/
theorem out_B_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay103 x10 := by
  frame_open
  frame_out

end Cert.StreamIdeal.Body

end
-- ==== Proof.StreamOutsC.lean ====
module

public import proofs.«01_k».proof.Proof.StreamParts

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

set_option maxHeartbeats 4000000 in
/-- What a point of case C leaves in the gate's last rows. -/
theorem out_C_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = endBlk (k0_pay7 x4 xs0) := by
  frame_open
  frame_out
  funext y
  canon_tiles x h
  · exact end_at (k0_pay7 x4 xs0) 7 x y (by have hx : (x 0).val < 1 := (x 0).isLt; show _ = 7; omega) (by omega) (by omega)
  · exact end_at (k0_pay7 x4 xs0) 6 x y (by have hx : (x 0).val < 1 := (x 0).isLt; show _ = 6; omega) (by omega) (by omega)
  · exact end_at (k0_pay7 x4 xs0) 5 x y (by have hx : (x 0).val < 1 := (x 0).isLt; show _ = 5; omega) (by omega) (by omega)
  · exact end_at (k0_pay7 x4 xs0) 4 x y (by have hx : (x 0).val < 1 := (x 0).isLt; show _ = 4; omega) (by omega) (by omega)
  · exact end_at (k0_pay7 x4 xs0) 3 x y (by have hx : (x 0).val < 1 := (x 0).isLt; show _ = 3; omega) (by omega) (by omega)
  · exact end_at (k0_pay7 x4 xs0) 2 x y (by have hx : (x 0).val < 1 := (x 0).isLt; show _ = 2; omega) (by omega) (by omega)
  · exact end_at (k0_pay7 x4 xs0) 1 x y (by have hx : (x 0).val < 1 := (x 0).isLt; show _ = 1; omega) (by omega) (by omega)
  · exact end_at (k0_pay7 x4 xs0) 0 x y (by have hx : (x 0).val < 1 := (x 0).isLt; show _ = 0; omega) (by omega) (by omega)

set_option maxHeartbeats 4000000 in
/-- What a point of case C leaves in the value's last rows. -/
theorem out_C_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = endBlk (k0_pay7 x5 xs0) := by
  frame_open
  frame_out
  funext y
  canon_tiles x h
  · exact end_at (k0_pay7 x5 xs0) 7 x y (by have hx : (x 0).val < 1 := (x 0).isLt; show _ = 7; omega) (by omega) (by omega)
  · exact end_at (k0_pay7 x5 xs0) 6 x y (by have hx : (x 0).val < 1 := (x 0).isLt; show _ = 6; omega) (by omega) (by omega)
  · exact end_at (k0_pay7 x5 xs0) 5 x y (by have hx : (x 0).val < 1 := (x 0).isLt; show _ = 5; omega) (by omega) (by omega)
  · exact end_at (k0_pay7 x5 xs0) 4 x y (by have hx : (x 0).val < 1 := (x 0).isLt; show _ = 4; omega) (by omega) (by omega)
  · exact end_at (k0_pay7 x5 xs0) 3 x y (by have hx : (x 0).val < 1 := (x 0).isLt; show _ = 3; omega) (by omega) (by omega)
  · exact end_at (k0_pay7 x5 xs0) 2 x y (by have hx : (x 0).val < 1 := (x 0).isLt; show _ = 2; omega) (by omega) (by omega)
  · exact end_at (k0_pay7 x5 xs0) 1 x y (by have hx : (x 0).val < 1 := (x 0).isLt; show _ = 1; omega) (by omega) (by omega)
  · exact end_at (k0_pay7 x5 xs0) 0 x y (by have hx : (x 0).val < 1 := (x 0).isLt; show _ = 0; omega) (by omega) (by omega)

set_option maxHeartbeats 4000000 in
/-- What a point of case C leaves in the gate's packed weights. -/
theorem out_C_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay6 x4 := by
  frame_open
  frame_out

set_option maxHeartbeats 4000000 in
/-- What a point of case C leaves in the value's packed weights. -/
theorem out_C_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay56 x5 := by
  frame_open
  frame_out

set_option maxHeartbeats 4000000 in
/-- What a point of case C leaves in the packed down-projection. -/
theorem out_C_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay103 x10 := by
  frame_open
  frame_out

end Cert.StreamIdeal.Body

end
-- ==== Proof.StreamSumA.lean ====
module

public import proofs.«01_k».proof.Proof.StreamParts

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

set_option maxHeartbeats 4000000 in
/-- What a point of case A leaves in the running sum. -/
theorem sout_A_1 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = accBlk x2 x3 x4 x5 x6 x7 x8 x9 x10 (k0_pay3 x0 x1) k0_pay4 := by
  frame_open
  frame_out
  repeat rw [tap_read_lit _ _ _ 8 (by decide)]
  repeat rw [tap_read_lit _ _ _ 7 (by decide)]
  repeat rw [tap_read_lit _ _ _ 6 (by decide)]
  rfl

end Cert.StreamIdeal.Body

end
-- ==== Proof.StreamSumB.lean ====
module

public import proofs.«01_k».proof.Proof.StreamParts

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

set_option maxHeartbeats 4000000 in
/-- What a point of case B leaves in the running sum. -/
theorem sout_B_1 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : ¬cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = accBlk x2 x3 x4 x5 x6 x7 x8 x9 x10 xs0 xs1 := by
  frame_open
  frame_out
  repeat rw [tap_read_lit _ _ _ 8 (by decide)]
  repeat rw [tap_read_lit _ _ _ 7 (by decide)]
  repeat rw [tap_read_lit _ _ _ 6 (by decide)]
  rfl

end Cert.StreamIdeal.Body

end
-- ==== Proof.StreamSumC.lean ====
module

public import proofs.«01_k».proof.Proof.StreamParts

@[expose] public section

set_option maxRecDepth 16384

noncomputable section

namespace Cert.StreamIdeal.Body

open Cert.StreamIdeal Cert.StreamIdeal.Gen Idealize.ShloMosaic Idealize.ShloMosaic.TcCoe Idealize.SL.Sem

variable {F : FTy → Type} [FloatOps F]

set_option maxHeartbeats 4000000 in
/-- What a point of case C leaves in the running sum. -/
theorem sout_C_1 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = accBlk x2 x3 x4 x5 x6 x7 x8 x9 x10 xs0 xs1 := by
  frame_open
  frame_out
  repeat rw [tap_read_lit _ _ _ 8 (by decide)]
  repeat rw [tap_read_lit _ _ _ 7 (by decide)]
  repeat rw [tap_read_lit _ _ _ 6 (by decide)]
  rfl

set_option maxHeartbeats 4000000 in
/-- What a point of case C leaves in the result. -/
theorem out_C_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x8x256 .f32) (harg3 : arg3.IsWhole) (arg4 : Memref sig .tc .vmem S8x8x256 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S1x3x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S8x8x256 .f32) (harg14 : arg14.IsWhole) (arg15 : Memref sig .tc .vmem S8x8x256 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S2x8x40x256 .f32) (harg21 : arg21.IsWhole) (hc0 : ¬cond0_0 i) (hc1 : cond0_1 i)
    (x0 : Vec F S256x1024 .f32) (x1 : Vec F S1x1024 .f32) (x2 : Vec F S8x8x256 .f32) (x3 : Vec F S8x8x256 .f32) (x4 : Vec F S1x1024x256 .f32) (x5 : Vec F S1x1024x256 .f32) (x6 : Vec F S1x3x256 .f32) (x7 : Vec F S1x3x256 .f32) (x8 : Vec F S1x1x256 .f32) (x9 : Vec F S1x1x256 .f32) (x10 : Vec F S1x256x1024 .f32) (x11 : Vec F S1x1024 .f32) (xs0 : Vec F S256x1024 .bf16) (xs1 : Vec F S256x1024 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 = k0_pay2 x0 (accBlk x2 x3 x4 x5 x6 x7 x8 x9 x10 xs0 xs1) x11 := by
  frame_open
  frame_out
  repeat rw [tap_read_lit _ _ _ 8 (by decide)]
  repeat rw [tap_read_lit _ _ _ 7 (by decide)]
  repeat rw [tap_read_lit _ _ _ 6 (by decide)]
  rfl

end Cert.StreamIdeal.Body

end
-- ==== Proof.StreamMath.lean ====
module

public import proofs.«01_k».proof.Proof.FfnMath

@[expose] public section

noncomputable section

namespace Cert.StreamMath

open Idealize.ShloMosaic Cert.FfnMath

/-- The arguments of the streamed layer, each read by its coordinates: 8 sequences of 32 rows one after the other, and for each the two rows before it. -/
structure Args where
  X : Fin 256 → Fin 1024 → EReal
  G : Fin 1024 → EReal
  H : Fin 8 → Fin 2 → Fin 5632 → EReal
  W : Fin 1024 → Fin 5632 → EReal
  CW : Fin 3 → Fin 5632 → EReal
  CB : Fin 5632 → EReal
  Wd : Fin 2816 → Fin 1024 → EReal
  FG : Fin 1024 → EReal

variable (P : Args)

/-- The up-projection of row `r`. -/
def up (r : Fin 256) (c : Fin 5632) : EReal := ∑ i, rms (P.X r) P.G i * P.W i c

/-- Row `t` of sequence `s` among all rows. -/
abbrev row (s : Fin 8) (t : Fin 32) : Fin 256 := ⟨32 * s.val + t.val, by omega⟩

/-- The up-projection of the `t`-th of the 34 rows of a sequence: its two earlier rows, then its own 32. -/
def full (s : Fin 8) (t : Fin 34) (c : Fin 5632) : EReal :=
  if h : 2 ≤ t.val then up P (row s ⟨t.val - 2, by omega⟩) c else P.H s ⟨t.val, by omega⟩ c

/-- The convolution over a row and the two before it. -/
def conv (s : Fin 8) (t : Fin 32) (c : Fin 5632) : EReal :=
  P.CB c + full P s ⟨2 + t.val, by omega⟩ c * P.CW 2 c + full P s ⟨1 + t.val, by omega⟩ c * P.CW 1 c + full P s ⟨t.val, by omega⟩ c * P.CW 0 c

/-- The gated activation. -/
def act (s : Fin 8) (t : Fin 32) (d : Fin 2816) : EReal :=
  conv P s t ⟨d.val, by omega⟩ * Ideal.logistic (conv P s t ⟨d.val, by omega⟩) * conv P s t ⟨2816 + d.val, by omega⟩

/-- The product of one block of 256 activations with the rows of the down-projection they meet. -/
def part (s : Fin 8) (t : Fin 32) (k : Fin 1024) (j : Fin 11) : EReal :=
  ∑ q : Fin 256, act P s t ⟨256 * j.val + q.val, by omega⟩ * P.Wd ⟨256 * j.val + q.val, by omega⟩ k

theorem sum_parts (s : Fin 8) (t : Fin 32) (k : Fin 1024) : ∑ d : Fin 2816, act P s t d * P.Wd d k = ∑ j : Fin 11, part P s t k j := by
  unfold part
  rw [← Fintype.sum_prod_type' (f := fun (j : Fin 11) (q : Fin 256) => act P s t ⟨256 * j.val + q.val, by omega⟩ * P.Wd ⟨256 * j.val + q.val, by omega⟩ k)]
  refine (Fintype.sum_equiv (finProdFinEquiv (m := 11) (n := 256)) _ _ fun x => ?_).symm
  have e : (⟨256 * x.1.val + x.2.val, by omega⟩ : Fin 2816) = finProdFinEquiv (m := 11) (n := 256) x := Fin.ext (show 256 * x.1.val + x.2.val = x.2.val + 256 * x.1.val by omega)
  exact congrArg (fun d => act P s t d * P.Wd d k) e

/-- The layer's result before the final norm. -/
def res (s : Fin 8) (t : Fin 32) (k : Fin 1024) : EReal := P.X (row s t) k + ∑ d, act P s t d * P.Wd d k

/-- The normed result. -/
def y (s : Fin 8) (t : Fin 32) (k : Fin 1024) : EReal := rms (res P s t) P.FG k

/-- The last eight rows of the up-projection of a sequence. -/
def last (s : Fin 8) (q : Fin 8) (c : Fin 5632) : EReal := up P (row s ⟨24 + q.val, by omega⟩) c

/-- The sum of the first `n` blocks' products. -/
def upTo (s : Fin 8) (t : Fin 32) (k : Fin 1024) (n : ℕ) : EReal := ∑ j : Fin 11, if j.val < n then part P s t k j else 0

theorem upTo_zero (s : Fin 8) (t : Fin 32) (k : Fin 1024) : upTo P s t k 0 = 0 := by
  unfold upTo
  exact Finset.sum_eq_zero fun j _ => if_neg (by omega)

theorem upTo_succ (s : Fin 8) (t : Fin 32) (k : Fin 1024) (j : Fin 11) : upTo P s t k (j.val + 1) = upTo P s t k j.val + part P s t k j := by
  unfold upTo
  rw [← Finset.sum_erase_add _ _ (Finset.mem_univ j), ← Finset.sum_erase_add (s := Finset.univ) (f := fun i : Fin 11 => if i.val < j.val then part P s t k i else 0) (h := Finset.mem_univ j)]
  rw [if_pos (by omega), if_neg (by omega), add_zero]
  congr 1
  refine Finset.sum_congr rfl fun i hi => ?_
  have hne : i.val ≠ j.val := fun h => Finset.ne_of_mem_erase hi (Fin.ext h)
  by_cases h : i.val < j.val
  · rw [if_pos h, if_pos (by omega)]
  · rw [if_neg h, if_neg (by omega)]

theorem upTo_all (s : Fin 8) (t : Fin 32) (k : Fin 1024) : upTo P s t k 11 = ∑ d, act P s t d * P.Wd d k := by
  rw [sum_parts]
  unfold upTo
  exact Finset.sum_congr rfl fun j _ => if_pos j.isLt

end Cert.StreamMath
end
-- ==== Proof.StreamTile.lean ====
module

public import proofs.«01_k».proof.Proof.StreamParts
public import proofs.«01_k».proof.Proof.StreamMath
public import Idealize.ShloMosaic.Lib.Pipeline.Value

@[expose] public section

set_option maxRecDepth 16384

noncomputable section

namespace Cert.StreamIdeal.Body

open Cert.StreamIdeal Cert.StreamIdeal.Gen Idealize.ShloMosaic Idealize.ShloMosaic.TcCoe Idealize.SL.Sem
open Cert.FfnMath (rms)

/-- The blocks that grid point `j` reads: all rows, and column block `j` of each half of the up-projection. -/
structure Reads (P : StreamMath.Args) (j : Fin 11) (x0 : Vec Ideal S256x1024 .f32) (x1 : Vec Ideal S1x1024 .f32) (x2 x3 : Vec Ideal S8x8x256 .f32) (x4 x5 : Vec Ideal S1x1024x256 .f32)
    (x6 x7 : Vec Ideal S1x3x256 .f32) (x8 x9 : Vec Ideal S1x1x256 .f32) (x10 : Vec Ideal S1x256x1024 .f32) (x11 : Vec Ideal S1x1024 .f32) : Prop where
  h0 : ∀ (r : Fin 256) (k : Fin 1024), x0 (ix2 r k) = P.X r k
  h1 : ∀ k : Fin 1024, x1 (ix2 0 k) = P.G k
  h2 : ∀ (s : Fin 8) (t : Fin 2) (q : Fin 256), x2 (ix3 s (⟨6 + t.val, by omega⟩ : Fin 8) q) = P.H s t ⟨256 * j.val + q.val, by omega⟩
  h3 : ∀ (s : Fin 8) (t : Fin 2) (q : Fin 256), x3 (ix3 s (⟨6 + t.val, by omega⟩ : Fin 8) q) = P.H s t ⟨2816 + (256 * j.val + q.val), by omega⟩
  h4 : ∀ (i : Fin 1024) (q : Fin 256), x4 (ix3 0 i q) = P.W i ⟨256 * j.val + q.val, by omega⟩
  h5 : ∀ (i : Fin 1024) (q : Fin 256), x5 (ix3 0 i q) = P.W i ⟨2816 + (256 * j.val + q.val), by omega⟩
  h6 : ∀ (n : Fin 3) (q : Fin 256), x6 (ix3 0 n q) = P.CW n ⟨256 * j.val + q.val, by omega⟩
  h7 : ∀ (n : Fin 3) (q : Fin 256), x7 (ix3 0 n q) = P.CW n ⟨2816 + (256 * j.val + q.val), by omega⟩
  h8 : ∀ q : Fin 256, x8 (ix3 0 0 q) = P.CB ⟨256 * j.val + q.val, by omega⟩
  h9 : ∀ q : Fin 256, x9 (ix3 0 0 q) = P.CB ⟨2816 + (256 * j.val + q.val), by omega⟩
  h10 : ∀ (q : Fin 256) (k : Fin 1024), x10 (ix3 0 q k) = P.Wd ⟨256 * j.val + q.val, by omega⟩ k
  h11 : ∀ k : Fin 1024, x11 (ix2 0 k) = P.FG k

/-- The rows kept are the normed rows. -/
def Normed (P : StreamMath.Args) (h : Vec Ideal S256x1024 .bf16) : Prop := ∀ (r : Fin 256) (k : Fin 1024), h (ix2 r k) = rms (P.X r) P.G k

/-- The sum kept holds the first `n` blocks' products. -/
def Summed (P : StreamMath.Args) (n : ℕ) (acc : Vec Ideal S256x1024 .f32) : Prop := ∀ (s : Fin 8) (t : Fin 32) (k : Fin 1024), acc (ix2 (StreamMath.row s t) k) = StreamMath.upTo P s t k n

variable {P : StreamMath.Args} {j : Fin 11} {x0 : Vec Ideal S256x1024 .f32} {x1 : Vec Ideal S1x1024 .f32} {x2 x3 : Vec Ideal S8x8x256 .f32} {x4 x5 : Vec Ideal S1x1024x256 .f32}
    {x6 x7 : Vec Ideal S1x3x256 .f32} {x8 x9 : Vec Ideal S1x1x256 .f32} {x10 : Vec Ideal S1x256x1024 .f32} {x11 : Vec Ideal S1x1024 .f32} {h : Vec Ideal S256x1024 .bf16} {acc : Vec Ideal S256x1024 .f32}

theorem normed_first (R : Reads P j x0 x1 x2 x3 x4 x5 x6 x7 x8 x9 x10 x11) : Normed P (k0_pay3 x0 x1) := by
  intro r k
  pointwise [k0_pay3]
  simp only [R.h0, R.h1, rms]

theorem summed_first : Summed P 0 (k0_pay4 (F := Ideal)) := by
  intro s t k
  rw [StreamMath.upTo_zero]
  pointwise [k0_pay4]

/-- One column block of the up-projection. -/
theorem up_at (hn : Normed P h) (w : Vec Ideal S1x1024x256 .f32) (f : Fin 256 → Fin 5632) (hw : ∀ (i : Fin 1024) (q : Fin 256), w (ix3 0 i q) = P.W i (f q)) (r : Fin 256) (q : Fin 256) :
    k0_pay7 w h (ix2 r q) = StreamMath.up P r (f q) := by
  pointwise [k0_pay7, k0_pay5]
  simp only [hn r, hw, StreamMath.up]

theorem own_at (a : FVec Ideal S256x256 .f32) (s : Fin 8) (t : Fin 32) (q : Fin 256) : own a s (ix2 t q) = a (ix2 (StreamMath.row s t) q) := by
  pointwise [own]

theorem hist_at (x : Vec Ideal S8x8x256 .f32) (s t : Fin 8) (q : Fin 256) : hist x s (ix2 t q) = x (ix3 s t q) := by
  have e1 : ∀ w : Vec Ideal S1x8x256 .f32, shapeCast S8x256 (shapeCast S8x256 w shapeCasts_S1x8x256_S8x256) shapeCasts_S8x256_S8x256 (ix2 t q) = w (ix3 0 t q) := fun w => by pointwise
  refine (e1 _).trans (congrArg x ?_)
  funext a; apply Fin.ext; fin_cases a
  · show s.val + 1 * 0 = s.val; omega
  · show 0 + 1 * t.val = t.val; omega
  · show 0 + 1 * q.val = q.val; omega

/-- A load `8 - d` rows back of the staged rows of a sequence reads the up-projection that many rows before. -/
theorem tap_at (x : Vec Ideal S8x8x256 .f32) (a : FVec Ideal S256x256 .f32) (f : Fin 256 → Fin 5632)
    (hx : ∀ (s : Fin 8) (t : Fin 2) (q : Fin 256), x (ix3 s (⟨6 + t.val, by omega⟩ : Fin 8) q) = P.H s t (f q))
    (ha : ∀ (r : Fin 256) (q : Fin 256), a (ix2 r q) = StreamMath.up P r (f q)) (d : ℕ) (hd : d ≤ 8) (hd6 : 6 ≤ d) (s : Fin 8) (t : Fin 32) (q : Fin 256) :
    tap d hd (hist x s) (own a s) (ix2 t q) = StreamMath.full P s ⟨d - 6 + t.val, by omega⟩ (f q) := by
  have ht := t.isLt
  unfold tap StreamMath.full
  by_cases h : 8 ≤ d + t.val
  · rw [dif_pos (show 8 ≤ d + ((ix2 t q : S32x256.Idx) 0).val from h), dif_pos (show 2 ≤ d - 6 + t.val by omega)]
    refine (own_at a s _ q).trans ((ha _ _).trans ?_)
    exact congrArg (fun r => StreamMath.up P (StreamMath.row s r) (f q)) (Fin.ext (show d + t.val - 8 = d - 6 + t.val - 2 by omega))
  · rw [dif_neg (show ¬ 8 ≤ d + ((ix2 t q : S32x256.Idx) 0).val from h), dif_neg (show ¬ 2 ≤ d - 6 + t.val by omega)]
    refine (hist_at x s _ q).trans (Eq.trans ?_ (hx s ⟨d - 6 + t.val, by omega⟩ q))
    exact congrArg (fun r => x (ix3 s r q)) (Fin.ext (show d + t.val = 6 + (d - 6 + t.val) by omega))

theorem conv_read (cw : Vec Ideal S1x3x256 .f32) (cb : Vec Ideal S1x1x256 .f32) (a b c : Vec Ideal S32x256 .f32) (t : Fin 32) (q : Fin 256) :
    k0_pay12 cw cb a b c (ix2 t q) = cb (ix3 0 0 q) + a (ix2 t q) * cw (ix3 0 2 q) + b (ix2 t q) * cw (ix3 0 1 q) + c (ix2 t q) * cw (ix3 0 0 q) := by
  pointwise [k0_pay12]

theorem conv_at (x : Vec Ideal S8x8x256 .f32) (a : FVec Ideal S256x256 .f32) (cw : Vec Ideal S1x3x256 .f32) (cb : Vec Ideal S1x1x256 .f32) (f : Fin 256 → Fin 5632)
    (hx : ∀ (s : Fin 8) (t : Fin 2) (q : Fin 256), x (ix3 s (⟨6 + t.val, by omega⟩ : Fin 8) q) = P.H s t (f q))
    (ha : ∀ (r : Fin 256) (q : Fin 256), a (ix2 r q) = StreamMath.up P r (f q)) (hw : ∀ (n : Fin 3) (q : Fin 256), cw (ix3 0 n q) = P.CW n (f q))
    (hb : ∀ q : Fin 256, cb (ix3 0 0 q) = P.CB (f q)) (s : Fin 8) (t : Fin 32) (q : Fin 256) :
    conv cw cb x a s (ix2 t q) = StreamMath.conv P s t (f q) := by
  unfold conv
  rw [conv_read, tap_at x a f hx ha 8 _ (by decide), tap_at x a f hx ha 7 _ (by decide), tap_at x a f hx ha 6 _ (by decide)]
  simp only [hw, hb]
  unfold StreamMath.conv
  have e : (⟨6 - 6 + t.val, by omega⟩ : Fin 34) = ⟨t.val, by omega⟩ := Fin.ext (show 6 - 6 + t.val = t.val by omega)
  rw [e]

theorem half_read (cw : Vec Ideal S1x3x256 .f32) (cb : Vec Ideal S1x1x256 .f32) (x : Vec Ideal S8x8x256 .f32) (a : FVec Ideal S256x256 .f32) (s : Fin 8) (t : Fin 32) (q : Fin 256) :
    half cw cb x a (ix2 (StreamMath.row s t) q) = conv cw cb x a s (ix2 t q) := by
  have ht := t.isLt
  have hs := s.isLt
  refine concatenate_ofFn_apply (s₁ := S32x256) (0 : Fin S256x256.rank) (N := 8) (fun n => conv cw cb x a n) concatenates_S32x256_S32x256_S32x256_S32x256_S32x256_S32x256_S32x256_S32x256_S256x256_d0 rfl 32 rfl (ix2 (StreamMath.row s t) q : S256x256.Idx) s
    (show (32 * s.val + t.val) / 32 = s.val by omega) (ix2 t q) (show t.val = (32 * s.val + t.val) % 32 by omega) (fun b hb => ?_)
  fin_cases b
  · exact absurd rfl hb
  · rfl

theorem half_at (x : Vec Ideal S8x8x256 .f32) (a : FVec Ideal S256x256 .f32) (cw : Vec Ideal S1x3x256 .f32) (cb : Vec Ideal S1x1x256 .f32) (f : Fin 256 → Fin 5632)
    (hx : ∀ (s : Fin 8) (t : Fin 2) (q : Fin 256), x (ix3 s (⟨6 + t.val, by omega⟩ : Fin 8) q) = P.H s t (f q))
    (ha : ∀ (r : Fin 256) (q : Fin 256), a (ix2 r q) = StreamMath.up P r (f q)) (hw : ∀ (n : Fin 3) (q : Fin 256), cw (ix3 0 n q) = P.CW n (f q))
    (hb : ∀ q : Fin 256, cb (ix3 0 0 q) = P.CB (f q)) (s : Fin 8) (t : Fin 32) (q : Fin 256) :
    half cw cb x a (ix2 (StreamMath.row s t) q) = StreamMath.conv P s t (f q) :=
  (half_read cw cb x a s t q).trans (conv_at x a cw cb f hx ha hw hb s t q)

theorem addOn_at (g v : FVec Ideal S256x256 .f32) (w : Vec Ideal S1x256x1024 .f32) (acc : Vec Ideal S256x1024 .f32) (r : Fin 256) (k : Fin 1024) :
    addOn g v w acc (ix2 r k) = acc (ix2 r k) + ∑ q : Fin 256, g (ix2 r q) * Ideal.logistic (g (ix2 r q)) * v (ix2 r q) * w (ix3 0 q k) := by
  pointwise [addOn, k0_pay1, k0_pay103]

/-- The sum a grid point leaves holds one block more. -/
theorem summed_next (R : Reads P j x0 x1 x2 x3 x4 x5 x6 x7 x8 x9 x10 x11) (hn : Normed P h) (ha : Summed P j.val acc) :
    Summed P (j.val + 1) (accBlk x2 x3 x4 x5 x6 x7 x8 x9 x10 h acc) := by
  intro s t k
  unfold accBlk
  rw [addOn_at, ha, StreamMath.upTo_succ]
  congr 1
  unfold StreamMath.part StreamMath.act
  refine Finset.sum_congr rfl fun q _ => ?_
  rw [half_at x2 (k0_pay7 x4 h) x6 x8 (fun q => ⟨256 * j.val + q.val, by omega⟩) R.h2 (up_at hn x4 _ R.h4) R.h6 R.h8,
    half_at x3 (k0_pay7 x5 h) x7 x9 (fun q => ⟨2816 + (256 * j.val + q.val), by omega⟩) R.h3 (up_at hn x5 _ R.h5) R.h7 R.h9, R.h10]

/-- The rows written at the end: the layer's. -/
theorem y_at (R : Reads P j x0 x1 x2 x3 x4 x5 x6 x7 x8 x9 x10 x11) (ha : Summed P 11 acc) (s : Fin 8) (t : Fin 32) (k : Fin 1024) :
    k0_pay2 x0 acc x11 (ix2 (StreamMath.row s t) k) = StreamMath.y P s t k := by
  pointwise [k0_pay2]
  simp only [ha s t, R.h0, R.h11, StreamMath.upTo_all]
  rfl

theorem endS_at (a : FVec Ideal S256x256 .f32) (s q : Fin 8) (k : Fin 256) : endS a s (ix3 0 q k) = a (ix2 (StreamMath.row s ⟨24 + q.val, by omega⟩) k) := by
  pointwise [endS]
  exact congrArg (fun r => a (ix2 r k)) (Fin.ext (show 32 * s.val + 24 + q.val = 32 * s.val + (24 + q.val) by omega))

/-- The gate's last rows a grid point writes. -/
theorem gate_at (R : Reads P j x0 x1 x2 x3 x4 x5 x6 x7 x8 x9 x10 x11) (hn : Normed P h) (s q : Fin 8) (k : Fin 256) :
    endBlk (k0_pay7 x4 h) (ix3 s q k) = StreamMath.last P s q ⟨256 * j.val + k.val, by omega⟩ :=
  (endS_at (k0_pay7 x4 h) s q k).trans (up_at hn x4 (fun q => ⟨256 * j.val + q.val, by omega⟩) R.h4 _ _)

/-- The value's last rows a grid point writes. -/
theorem val_at (R : Reads P j x0 x1 x2 x3 x4 x5 x6 x7 x8 x9 x10 x11) (hn : Normed P h) (s q : Fin 8) (k : Fin 256) :
    endBlk (k0_pay7 x5 h) (ix3 s q k) = StreamMath.last P s q ⟨2816 + (256 * j.val + k.val), by omega⟩ :=
  (endS_at (k0_pay7 x5 h) s q k).trans (up_at hn x5 (fun q => ⟨2816 + (256 * j.val + q.val), by omega⟩) R.h5 _ _)

theorem wg_at (R : Reads P j x0 x1 x2 x3 x4 x5 x6 x7 x8 x9 x10 x11) (i : Fin 1024) (k : Fin 256) : k0_pay6 x4 (ix3 0 i k) = P.W i ⟨256 * j.val + k.val, by omega⟩ := by
  pointwise [k0_pay6, k0_pay5]
  exact R.h4 i k

theorem wv_at (R : Reads P j x0 x1 x2 x3 x4 x5 x6 x7 x8 x9 x10 x11) (i : Fin 1024) (k : Fin 256) : k0_pay56 x5 (ix3 0 i k) = P.W i ⟨2816 + (256 * j.val + k.val), by omega⟩ := by
  pointwise [k0_pay56, k0_pay55]
  exact R.h5 i k

theorem wd_at (R : Reads P j x0 x1 x2 x3 x4 x5 x6 x7 x8 x9 x10 x11) (q : Fin 256) (k : Fin 1024) : k0_pay103 x10 (ix2 q k) = P.Wd ⟨256 * j.val + q.val, by omega⟩ k := by
  pointwise [k0_pay103]
  exact R.h10 q k

end Cert.StreamIdeal.Body

end
-- ==== Proof.StreamRefValue.lean ====
module

public import proofs.«01_k».proof.Proof.Gen.StreamRefIdeal.Read
public import proofs.«01_k».proof.Proof.StreamMath

@[expose] public section

set_option maxRecDepth 16384

noncomputable section

namespace Cert.StreamRefIdeal.Body

open Cert.StreamRefIdeal Cert.StreamRefIdeal.Gen Cert.StreamRefIdeal.Read Idealize.ShloMosaic Idealize.ShloMosaic.TcCoe Idealize.SL.Sem Cert.StreamMath
open Cert.FfnMath (rms)

variable (x0 : Vec Ideal S256x1024 .f32) (x1 : Vec Ideal S1024 .f32) (x2 : Vec Ideal S8x2x5632 .f32) (x3 : Vec Ideal S2x1024x5632 .f32) (x4 : Vec Ideal S2x3x5632 .f32)
  (x5 : Vec Ideal S2x5632 .f32) (x6 : Vec Ideal S2x2816x1024 .f32) (x7 : Vec Ideal S1024 .f32)

/-- The layer's arguments, read off eight arrays: the second layer's weights. -/
def argsOf : Args where
  X r k := x0 (ix2 r k)
  G k := x1 (ix1 k)
  H s t c := x2 (ix3 s t c)
  W i c := x3 (ix3 1 i c)
  CW j c := x4 (ix3 1 j c)
  CB c := x5 (ix2 1 c)
  Wd d k := x6 (ix3 1 d k)
  FG k := x7 (ix1 k)

theorem normed_at (r : Fin 256) (k : Fin 1024) : val_main_v14 x0 x1 (ix2 r k) = rms (fun k => x0 (ix2 r k)) (fun k => x1 (ix1 k)) k := by
  pointwise [val_main_v14, val_main_v13, val_main_v12, val_main_v11, val_main_v10, val_main_v9, val_main_v8, val_main_v7, val_main_v6, val_main_v5, val_main_v4, val_main_v3, val_main_v2, val_main_cst, val_main_cst_0, val_main_cst_1]
  rfl

theorem weights_at (i : Fin 1024) (c : Fin 5632) : val_main_v1 x3 (ix2 i c) = x3 (ix3 1 i c) := by
  pointwise [val_main_v1, val_main_v0]

theorem up_at (r : Fin 256) (c : Fin 5632) : val_main_v15 x0 x1 x3 (ix2 r c) = up (argsOf x0 x1 x2 x3 x4 x5 x6 x7) r c := by
  pointwise [val_main_v15]
  simp only [normed_at, weights_at]
  rfl

theorem seq_at (s : Fin 8) (t : Fin 32) (c : Fin 5632) : val_main_v16 x0 x1 x3 (ix3 s t c) = up (argsOf x0 x1 x2 x3 x4 x5 x6 x7) (row s t) c := by
  pointwise [val_main_v16]
  rw [up_at x0 x1 x2 x3 x4 x5 x6 x7]
  exact congrArg (fun r => up (argsOf x0 x1 x2 x3 x4 x5 x6 x7) r c) (Fin.ext (show s.val * 32 + t.val = 32 * s.val + t.val by omega))

theorem full_at (s : Fin 8) (t : Fin 34) (c : Fin 5632) : val_main_v17 x0 x1 x2 x3 (ix3 s t c) = full (argsOf x0 x1 x2 x3 x4 x5 x6 x7) s t c := by
  pointwise [val_main_v17]
  unfold full
  by_cases h : t.val < 2
  · rw [dif_pos h, dif_neg (by omega)]
    rfl
  · rw [dif_neg h, dif_pos (by omega), seq_at x0 x1 x2 x3 x4 x5 x6 x7]

theorem conv_at (s : Fin 8) (t : Fin 32) (c : Fin 5632) : val_main_v42 x0 x1 x2 x3 x4 x5 (ix3 s t c) = conv (argsOf x0 x1 x2 x3 x4 x5 x6 x7) s t c := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18]
  simp only [full_at x0 x1 x2 x3 x4 x5 x6 x7]
  show _ = x5 (ix2 1 c) + full _ s ⟨2 + t.val, by omega⟩ c * x4 (ix3 1 2 c) + full _ s ⟨1 + t.val, by omega⟩ c * x4 (ix3 1 1 c) + full _ s ⟨t.val, by omega⟩ c * x4 (ix3 1 0 c)
  abel

theorem act_at (s : Fin 8) (t : Fin 32) (d : Fin 2816) : val_main_v46 x0 x1 x2 x3 x4 x5 (ix3 s t d) = act (argsOf x0 x1 x2 x3 x4 x5 x6 x7) s t d := by
  pointwise [val_main_v46, val_main_v45, val_main_call0_v5, val_main_call0_v4, val_main_call0_v3, val_main_call0_v2, val_main_call0_v1, val_main_call0_v0, val_main_call0_cst, val_main_call0_cst_0, val_main_v44, val_main_v43]
  rw [conv_at x0 x1 x2 x3 x4 x5 x6 x7, conv_at x0 x1 x2 x3 x4 x5 x6 x7]
  rfl

theorem down_at (s : Fin 8) (t : Fin 32) (k : Fin 1024) : val_main_v49 x0 x1 x2 x3 x4 x5 x6 (ix3 s t k) = ∑ d, act (argsOf x0 x1 x2 x3 x4 x5 x6 x7) s t d * (argsOf x0 x1 x2 x3 x4 x5 x6 x7).Wd d k := by
  pointwise [val_main_v49, val_main_v48, val_main_v47]
  simp only [act_at x0 x1 x2 x3 x4 x5 x6 x7]
  rfl

theorem res_at (s : Fin 8) (t : Fin 32) (k : Fin 1024) : val_main_v54 x0 x1 x2 x3 x4 x5 x6 (ix2 (row s t) k) = res (argsOf x0 x1 x2 x3 x4 x5 x6 x7) s t k := by
  pointwise [val_main_v54, val_main_v50]
  rw [down_at x0 x1 x2 x3 x4 x5 x6 x7]
  have e1 : (⟨(32 * s.val + t.val) / 32, by omega⟩ : Fin 8) = s := Fin.ext (show (32 * s.val + t.val) / 32 = s.val by omega)
  have e2 : (⟨(32 * s.val + t.val) % 32, by omega⟩ : Fin 32) = t := Fin.ext (show (32 * s.val + t.val) % 32 = t.val by omega)
  rw [e1, e2]
  rfl

/-- The reference's normed result, read at an index. -/
theorem y_at (s : Fin 8) (t : Fin 32) (k : Fin 1024) : val_main_v67 x0 x1 x2 x3 x4 x5 x6 x7 (ix2 (row s t) k) = y (argsOf x0 x1 x2 x3 x4 x5 x6 x7) s t k := by
  pointwise [val_main_v67, val_main_v66, val_main_v65, val_main_v64, val_main_v63, val_main_v62, val_main_v61, val_main_v60, val_main_v59, val_main_v58, val_main_v57, val_main_v56, val_main_v55, val_main_cst_2, val_main_cst_3, val_main_cst_4]
  simp only [res_at x0 x1 x2 x3 x4 x5 x6 x7]
  rfl

theorem last_at (s q : Fin 8) (c : Fin 5632) : val_main_v51 x0 x1 x2 x3 (ix3 s q c) = last (argsOf x0 x1 x2 x3 x4 x5 x6 x7) s q c := by
  pointwise [val_main_v51]
  rw [full_at x0 x1 x2 x3 x4 x5 x6 x7]
  unfold full
  rw [dif_pos (show 2 ≤ 26 + q.val by omega)]
  exact congrArg (fun t => up (argsOf x0 x1 x2 x3 x4 x5 x6 x7) (row s t) c) (Fin.ext (show 26 + q.val - 2 = 24 + q.val by omega))

/-- The gate half of the reference's last rows, read at an index. -/
theorem gate_at (s q : Fin 8) (c : Fin 2816) : val_main_v52 x0 x1 x2 x3 (ix3 s q c) = last (argsOf x0 x1 x2 x3 x4 x5 x6 x7) s q ⟨c.val, by omega⟩ := by
  pointwise [val_main_v52]
  exact last_at x0 x1 x2 x3 x4 x5 x6 x7 s q _

/-- The value half of the reference's last rows, read at an index. -/
theorem val_at (s q : Fin 8) (c : Fin 2816) : val_main_v53 x0 x1 x2 x3 (ix3 s q c) = last (argsOf x0 x1 x2 x3 x4 x5 x6 x7) s q ⟨2816 + c.val, by omega⟩ := by
  pointwise [val_main_v53]
  exact last_at x0 x1 x2 x3 x4 x5 x6 x7 s q _

/-- The reference's packed gate weights, read at an index. -/
theorem wg_at (j : Fin 11) (i : Fin 1024) (k : Fin 256) : val_main_v71 x3 (ix3 j i k) = (argsOf x0 x1 x2 x3 x4 x5 x6 x7).W i ⟨256 * j.val + k.val, by omega⟩ := by
  pointwise [val_main_v71, val_main_v70, val_main_v69, val_main_v68]
  rw [weights_at]
  exact congrArg ((argsOf x0 x1 x2 x3 x4 x5 x6 x7).W i) (Fin.ext (show j.val * 256 + k.val = 256 * j.val + k.val by omega))

/-- The reference's packed value weights, read at an index. -/
theorem wv_at (j : Fin 11) (i : Fin 1024) (k : Fin 256) : val_main_v75 x3 (ix3 j i k) = (argsOf x0 x1 x2 x3 x4 x5 x6 x7).W i ⟨2816 + (256 * j.val + k.val), by omega⟩ := by
  pointwise [val_main_v75, val_main_v74, val_main_v73, val_main_v72]
  rw [weights_at]
  exact congrArg ((argsOf x0 x1 x2 x3 x4 x5 x6 x7).W i) (Fin.ext (show 2816 + (j.val * 256 + k.val) = 2816 + (256 * j.val + k.val) by omega))

/-- The reference's down-projection, read at an index. -/
theorem wd_at (d : Fin 2816) (k : Fin 1024) : val_main_v78 x6 (ix2 d k) = (argsOf x0 x1 x2 x3 x4 x5 x6 x7).Wd d k := by
  pointwise [val_main_v78, val_main_v77, val_main_v76]
  rfl

end Cert.StreamRefIdeal.Body
end
-- ==== Proof.StreamReads.lean ====
module

public import proofs.«01_k».proof.Proof.StreamOutsA
public import proofs.«01_k».proof.Proof.StreamOutsB
public import proofs.«01_k».proof.Proof.StreamOutsC
public import proofs.«01_k».proof.Proof.StreamSumA
public import proofs.«01_k».proof.Proof.StreamSumB
public import proofs.«01_k».proof.Proof.StreamSumC
public import proofs.«01_k».proof.Proof.StreamTile
public import proofs.«01_k».proof.Proof.StreamRefValue
public import Idealize.ShloMosaic.Lib.StableHlo.RunRead

@[expose] public section

set_option maxRecDepth 65536

noncomputable section

namespace Cert.StreamIdeal.Body

open Cert.StreamIdeal Cert.StreamIdeal.Gen Idealize.ShloMosaic Idealize.ShloMosaic.TcCoe Idealize.SL.Sem

variable (m : (ℓ : Loc nD τ sig) → Buf (Elt Ideal) ℓ) (c : Dev nD)

/-- The layer's arguments, read off the argument buffers. -/
def argsOf : StreamMath.Args :=
  StreamRefIdeal.Body.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem idx_all : ∀ t : Fin cfg0.N, win0_0.index t = ![0, 0] ∧ win0_1.index t = ![0, 0] ∧ win0_2.index t = ![0, 0, t.val] ∧ win0_3.index t = ![0, 0, 11 + t.val]
    ∧ win0_4.index t = ![1, 0, t.val] ∧ win0_5.index t = ![1, 0, 11 + t.val] ∧ win0_6.index t = ![1, 0, t.val] ∧ win0_7.index t = ![1, 0, 11 + t.val]
    ∧ win0_8.index t = ![1, 0, t.val] ∧ win0_9.index t = ![1, 0, 11 + t.val] ∧ win0_10.index t = ![1, t.val, 0] ∧ win0_11.index t = ![0, 0]
    ∧ win0_12.index t = ![0, 0] ∧ win0_13.index t = ![0, 0, t.val] ∧ win0_14.index t = ![0, 0, t.val] ∧ win0_15.index t = ![t.val, 0, 0] ∧ win0_16.index t = ![t.val, 0, 0] ∧ win0_17.index t = ![t.val, 0] :=
  (by decide +kernel : ∀ t : Fin grid0.N, _)

theorem lt11 (t : Fin cfg0.N) : t.val < 11 := t.isLt
/-- The block of a grid point. -/
abbrev blk (t : Fin cfg0.N) : Fin 11 := ⟨t.val, lt11 t⟩

/-! ## The blocks -/

set_option maxHeartbeats 4000000

theorem x_at (t : Fin cfg0.N) (r : Fin 256) (k : Fin 1024) : iblk m c 0 t (ix2 r k) = (argsOf m c).X r k := by
  show iblk m c 0 t (ix2 r k) = (m ((c.tc : Thread nD τ).loc main_arg0) : Vec Ideal S256x1024 .f32) (ix2 r k)
  blk_ext [iblk, V, idx_all t]
theorem w_gate_at (t : Fin cfg0.N) (i : Fin 1024) (q : Fin 256) : iblk m c 4 t (ix3 0 i q) = (argsOf m c).W i ⟨256 * (blk t).val + q.val, by omega⟩ := by
  have ht := lt11 t
  show iblk m c 4 t (ix3 0 i q) = (m ((c.tc : Thread nD τ).loc main_arg3) : Vec Ideal S2x1024x5632 .f32) (ix3 1 i (⟨256 * t.val + q.val, by omega⟩ : Fin 5632))
  blk_ext [iblk, V, idx_all t]
theorem w_val_at (t : Fin cfg0.N) (i : Fin 1024) (q : Fin 256) : iblk m c 5 t (ix3 0 i q) = (argsOf m c).W i ⟨2816 + (256 * (blk t).val + q.val), by omega⟩ := by
  have ht := lt11 t
  show iblk m c 5 t (ix3 0 i q) = (m ((c.tc : Thread nD τ).loc main_arg3) : Vec Ideal S2x1024x5632 .f32) (ix3 1 i (⟨2816 + (256 * t.val + q.val), by omega⟩ : Fin 5632))
  blk_ext [iblk, V, idx_all t]
theorem cw_gate_at (t : Fin cfg0.N) (n : Fin 3) (q : Fin 256) : iblk m c 6 t (ix3 0 n q) = (argsOf m c).CW n ⟨256 * (blk t).val + q.val, by omega⟩ := by
  have ht := lt11 t
  show iblk m c 6 t (ix3 0 n q) = (m ((c.tc : Thread nD τ).loc main_arg4) : Vec Ideal S2x3x5632 .f32) (ix3 1 n (⟨256 * t.val + q.val, by omega⟩ : Fin 5632))
  blk_ext [iblk, V, idx_all t]
theorem cw_val_at (t : Fin cfg0.N) (n : Fin 3) (q : Fin 256) : iblk m c 7 t (ix3 0 n q) = (argsOf m c).CW n ⟨2816 + (256 * (blk t).val + q.val), by omega⟩ := by
  have ht := lt11 t
  show iblk m c 7 t (ix3 0 n q) = (m ((c.tc : Thread nD τ).loc main_arg4) : Vec Ideal S2x3x5632 .f32) (ix3 1 n (⟨2816 + (256 * t.val + q.val), by omega⟩ : Fin 5632))
  blk_ext [iblk, V, idx_all t]
theorem w_down_at (t : Fin cfg0.N) (q : Fin 256) (k : Fin 1024) : iblk m c 10 t (ix3 0 q k) = (argsOf m c).Wd ⟨256 * (blk t).val + q.val, by omega⟩ k := by
  have ht := lt11 t
  show iblk m c 10 t (ix3 0 q k) = (m ((c.tc : Thread nD τ).loc main_arg6) : Vec Ideal S2x2816x1024 .f32) (ix3 1 (⟨256 * t.val + q.val, by omega⟩ : Fin 2816) k)
  blk_ext [iblk, V, idx_all t]

/-! The blocks of the host's arrays. -/

theorem hist_host : (V m c main_v0 : Vec Ideal S8x8x5632 .f32) = pad S8x8x5632 ![0, 6, 0] ![0, 0, 0] ![0, 0, 0] (m ((c.tc : Thread nD τ).loc main_arg2) : Vec Ideal S8x2x5632 .f32) (sitofp (F := Ideal) .f32 (constantI S_ 32 0#32)) pads_S8x2x5632_S8x8x5632_000_600_000 h_S_ := by
  unfold V
  after_reads_simp
  rfl
theorem bias_host : (V m c main_v1 : Vec Ideal S2x1x5632 .f32) = shapeCast S2x1x5632 (m ((c.tc : Thread nD τ).loc main_arg5) : Vec Ideal S2x5632 .f32) shapeCasts_S2x5632_S2x1x5632 := by
  unfold V
  after_reads_simp
  rfl
theorem final_gain_host : (V m c main_v2 : Vec Ideal S1x1024 .f32) = shapeCast S1x1024 (m ((c.tc : Thread nD τ).loc main_arg7) : Vec Ideal S1024 .f32) shapeCasts_S1024_S1x1024 := by
  unfold V
  after_reads_simp
  rfl
theorem gain_host : (V m c main_v3 : Vec Ideal S1x1024 .f32) = shapeCast S1x1024 (m ((c.tc : Thread nD τ).loc main_arg1) : Vec Ideal S1024 .f32) shapeCasts_S1024_S1x1024 := by
  unfold V
  after_reads_simp
  rfl

theorem g_at (t : Fin cfg0.N) (k : Fin 1024) : iblk m c 1 t (ix2 0 k) = (argsOf m c).G k := by
  have e : iblk m c 1 t (ix2 0 k) = (V m c main_v3 : Vec Ideal S1x1024 .f32) (ix2 0 k) := by blk_ext [iblk, idx_all t]
  rw [e, gain_host]
  show _ = (m ((c.tc : Thread nD τ).loc main_arg1) : Vec Ideal S1024 .f32) (ix1 k)
  generalize (m ((c.tc : Thread nD τ).loc main_arg1) : Vec Ideal S1024 .f32) = A
  pointwise
theorem fg_at (t : Fin cfg0.N) (k : Fin 1024) : iblk m c 11 t (ix2 0 k) = (argsOf m c).FG k := by
  have e : iblk m c 11 t (ix2 0 k) = (V m c main_v2 : Vec Ideal S1x1024 .f32) (ix2 0 k) := by blk_ext [iblk, idx_all t]
  rw [e, final_gain_host]
  show _ = (m ((c.tc : Thread nD τ).loc main_arg7) : Vec Ideal S1024 .f32) (ix1 k)
  generalize (m ((c.tc : Thread nD τ).loc main_arg7) : Vec Ideal S1024 .f32) = A
  pointwise
theorem bias_at (n : Fin 5632) : (V m c main_v1 : Vec Ideal S2x1x5632 .f32) (ix3 1 0 n) = (argsOf m c).CB n := by
  rw [bias_host]
  show _ = (m ((c.tc : Thread nD τ).loc main_arg5) : Vec Ideal S2x5632 .f32) (ix2 1 n)
  generalize (m ((c.tc : Thread nD τ).loc main_arg5) : Vec Ideal S2x5632 .f32) = A
  pointwise
theorem cb_gate_at (t : Fin cfg0.N) (q : Fin 256) : iblk m c 8 t (ix3 0 0 q) = (argsOf m c).CB ⟨256 * (blk t).val + q.val, by omega⟩ := by
  have ht := lt11 t
  rw [← bias_at]
  show _ = (V m c main_v1 : Vec Ideal S2x1x5632 .f32) (ix3 1 0 (⟨256 * t.val + q.val, by omega⟩ : Fin 5632))
  blk_ext [iblk, idx_all t]
theorem cb_val_at (t : Fin cfg0.N) (q : Fin 256) : iblk m c 9 t (ix3 0 0 q) = (argsOf m c).CB ⟨2816 + (256 * (blk t).val + q.val), by omega⟩ := by
  have ht := lt11 t
  rw [← bias_at]
  show _ = (V m c main_v1 : Vec Ideal S2x1x5632 .f32) (ix3 1 0 (⟨2816 + (256 * t.val + q.val), by omega⟩ : Fin 5632))
  blk_ext [iblk, idx_all t]
/-- A padded row under the six is the history's. -/
theorem pad_read (A : Vec Ideal S8x2x5632 .f32) (v : Vec Ideal S_ .f32) (s : Fin 8) (r : Fin 2) (n : Fin 5632) :
    pad S8x8x5632 ![0, 6, 0] ![0, 0, 0] ![0, 0, 0] A v pads_S8x2x5632_S8x8x5632_000_600_000 h_S_ (ix3 s (⟨6 + r.val, by omega⟩ : Fin 8) n) = A (ix3 s r n) := by
  pointwise
theorem hist_arr_at (s : Fin 8) (r : Fin 2) (n : Fin 5632) : (V m c main_v0 : Vec Ideal S8x8x5632 .f32) (ix3 s (⟨6 + r.val, by omega⟩ : Fin 8) n) = (argsOf m c).H s r n := by
  rw [hist_host]
  exact pad_read _ _ s r n
theorem hist_gate_at (t : Fin cfg0.N) (s : Fin 8) (r : Fin 2) (q : Fin 256) : iblk m c 2 t (ix3 s (⟨6 + r.val, by omega⟩ : Fin 8) q) = (argsOf m c).H s r ⟨256 * (blk t).val + q.val, by omega⟩ := by
  have ht := lt11 t
  rw [← hist_arr_at]
  show _ = (V m c main_v0 : Vec Ideal S8x8x5632 .f32) (ix3 s (⟨6 + r.val, by omega⟩ : Fin 8) (⟨256 * t.val + q.val, by omega⟩ : Fin 5632))
  blk_ext [iblk, idx_all t]
theorem hist_val_at (t : Fin cfg0.N) (s : Fin 8) (r : Fin 2) (q : Fin 256) : iblk m c 3 t (ix3 s (⟨6 + r.val, by omega⟩ : Fin 8) q) = (argsOf m c).H s r ⟨2816 + (256 * (blk t).val + q.val), by omega⟩ := by
  have ht := lt11 t
  rw [← hist_arr_at]
  show _ = (V m c main_v0 : Vec Ideal S8x8x5632 .f32) (ix3 s (⟨6 + r.val, by omega⟩ : Fin 8) (⟨2816 + (256 * t.val + q.val), by omega⟩ : Fin 5632))
  blk_ext [iblk, idx_all t]

/-- Every point reads its block. -/
theorem reads (t : Fin cfg0.N) : Reads (argsOf m c) (blk t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  h0 := x_at m c t
  h1 := g_at m c t
  h2 := hist_gate_at m c t
  h3 := hist_val_at m c t
  h4 := w_gate_at m c t
  h5 := w_val_at m c t
  h6 := cw_gate_at m c t
  h7 := cw_val_at m c t
  h8 := cb_gate_at m c t
  h9 := cb_val_at m c t
  h10 := w_down_at m c t
  h11 := fg_at m c t

end Cert.StreamIdeal.Body

end
-- ==== Proof.StreamArrays.lean ====
module

public import proofs.«01_k».proof.Proof.StreamReads

@[expose] public section

set_option maxRecDepth 65536

noncomputable section

namespace Cert.StreamIdeal.Body

open Cert.StreamIdeal Cert.StreamIdeal.Gen Idealize.ShloMosaic Idealize.ShloMosaic.TcCoe Idealize.SL.Sem

variable (m : (ℓ : Loc nD τ sig) → Buf (Elt Ideal) ℓ) (c : Dev nD)

set_option maxHeartbeats 4000000

/-- What the points leave: the normed rows, and the sum of the blocks so far. -/
theorem carried : ∀ (n : ℕ) (hn : n < cfg0.N), Normed (argsOf m c) (outsAt0 m c n hn).2.2.2.2.2.2.1 ∧ Summed (argsOf m c) (n + 1) (outsAt0 m c n hn).2.2.2.2.2.2.2 := by
  intro n
  induction n with
  | zero =>
    intro hn
    have e := outsAt0_A m c ⟨0, hn⟩ rfl (show ¬ 0 % 11 = 10 by decide)
    rw [show outsAt0 m c 0 hn = _ from e]
    dsimp only
    rw [sout_A_0, sout_A_1]
    have N := normed_first (reads m c ⟨0, hn⟩)
    exact ⟨N, summed_next (reads m c ⟨0, hn⟩) N summed_first⟩
  | succ n ih =>
    intro hn
    have hl : n + 1 < 11 := hn
    obtain ⟨N, S⟩ := ih (by omega)
    have h0 : ¬ (⟨n + 1, hn⟩ : Fin cfg0.N).val % 11 = 0 := by show ¬ (n + 1) % 11 = 0; omega
    by_cases h1 : (⟨n + 1, hn⟩ : Fin cfg0.N).val % 11 = 10
    · rw [show outsAt0 m c (n + 1) hn = _ from outsAt0_C m c ⟨n + 1, hn⟩ h0 h1]
      dsimp only
      rw [sout_C_1]
      exact ⟨N, summed_next (reads m c ⟨n + 1, hn⟩) N S⟩
    · rw [show outsAt0 m c (n + 1) hn = _ from outsAt0_B m c ⟨n + 1, hn⟩ h0 h1]
      dsimp only
      rw [sout_B_1]
      exact ⟨N, summed_next (reads m c ⟨n + 1, hn⟩) N S⟩

/-- The blocks a point writes. -/
theorem written (t : Fin cfg0.N) :
    (∀ (s q : Fin 8) (k : Fin 256), (outsAt0 m c t.val t.isLt).2.1 (ix3 s q k) = StreamMath.last (argsOf m c) s q ⟨256 * (blk t).val + k.val, by omega⟩)
    ∧ (∀ (s q : Fin 8) (k : Fin 256), (outsAt0 m c t.val t.isLt).2.2.1 (ix3 s q k) = StreamMath.last (argsOf m c) s q ⟨2816 + (256 * (blk t).val + k.val), by omega⟩)
    ∧ (outsAt0 m c t.val t.isLt).2.2.2.1 = k0_pay6 (iblk m c 4 t) ∧ (outsAt0 m c t.val t.isLt).2.2.2.2.1 = k0_pay56 (iblk m c 5 t)
    ∧ (outsAt0 m c t.val t.isLt).2.2.2.2.2.1 = k0_pay103 (iblk m c 10 t) := by
  by_cases h0 : t.val % 11 = 0
  · have h1 : ¬ t.val % 11 = 10 := by omega
    rw [outsAt0_A m c t h0 h1]
    dsimp only
    rw [out_A_13, out_A_14, out_A_15, out_A_16, out_A_17]
    have N := normed_first (reads m c t)
    exact ⟨gate_at (reads m c t) N, val_at (reads m c t) N, rfl, rfl, rfl⟩
  · have N := (carried m c (t.val - 1) (by have := t.isLt; omega)).1
    by_cases h1 : t.val % 11 = 10
    · rw [outsAt0_C m c t h0 h1]
      dsimp only
      rw [out_C_13, out_C_14, out_C_15, out_C_16, out_C_17]
      exact ⟨gate_at (reads m c t) N, val_at (reads m c t) N, rfl, rfl, rfl⟩
    · rw [outsAt0_B m c t h0 h1]
      dsimp only
      rw [out_B_13, out_B_14, out_B_15, out_B_16, out_B_17]
      exact ⟨gate_at (reads m c t) N, val_at (reads m c t) N, rfl, rfl, rfl⟩

/-- The result the last point writes. -/
theorem y_written (t : Fin cfg0.N) (h1 : t.val % 11 = 10) (s : Fin 8) (r : Fin 32) (k : Fin 1024) :
    (outsAt0 m c t.val t.isLt).1 (ix2 (StreamMath.row s r) k) = StreamMath.y (argsOf m c) s r k := by
  have ht := lt11 t
  have h0 : ¬ t.val % 11 = 0 := by omega
  obtain ⟨N, S⟩ := carried m c (t.val - 1) (by have := t.isLt; omega)
  rw [outsAt0_C m c t h0 h1]
  dsimp only
  rw [out_C_12]
  have e : t.val - 1 + 1 = (blk t).val := by show t.val - 1 + 1 = t.val; omega
  rw [e] at S
  have S' := summed_next (reads m c t) N S
  rw [show (blk t).val + 1 = 11 by show t.val + 1 = 11; omega] at S'
  exact y_at (reads m c t) S' s r k

/-! ## The arrays after the run -/

theorem final12 : (dats m 0 c).arrAt 12 cfg0.N = (fun i => StreamMath.y (argsOf m c) ⟨(i 0).val / 32, by have h : (i 0).val < 256 := (i 0).isLt; omega⟩ ⟨(i 0).val % 32, by omega⟩ (i 1) : Vec Ideal S256x1024 .f32) := by
  refine (dats m 0 c).arrAt_eq_of_covers 12 _ (by decide +kernel) fun t hf y => ?_
  blk_simp
  rw [after0_12]
  idx_vars y
  have h1 := (flush0_12 t).mp hf
  have e0 : ((View.whole main_v4_0).slice (win0_12.rect t)).emb (ix2 y0 y1) 0 = y0 := Fin.ext (by blk_simp [idx_all t])
  have e1 : ((View.whole main_v4_0).slice (win0_12.rect t)).emb (ix2 y0 y1) 1 = y1 := Fin.ext (by blk_simp [idx_all t])
  have h := y_written m c t h1 ⟨y0.val / 32, by omega⟩ ⟨y0.val % 32, by omega⟩ y1
  have er : StreamMath.row (⟨y0.val / 32, by omega⟩ : Fin 8) (⟨y0.val % 32, by omega⟩ : Fin 32) = y0 := Fin.ext (show 32 * (y0.val / 32) + y0.val % 32 = y0.val by omega)
  rw [er] at h
  refine h.trans ?_
  rw [e1]
  have i0 : win0_12.index t 0 = 0 := by simp [idx_all t]
  congr 1
  · exact Fin.ext (show y0.val / 32 = (win0_12.index t 0 * 256 + y0.val) / 32 by rw [i0]; omega)
  · exact Fin.ext (show y0.val % 32 = (win0_12.index t 0 * 256 + y0.val) % 32 by rw [i0]; omega)

theorem final13 : (dats m 0 c).arrAt 13 cfg0.N = (fun i => StreamMath.last (argsOf m c) (i 0) (i 1) ⟨(i 2).val, by have h : (i 2).val < 2816 := (i 2).isLt; omega⟩ : Vec Ideal S8x8x2816 .f32) := by
  refine (dats m 0 c).arrAt_eq_of_covers 13 _ (by decide +kernel) fun t hf y => ?_
  blk_simp
  rw [after0_13]
  idx_vars y
  have ht := lt11 t
  refine ((written m c t).1 y0 y1 y2).trans ?_
  have e0 : ((View.whole main_v4_1).slice (win0_13.rect t)).emb (ix3 y0 y1 y2) 0 = y0 := Fin.ext (by blk_simp [idx_all t])
  have e1 : ((View.whole main_v4_1).slice (win0_13.rect t)).emb (ix3 y0 y1 y2) 1 = y1 := Fin.ext (by blk_simp [idx_all t])
  have i2 : win0_13.index t 2 = t.val := by simp [idx_all t]
  rw [e0, e1]
  exact congrArg (StreamMath.last (argsOf m c) y0 y1) (Fin.ext (show 256 * t.val + y2.val = win0_13.index t 2 * 256 + y2.val by rw [i2]; omega))

theorem final14 : (dats m 0 c).arrAt 14 cfg0.N = (fun i => StreamMath.last (argsOf m c) (i 0) (i 1) ⟨2816 + (i 2).val, by have h : (i 2).val < 2816 := (i 2).isLt; omega⟩ : Vec Ideal S8x8x2816 .f32) := by
  refine (dats m 0 c).arrAt_eq_of_covers 14 _ (by decide +kernel) fun t hf y => ?_
  blk_simp
  rw [after0_14]
  idx_vars y
  have ht := lt11 t
  refine ((written m c t).2.1 y0 y1 y2).trans ?_
  have e0 : ((View.whole main_v4_2).slice (win0_14.rect t)).emb (ix3 y0 y1 y2) 0 = y0 := Fin.ext (by blk_simp [idx_all t])
  have e1 : ((View.whole main_v4_2).slice (win0_14.rect t)).emb (ix3 y0 y1 y2) 1 = y1 := Fin.ext (by blk_simp [idx_all t])
  have i2 : win0_14.index t 2 = t.val := by simp [idx_all t]
  rw [e0, e1]
  exact congrArg (StreamMath.last (argsOf m c) y0 y1) (Fin.ext (show 2816 + (256 * t.val + y2.val) = 2816 + (win0_14.index t 2 * 256 + y2.val) by rw [i2]; omega))

theorem final15 : (dats m 0 c).arrAt 15 cfg0.N = (fun i => (argsOf m c).W (i 1) ⟨256 * (i 0).val + (i 2).val, by have h : (i 0).val < 11 := (i 0).isLt; have h' : (i 2).val < 256 := (i 2).isLt; omega⟩ : Vec Ideal S11x1024x256 .bf16) := by
  refine (dats m 0 c).arrAt_eq_of_covers 15 _ (by decide +kernel) fun t hf y => ?_
  blk_simp
  rw [after0_15, (written m c t).2.2.1]
  idx_vars y
  obtain rfl : y0 = 0 := Subsingleton.elim _ _
  have ht := lt11 t
  refine (wg_at (reads m c t) y1 y2).trans ?_
  have i0 : win0_15.index t 0 = t.val := by simp [idx_all t]
  have i2 : win0_15.index t 2 = 0 := by simp [idx_all t]
  have e1 : ((View.whole main_v4_3).slice (win0_15.rect t)).emb (ix3 0 y1 y2) 1 = y1 := Fin.ext (by blk_simp [idx_all t])
  rw [e1]
  exact congrArg ((argsOf m c).W y1) (Fin.ext (show 256 * t.val + y2.val = 256 * win0_15.index t 0 + (win0_15.index t 2 * 256 + y2.val) by rw [i0, i2]; omega))

theorem final16 : (dats m 0 c).arrAt 16 cfg0.N = (fun i => (argsOf m c).W (i 1) ⟨2816 + (256 * (i 0).val + (i 2).val), by have h : (i 0).val < 11 := (i 0).isLt; have h' : (i 2).val < 256 := (i 2).isLt; omega⟩ : Vec Ideal S11x1024x256 .bf16) := by
  refine (dats m 0 c).arrAt_eq_of_covers 16 _ (by decide +kernel) fun t hf y => ?_
  blk_simp
  rw [after0_16, (written m c t).2.2.2.1]
  idx_vars y
  obtain rfl : y0 = 0 := Subsingleton.elim _ _
  have ht := lt11 t
  refine (wv_at (reads m c t) y1 y2).trans ?_
  have i0 : win0_16.index t 0 = t.val := by simp [idx_all t]
  have i2 : win0_16.index t 2 = 0 := by simp [idx_all t]
  have e1 : ((View.whole main_v4_4).slice (win0_16.rect t)).emb (ix3 0 y1 y2) 1 = y1 := Fin.ext (by blk_simp [idx_all t])
  rw [e1]
  exact congrArg ((argsOf m c).W y1) (Fin.ext (show 2816 + (256 * t.val + y2.val) = 2816 + (256 * win0_16.index t 0 + (win0_16.index t 2 * 256 + y2.val)) by rw [i0, i2]; omega))

theorem final17 : (dats m 0 c).arrAt 17 cfg0.N = (fun i => (argsOf m c).Wd (i 0) (i 1) : Vec Ideal S2816x1024 .bf16) := by
  refine (dats m 0 c).arrAt_eq_of_covers 17 _ (by decide +kernel) fun t hf y => ?_
  blk_simp
  rw [after0_17, (written m c t).2.2.2.2]
  idx_vars y
  have ht := lt11 t
  refine (wd_at (reads m c t) y0 y1).trans ?_
  have e0 : ((View.whole main_v4_5).slice (win0_17.rect t)).emb (ix2 y0 y1) 0 = (⟨256 * t.val + y0.val, by omega⟩ : Fin 2816) := Fin.ext (by refine Eq.trans (b := 256 * t.val + y0.val) ?_ rfl; blk_simp [idx_all t]; omega)
  have e1 : ((View.whole main_v4_5).slice (win0_17.rect t)).emb (ix2 y0 y1) 1 = y1 := Fin.ext (by blk_simp [idx_all t])
  rw [e0, e1]

end Cert.StreamIdeal.Body

end
-- ==== Proof.StreamClaims.lean ====
module

public import proofs.«01_k».proof.Defs
public import proofs.«01_k».proof.Proof.StreamArrays
public import proofs.«01_k».proof.Proof.Gen.Stream.Frame
public import proofs.«01_k».proof.Proof.Gen.StreamRefIdeal.Run

@[expose] public section

set_option maxRecDepth 16384
set_option maxHeartbeats 4000000

noncomputable section

namespace Cert.StreamClaims

open Idealize.ShloMosaic Idealize.ShloMosaic.TcCoe Idealize.SL.Sem Cert.StreamMath

/-- The bit-exact kernel runs, leaves its arguments and comes to rest. -/
theorem frame_p : Cert.quiescent_Stream := fun m ρ _ => Cert.Stream.Gen.frame m ρ

/-- The idealized kernel runs, leaves its arguments and comes to rest. -/
theorem frame_pi : Cert.quiescent_StreamIdeal := fun m ρ _ => Cert.StreamIdeal.Gen.frame m ρ

/-- The reference runs, leaves its arguments and comes to rest. -/
theorem frame_ri : Cert.quiescent_StreamRefIdeal := fun m ρ _ =>
  (θ_run Cert.StreamRefIdeal.defs _ _).mono (fun r h => ⟨fun c => (h c).2.2.2.2.2.2, Idealize.ShloMosaic.sem_eq_zero_of_no_sems (by decide) r.2⟩)
    (Cert.StreamRefIdeal.Value.run (F := Ideal) m ρ)

/-- The kernel's six results are the reference's. -/
theorem algebraic : Cert.algebraic_StreamIdeal_StreamRefIdeal := by
  intro m ρ m' ρ' _ hag
  refine ⟨fun c => (StreamIdeal.Gen.dats m 0 c).arrAt 12 StreamIdeal.cfg0.N, fun c => (StreamIdeal.Gen.dats m 0 c).arrAt 13 StreamIdeal.cfg0.N, fun c => (StreamIdeal.Gen.dats m 0 c).arrAt 14 StreamIdeal.cfg0.N,
    fun c => (StreamIdeal.Gen.dats m 0 c).arrAt 15 StreamIdeal.cfg0.N, fun c => (StreamIdeal.Gen.dats m 0 c).arrAt 16 StreamIdeal.cfg0.N, fun c => (StreamIdeal.Gen.dats m 0 c).arrAt 17 StreamIdeal.cfg0.N, ?_, ?_⟩
  · exact (θ_run _ _ _).mono (fun r h c => ⟨(h c).1 12,
      (h c).1 13,
      (h c).1 14,
      (h c).1 15,
      (h c).1 16,
      (h c).1 17,
      ((h c).1 0).trans (((StreamIdeal.Gen.dats m 0 c).arrAt_in 0 rfl _).trans ((StreamIdeal.Gen.A_eq m c 0).trans (StreamIdeal.Gen.V_main_arg0 m c))),
      ((h c).2 StreamIdeal.main_arg1 (Pipeline.mem_restRefs_of StreamIdeal.main_arg1 (by decide) (by decide))).trans (StreamIdeal.Gen.V_main_arg1 m c),
      ((h c).2 StreamIdeal.main_arg2 (Pipeline.mem_restRefs_of StreamIdeal.main_arg2 (by decide) (by decide))).trans (StreamIdeal.Gen.V_main_arg2 m c),
      ((h c).1 5).trans (((StreamIdeal.Gen.dats m 0 c).arrAt_in 5 rfl _).trans ((StreamIdeal.Gen.A_eq m c 5).trans (StreamIdeal.Gen.V_main_arg3 m c))),
      ((h c).1 7).trans (((StreamIdeal.Gen.dats m 0 c).arrAt_in 7 rfl _).trans ((StreamIdeal.Gen.A_eq m c 7).trans (StreamIdeal.Gen.V_main_arg4 m c))),
      ((h c).2 StreamIdeal.main_arg5 (Pipeline.mem_restRefs_of StreamIdeal.main_arg5 (by decide) (by decide))).trans (StreamIdeal.Gen.V_main_arg5 m c),
      ((h c).1 10).trans (((StreamIdeal.Gen.dats m 0 c).arrAt_in 10 rfl _).trans ((StreamIdeal.Gen.A_eq m c 10).trans (StreamIdeal.Gen.V_main_arg6 m c))),
      ((h c).2 StreamIdeal.main_arg7 (Pipeline.mem_restRefs_of StreamIdeal.main_arg7 (by decide) (by decide))).trans (StreamIdeal.Gen.V_main_arg7 m c)⟩)
      (StreamIdeal.Gen.run_main m ρ)
  · refine (θ_run _ _ _).mono (fun r h c => ?_) (Cert.StreamRefIdeal.Value.run (F := Ideal) m' ρ')
    obtain ⟨h0, h1, h2, h3, h4, h5, ha⟩ := h c
    obtain ⟨a0, a1, a2, a3, a4, a5, a6, a7⟩ := hag c
    refine ⟨h0.trans ?_, h1.trans ?_, h2.trans ?_, h3.trans ?_, h4.trans ?_, h5.trans ?_, ha⟩
    · refine (Cert.StreamRefIdeal.Read.val_main_v67_eq _ _).trans (Eq.trans ?_ (StreamIdeal.Body.final12 m c).symm)
      rw [a0, a1, a2, a3, a4, a5, a6, a7]
      funext i
      idx_vars i
      have hr : StreamMath.row (⟨i0.val / 32, by omega⟩ : Fin 8) (⟨i0.val % 32, by omega⟩ : Fin 32) = i0 := Fin.ext (show 32 * (i0.val / 32) + i0.val % 32 = i0.val by omega)
      have h := StreamRefIdeal.Body.y_at (m ((c.tc : Thread _ _).loc StreamIdeal.main_arg0)) (m ((c.tc : Thread _ _).loc StreamIdeal.main_arg1)) (m ((c.tc : Thread _ _).loc StreamIdeal.main_arg2)) (m ((c.tc : Thread _ _).loc StreamIdeal.main_arg3)) (m ((c.tc : Thread _ _).loc StreamIdeal.main_arg4)) (m ((c.tc : Thread _ _).loc StreamIdeal.main_arg5)) (m ((c.tc : Thread _ _).loc StreamIdeal.main_arg6)) (m ((c.tc : Thread _ _).loc StreamIdeal.main_arg7)) ⟨i0.val / 32, by omega⟩ ⟨i0.val % 32, by omega⟩ i1
      rw [hr] at h
      exact h
    · refine (Cert.StreamRefIdeal.Read.val_main_v52_eq _ _ _ _).trans (Eq.trans ?_ (StreamIdeal.Body.final13 m c).symm)
      rw [a0, a1, a2, a3]
      funext i
      idx_vars i
      exact StreamRefIdeal.Body.gate_at _ _ _ _ (m ((c.tc : Thread _ _).loc StreamIdeal.main_arg4)) (m ((c.tc : Thread _ _).loc StreamIdeal.main_arg5)) (m ((c.tc : Thread _ _).loc StreamIdeal.main_arg6)) (m ((c.tc : Thread _ _).loc StreamIdeal.main_arg7)) i0 i1 i2
    · refine (Cert.StreamRefIdeal.Read.val_main_v53_eq _ _ _ _).trans (Eq.trans ?_ (StreamIdeal.Body.final14 m c).symm)
      rw [a0, a1, a2, a3]
      funext i
      idx_vars i
      exact StreamRefIdeal.Body.val_at _ _ _ _ (m ((c.tc : Thread _ _).loc StreamIdeal.main_arg4)) (m ((c.tc : Thread _ _).loc StreamIdeal.main_arg5)) (m ((c.tc : Thread _ _).loc StreamIdeal.main_arg6)) (m ((c.tc : Thread _ _).loc StreamIdeal.main_arg7)) i0 i1 i2
    · refine (Cert.StreamRefIdeal.Read.val_main_v71_eq _).trans (Eq.trans ?_ (StreamIdeal.Body.final15 m c).symm)
      rw [a3]
      funext i
      idx_vars i
      exact StreamRefIdeal.Body.wg_at (m ((c.tc : Thread _ _).loc StreamIdeal.main_arg0)) (m ((c.tc : Thread _ _).loc StreamIdeal.main_arg1)) (m ((c.tc : Thread _ _).loc StreamIdeal.main_arg2)) _ (m ((c.tc : Thread _ _).loc StreamIdeal.main_arg4)) (m ((c.tc : Thread _ _).loc StreamIdeal.main_arg5)) (m ((c.tc : Thread _ _).loc StreamIdeal.main_arg6)) (m ((c.tc : Thread _ _).loc StreamIdeal.main_arg7)) i0 i1 i2
    · refine (Cert.StreamRefIdeal.Read.val_main_v75_eq _).trans (Eq.trans ?_ (StreamIdeal.Body.final16 m c).symm)
      rw [a3]
      funext i
      idx_vars i
      exact StreamRefIdeal.Body.wv_at (m ((c.tc : Thread _ _).loc StreamIdeal.main_arg0)) (m ((c.tc : Thread _ _).loc StreamIdeal.main_arg1)) (m ((c.tc : Thread _ _).loc StreamIdeal.main_arg2)) _ (m ((c.tc : Thread _ _).loc StreamIdeal.main_arg4)) (m ((c.tc : Thread _ _).loc StreamIdeal.main_arg5)) (m ((c.tc : Thread _ _).loc StreamIdeal.main_arg6)) (m ((c.tc : Thread _ _).loc StreamIdeal.main_arg7)) i0 i1 i2
    · refine (Cert.StreamRefIdeal.Read.val_main_v78_eq _).trans (Eq.trans ?_ (StreamIdeal.Body.final17 m c).symm)
      rw [a6]
      funext i
      idx_vars i
      exact StreamRefIdeal.Body.wd_at (m ((c.tc : Thread _ _).loc StreamIdeal.main_arg0)) (m ((c.tc : Thread _ _).loc StreamIdeal.main_arg1)) (m ((c.tc : Thread _ _).loc StreamIdeal.main_arg2)) (m ((c.tc : Thread _ _).loc StreamIdeal.main_arg3)) (m ((c.tc : Thread _ _).loc StreamIdeal.main_arg4)) (m ((c.tc : Thread _ _).loc StreamIdeal.main_arg5)) _ (m ((c.tc : Thread _ _).loc StreamIdeal.main_arg7)) i0 i1

end Cert.StreamClaims
end
-- ==== Proof.lean ====
/- The certificate: the claims' conjuncts, proved in the modules under `Proof/`, put together. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.Stream
public import proofs.«01_k».proof.Proof.Gen.Stream.Skeleton
public import proofs.«01_k».proof.Proof.Gen.Stream.Launch
public import proofs.«01_k».proof.Proof.Gen.Stream.Points
public import proofs.«01_k».proof.Proof.Gen.Stream.Frame
public import proofs.«01_k».proof.Proof.Gen.StreamIdeal
public import proofs.«01_k».proof.Proof.Gen.StreamIdeal.Skeleton
public import proofs.«01_k».proof.Proof.Gen.StreamIdeal.Launch
public import proofs.«01_k».proof.Proof.Gen.StreamIdeal.Points
public import proofs.«01_k».proof.Proof.Gen.StreamIdeal.Frame
public import proofs.«01_k».proof.Proof.Gen.StreamRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.QkvRefIdeal.Run
public import proofs.«01_k».proof.Proof.Gen.QkvRefIdeal.Read
public import proofs.«01_k».proof.Proof.Gen.GmlpRefIdeal.Run
public import proofs.«01_k».proof.Proof.Gen.GmlpRefIdeal.Read
public import proofs.«01_k».proof.Proof.Gen.StreamRefIdeal.Run
public import proofs.«01_k».proof.Proof.Gen.StreamRefIdeal.Read
public import proofs.«01_k».proof.Proof.FfnClaims
public import proofs.«01_k».proof.Proof.QkvClaims
public import proofs.«01_k».proof.Proof.GmlpClaims
public import proofs.«01_k».proof.Proof.StreamClaims
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Qkv.Gen.facts, Cert.QkvIdeal.Gen.facts, Cert.QkvRefIdeal.Gen.facts,
  Cert.Gmlp.Gen.facts, Cert.GmlpIdeal.Gen.facts, Cert.GmlpRefIdeal.Gen.facts,
  Cert.Stream.Gen.facts, Cert.StreamIdeal.Gen.facts, Cert.StreamRefIdeal.Gen.facts,
  Cert.FfnClaims.frame_p, Cert.FfnClaims.frame_pi, Cert.FfnClaims.frame_ri,
  Cert.QkvClaims.frame_p, Cert.QkvClaims.frame_pi, Cert.QkvClaims.frame_ri,
  Cert.GmlpClaims.frame_p, Cert.GmlpClaims.frame_pi, Cert.GmlpClaims.frame_ri,
  Cert.StreamClaims.frame_p, Cert.StreamClaims.frame_pi, Cert.StreamClaims.frame_ri,
  trivial, Cert.FfnClaims.algebraic, trivial, Cert.QkvClaims.algebraic, trivial, Cert.GmlpClaims.algebraic, trivial, Cert.StreamClaims.algebraic⟩

end Cert.Proof

end
